-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10)
      ∧ r.2.mem ((c.tc : Thread Cert.Kernel14.nD Cert.Kernel14.τ).loc Cert.Kernel14.main_arg11) = m ((c.tc : Thread Cert.Kernel14.nD Cert.Kernel14.τ).loc Cert.Kernel14.main_arg11))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v44) = v0 c
          ∧ r.2.mem ((c.tc : Thread Cert.Reference10Ideal.nD Cert.Reference10Ideal.τ).loc Cert.Reference10Ideal.main_v45) = v1 c
          ∧ r.2.mem ((c.tc : Thread Cert.Reference10Ideal.nD Cert.Reference10Ideal.τ).loc Cert.Reference10Ideal.main_v27) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v39) = v0 c
          ∧ r.2.mem ((c.tc : Thread Cert.Reference11Ideal.nD Cert.Reference11Ideal.τ).loc Cert.Reference11Ideal.main_v40) = v1 c
          ∧ r.2.mem ((c.tc : Thread Cert.Reference11Ideal.nD Cert.Reference11Ideal.τ).loc Cert.Reference11Ideal.main_v22) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)) (v4 : (c : Dev Cert.Kernel13Ideal.nD) → Buf (Elt Ideal) ((c.tc : Thread Cert.Kernel13Ideal.nD Cert.Kernel13Ideal.τ).loc Cert.Kernel13Ideal.main_v0_4)) (v5 : (c : Dev Cert.Kernel13Ideal.nD) → Buf (Elt Ideal) ((c.tc : Thread Cert.Kernel13Ideal.nD Cert.Kernel13Ideal.τ).loc Cert.Kernel13Ideal.main_v0_5)) (v6 : (c : Dev Cert.Kernel13Ideal.nD) → Buf (Elt Ideal) ((c.tc : Thread Cert.Kernel13Ideal.nD Cert.Kernel13Ideal.τ).loc Cert.Kernel13Ideal.main_v0_6)) (v7 : (c : Dev Cert.Kernel13Ideal.nD) → Buf (Elt Ideal) ((c.tc : Thread Cert.Kernel13Ideal.nD Cert.Kernel13Ideal.τ).loc Cert.Kernel13Ideal.main_v0_7)) (v8 : (c : Dev Cert.Kernel13Ideal.nD) → Buf (Elt Ideal) ((c.tc : Thread Cert.Kernel13Ideal.nD Cert.Kernel13Ideal.τ).loc Cert.Kernel13Ideal.main_v0_8)) (v9 : (c : Dev Cert.Kernel13Ideal.nD) → Buf (Elt Ideal) ((c.tc : Thread Cert.Kernel13Ideal.nD Cert.Kernel13Ideal.τ).loc Cert.Kernel13Ideal.main_v0_9)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_v0_4) = v4 c
          ∧ r.2.mem ((c.tc : Thread Cert.Kernel13Ideal.nD Cert.Kernel13Ideal.τ).loc Cert.Kernel13Ideal.main_v0_5) = v5 c
          ∧ r.2.mem ((c.tc : Thread Cert.Kernel13Ideal.nD Cert.Kernel13Ideal.τ).loc Cert.Kernel13Ideal.main_v0_6) = v6 c
          ∧ r.2.mem ((c.tc : Thread Cert.Kernel13Ideal.nD Cert.Kernel13Ideal.τ).loc Cert.Kernel13Ideal.main_v0_7) = v7 c
          ∧ r.2.mem ((c.tc : Thread Cert.Kernel13Ideal.nD Cert.Kernel13Ideal.τ).loc Cert.Kernel13Ideal.main_v0_8) = v8 c
          ∧ r.2.mem ((c.tc : Thread Cert.Kernel13Ideal.nD Cert.Kernel13Ideal.τ).loc Cert.Kernel13Ideal.main_v0_9) = v9 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v1) = v1 c
          ∧ r.2.mem ((c.tc : Thread Cert.Reference13Ideal.nD Cert.Reference13Ideal.τ).loc Cert.Reference13Ideal.main_v2) = v2 c
          ∧ r.2.mem ((c.tc : Thread Cert.Reference13Ideal.nD Cert.Reference13Ideal.τ).loc Cert.Reference13Ideal.main_v3) = v3 c
          ∧ r.2.mem ((c.tc : Thread Cert.Reference13Ideal.nD Cert.Reference13Ideal.τ).loc Cert.Reference13Ideal.main_v4) = v4 c
          ∧ r.2.mem ((c.tc : Thread Cert.Reference13Ideal.nD Cert.Reference13Ideal.τ).loc Cert.Reference13Ideal.main_v5) = v5 c
          ∧ r.2.mem ((c.tc : Thread Cert.Reference13Ideal.nD Cert.Reference13Ideal.τ).loc Cert.Reference13Ideal.main_v6) = v6 c
          ∧ r.2.mem ((c.tc : Thread Cert.Reference13Ideal.nD Cert.Reference13Ideal.τ).loc Cert.Reference13Ideal.main_v7) = v7 c
          ∧ r.2.mem ((c.tc : Thread Cert.Reference13Ideal.nD Cert.Reference13Ideal.τ).loc Cert.Reference13Ideal.main_v8) = v8 c
          ∧ r.2.mem ((c.tc : Thread Cert.Reference13Ideal.nD Cert.Reference13Ideal.τ).loc Cert.Reference13Ideal.main_v9) = v9 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)
      ∧ m' ((c.tc : Thread Cert.Reference14Ideal.nD Cert.Reference14Ideal.τ).loc Cert.Reference14Ideal.main_arg11) = m ((c.tc : Thread Cert.Kernel14Ideal.nD Cert.Kernel14Ideal.τ).loc Cert.Kernel14Ideal.main_arg11)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)) (v5 : (c : Dev Cert.Kernel14Ideal.nD) → Buf (Elt Ideal) ((c.tc : Thread Cert.Kernel14Ideal.nD Cert.Kernel14Ideal.τ).loc Cert.Kernel14Ideal.main_v0_5)) (v6 : (c : Dev Cert.Kernel14Ideal.nD) → Buf (Elt Ideal) ((c.tc : Thread Cert.Kernel14Ideal.nD Cert.Kernel14Ideal.τ).loc Cert.Kernel14Ideal.main_v0_6)) (v7 : (c : Dev Cert.Kernel14Ideal.nD) → Buf (Elt Ideal) ((c.tc : Thread Cert.Kernel14Ideal.nD Cert.Kernel14Ideal.τ).loc Cert.Kernel14Ideal.main_v0_7)) (v8 : (c : Dev Cert.Kernel14Ideal.nD) → Buf (Elt Ideal) ((c.tc : Thread Cert.Kernel14Ideal.nD Cert.Kernel14Ideal.τ).loc Cert.Kernel14Ideal.main_v0_8)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_v0_5) = v5 c
          ∧ r.2.mem ((c.tc : Thread Cert.Kernel14Ideal.nD Cert.Kernel14Ideal.τ).loc Cert.Kernel14Ideal.main_v0_6) = v6 c
          ∧ r.2.mem ((c.tc : Thread Cert.Kernel14Ideal.nD Cert.Kernel14Ideal.τ).loc Cert.Kernel14Ideal.main_v0_7) = v7 c
          ∧ r.2.mem ((c.tc : Thread Cert.Kernel14Ideal.nD Cert.Kernel14Ideal.τ).loc Cert.Kernel14Ideal.main_v0_8) = v8 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
          ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v47) = v1 c
          ∧ r.2.mem ((c.tc : Thread Cert.Reference14Ideal.nD Cert.Reference14Ideal.τ).loc Cert.Reference14Ideal.main_v71) = v2 c
          ∧ r.2.mem ((c.tc : Thread Cert.Reference14Ideal.nD Cert.Reference14Ideal.τ).loc Cert.Reference14Ideal.main_v4) = v3 c
          ∧ r.2.mem ((c.tc : Thread Cert.Reference14Ideal.nD Cert.Reference14Ideal.τ).loc Cert.Reference14Ideal.main_v28) = v4 c
          ∧ r.2.mem ((c.tc : Thread Cert.Reference14Ideal.nD Cert.Reference14Ideal.τ).loc Cert.Reference14Ideal.main_v52) = v5 c
          ∧ r.2.mem ((c.tc : Thread Cert.Reference14Ideal.nD Cert.Reference14Ideal.τ).loc Cert.Reference14Ideal.main_v10) = v6 c
          ∧ r.2.mem ((c.tc : Thread Cert.Reference14Ideal.nD Cert.Reference14Ideal.τ).loc Cert.Reference14Ideal.main_v34) = v7 c
          ∧ r.2.mem ((c.tc : Thread Cert.Reference14Ideal.nD Cert.Reference14Ideal.τ).loc Cert.Reference14Ideal.main_v58) = v8 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10)
          ∧ r.2.mem ((c.tc : Thread Cert.Reference14Ideal.nD Cert.Reference14Ideal.τ).loc Cert.Reference14Ideal.main_arg11) = m' ((c.tc : Thread Cert.Reference14Ideal.nD Cert.Reference14Ideal.τ).loc Cert.Reference14Ideal.main_arg11))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)) (v5 : (c : Dev Cert.Kernel15Ideal.nD) → Buf (Elt Ideal) ((c.tc : Thread Cert.Kernel15Ideal.nD Cert.Kernel15Ideal.τ).loc Cert.Kernel15Ideal.main_v0_5)) (v6 : (c : Dev Cert.Kernel15Ideal.nD) → Buf (Elt Ideal) ((c.tc : Thread Cert.Kernel15Ideal.nD Cert.Kernel15Ideal.τ).loc Cert.Kernel15Ideal.main_v0_6)) (v7 : (c : Dev Cert.Kernel15Ideal.nD) → Buf (Elt Ideal) ((c.tc : Thread Cert.Kernel15Ideal.nD Cert.Kernel15Ideal.τ).loc Cert.Kernel15Ideal.main_v0_7)) (v8 : (c : Dev Cert.Kernel15Ideal.nD) → Buf (Elt Ideal) ((c.tc : Thread Cert.Kernel15Ideal.nD Cert.Kernel15Ideal.τ).loc Cert.Kernel15Ideal.main_v0_8)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_v0_5) = v5 c
          ∧ r.2.mem ((c.tc : Thread Cert.Kernel15Ideal.nD Cert.Kernel15Ideal.τ).loc Cert.Kernel15Ideal.main_v0_6) = v6 c
          ∧ r.2.mem ((c.tc : Thread Cert.Kernel15Ideal.nD Cert.Kernel15Ideal.τ).loc Cert.Kernel15Ideal.main_v0_7) = v7 c
          ∧ r.2.mem ((c.tc : Thread Cert.Kernel15Ideal.nD Cert.Kernel15Ideal.τ).loc Cert.Kernel15Ideal.main_v0_8) = v8 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v47) = v1 c
          ∧ r.2.mem ((c.tc : Thread Cert.Reference15Ideal.nD Cert.Reference15Ideal.τ).loc Cert.Reference15Ideal.main_v71) = v2 c
          ∧ r.2.mem ((c.tc : Thread Cert.Reference15Ideal.nD Cert.Reference15Ideal.τ).loc Cert.Reference15Ideal.main_v4) = v3 c
          ∧ r.2.mem ((c.tc : Thread Cert.Reference15Ideal.nD Cert.Reference15Ideal.τ).loc Cert.Reference15Ideal.main_v28) = v4 c
          ∧ r.2.mem ((c.tc : Thread Cert.Reference15Ideal.nD Cert.Reference15Ideal.τ).loc Cert.Reference15Ideal.main_v52) = v5 c
          ∧ r.2.mem ((c.tc : Thread Cert.Reference15Ideal.nD Cert.Reference15Ideal.τ).loc Cert.Reference15Ideal.main_v10) = v6 c
          ∧ r.2.mem ((c.tc : Thread Cert.Reference15Ideal.nD Cert.Reference15Ideal.τ).loc Cert.Reference15Ideal.main_v34) = v7 c
          ∧ r.2.mem ((c.tc : Thread Cert.Reference15Ideal.nD Cert.Reference15Ideal.τ).loc Cert.Reference15Ideal.main_v58) = v8 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v15) = v0 c
          ∧ r.2.mem ((c.tc : Thread Cert.Reference17Ideal.nD Cert.Reference17Ideal.τ).loc Cert.Reference17Ideal.main_v14) = v1 c
          ∧ r.2.mem ((c.tc : Thread Cert.Reference17Ideal.nD Cert.Reference17Ideal.τ).loc Cert.Reference17Ideal.main_v16) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v26) = v1 c
          ∧ r.2.mem ((c.tc : Thread Cert.Reference18Ideal.nD Cert.Reference18Ideal.τ).loc Cert.Reference18Ideal.main_v7) = v2 c
          ∧ r.2.mem ((c.tc : Thread Cert.Reference18Ideal.nD Cert.Reference18Ideal.τ).loc Cert.Reference18Ideal.main_v13) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_v26) = v1 c
          ∧ r.2.mem ((c.tc : Thread Cert.Reference19Ideal.nD Cert.Reference19Ideal.τ).loc Cert.Reference19Ideal.main_v7) = v2 c
          ∧ r.2.mem ((c.tc : Thread Cert.Reference19Ideal.nD Cert.Reference19Ideal.τ).loc Cert.Reference19Ideal.main_v13) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_v26) = v1 c
          ∧ r.2.mem ((c.tc : Thread Cert.Reference20Ideal.nD Cert.Reference20Ideal.τ).loc Cert.Reference20Ideal.main_v7) = v2 c
          ∧ r.2.mem ((c.tc : Thread Cert.Reference20Ideal.nD Cert.Reference20Ideal.τ).loc Cert.Reference20Ideal.main_v13) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S2048x5632 : Shape := ⟨2, ![2048, 5632]⟩
abbrev S2048x2816 : Shape := ⟨2, ![2048, 2816]⟩
abbrev S3x2816 : Shape := ⟨2, ![3, 2816]⟩
abbrev S1x2816 : Shape := ⟨2, ![1, 2816]⟩
abbrev S_ : Shape := ⟨0, ![]⟩

class Facts : Prop where
  bitsLt_bf16_f32 : FTy.bits .bf16 < FTy.bits .f32
  slices_S2048x5632_S2048x2816_0_0 : S2048x5632.Slices ![0, 0] S2048x2816
  slices_S2048x5632_S2048x2816_0_2816 : S2048x5632.Slices ![0, 2816] S2048x2816
  bcast_S_S2048x2816 : S_.BroadcastsInDim S2048x2816 (![] : Fin 0 → Fin S2048x2816.rank)
  reducesTo_S2048x2816_S_d0_1 : S2048x2816.ReducesTo [0, 1] S_
  h_S_ : 0 < S_.numel

variable [Facts]

def fn {F : FTy → Type} [FloatOps F] (main_arg0 : FVec F S2048x5632 .bf16) (main_arg1 : FVec F S2048x2816 .bf16) (main_arg2 : FVec F S3x2816 .f32) (main_arg3 : FVec F S1x2816 .f32) : IVec S_ 1 :=
  let main_v0 : FVec F S2048x5632 .f32 := (extf .f32 · bitsLt_bf16_f32) main_arg0
  let main_v1 : FVec F S2048x2816 .f32 := (extractStridedSlice S2048x2816 ![0, 0] · slices_S2048x5632_S2048x2816_0_0) main_v0
  let main_v2 : FVec F S2048x2816 .f32 := (extractStridedSlice S2048x2816 ![0, 2816] · slices_S2048x5632_S2048x2816_0_2816) main_v0
  let main_v3 : FVec F S2048x2816 .f32 := Host.absf main_v2
  let main_cst : FVec F S_ .f32 := constant S_ .f32 0x7F800000#32
  let main_v4 : FVec F S2048x2816 .f32 := broadcastInDim S2048x2816 ![] bcast_S_S2048x2816 main_cst
  let main_v5 : IVec S2048x2816 1 := cmpf .olt main_v3 main_v4
  let main_c : IVec S_ 1 := constantI S_ 1 1#1
  let main_v6 : IVec S_ 1 := (fun x v => Host.reduce IntOp.andi x v reducesTo_S2048x2816_S_d0_1 h_S_) main_v5 main_c
  let main_v7 : FVec F S2048x2816 .f32 := (extf .f32 · bitsLt_bf16_f32) main_arg1
  let main_v8 : FVec F S2048x2816 .f32 := Host.absf main_v7
  let main_cst_0 : FVec F S_ .f32 := constant S_ .f32 0x7F800000#32
  let main_v9 : FVec F S2048x2816 .f32 := broadcastInDim S2048x2816 ![] bcast_S_S2048x2816 main_cst_0
  let main_v10 : IVec S2048x2816 1 := cmpf .olt main_v8 main_v9
  let main_c_1 : IVec S_ 1 := constantI S_ 1 1#1
  let main_v11 : IVec S_ 1 := (fun x v => Host.reduce IntOp.andi x v reducesTo_S2048x2816_S_d0_1 h_S_) main_v10 main_c_1
  let main_v12 : IVec S_ 1 := andi main_v6 main_v11
  main_v12
-- ==== Kernel.lean ====
abbrev S2048x5632 : Shape := ⟨2, ![2048, 5632]⟩
abbrev S2048x2816 : Shape := ⟨2, ![2048, 2816]⟩
abbrev S3x2816 : Shape := ⟨2, ![3, 2816]⟩
abbrev S1x2816 : Shape := ⟨2, ![1, 2816]⟩
abbrev S2x2048x2816 : Shape := ⟨3, ![2, 2048, 2816]⟩
abbrev S2048x256 : Shape := ⟨2, ![2048, 256]⟩
abbrev S3x256 : Shape := ⟨2, ![3, 256]⟩
abbrev S1x256 : Shape := ⟨2, ![1, 256]⟩
abbrev S2x2048x256 : Shape := ⟨3, ![2, 2048, 256]⟩
abbrev S2064x256 : Shape := ⟨2, ![2064, 256]⟩
abbrev S16x256 : Shape := ⟨2, ![16, 256]⟩
abbrev S256x256 : Shape := ⟨2, ![256, 256]⟩
abbrev S272x256 : Shape := ⟨2, ![272, 256]⟩
abbrev S1x2048x256 : Shape := ⟨3, ![1, 2048, 256]⟩
abbrev S1x256x256 : Shape := ⟨3, ![1, 256, 256]⟩
abbrev S256 : Shape := ⟨1, ![256]⟩

abbrev nBuf : Space → Nat
  | .hbm => 7
  | .vmem => 17
  | .smem => 0
  | _ => 0

abbrev bufTy : (tb : Table) → Fin (tcTables nBuf tb) → BufTy
  | .hbm, ⟨0, _⟩ => ⟨S2048x5632, .bf16⟩
  | .hbm, ⟨1, _⟩ => ⟨S2048x2816, .bf16⟩
  | .hbm, ⟨2, _⟩ => ⟨S3x2816, .f32⟩
  | .hbm, ⟨3, _⟩ => ⟨S1x2816, .f32⟩
  | .hbm, ⟨4, _⟩ => ⟨S2x2048x2816, .bf16⟩
  | .hbm, ⟨5, _⟩ => ⟨S3x2816, .f32⟩
  | .hbm, ⟨6, _⟩ => ⟨S1x2816, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S2x2048x256, .bf16⟩
  | .local _ .vmem, ⟨11, _⟩ => ⟨S2x2048x256, .bf16⟩
  | .local _ .vmem, ⟨12, _⟩ => ⟨S3x256, .f32⟩
  | .local _ .vmem, ⟨13, _⟩ => ⟨S3x256, .f32⟩
  | .local _ .vmem, ⟨14, _⟩ => ⟨S1x256, .f32⟩
  | .local _ .vmem, ⟨15, _⟩ => ⟨S1x256, .f32⟩
  | .local _ .vmem, ⟨16, _⟩ => ⟨S2064x256, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32 : BitVec 32 := 0#32
  let c8_i32 : BitVec 32 := 8#32
  let v5 : BitVec 32 := Scalar.addi c0_i32 c8_i32
  let c1_i32_1 : BitVec 32 := 1#32
  ⟨c0_i32, v5, c1_i32_1⟩
def k0_mult1 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c256_i32 : BitVec 32 := 256#32
  let v12 : BitVec 32 := Scalar.muli arg10 c256_i32
  v12
def k0_off1 (k0_t1 : Fin k0_t1_loop.trips) : Fin 2 → Nat :=
  let c0_i32 : BitVec 32 := 0#32
  let c1_i32_1 : BitVec 32 := 1#32
  let arg10 : BitVec 32 := Scf.iv c0_i32 c1_i32_1 k0_t1
  let c256_i32 : BitVec 32 := 256#32
  let v12 : BitVec 32 := Scalar.muli arg10 c256_i32
  let v13 : BitVec 32 := v12
  let v14 : Index := Scalar.indexCast v13
  let c0_14 : Index := 0#32
  ![v14.toNat, 0]
def k0_mult2 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c256_i32 : BitVec 32 := 256#32
  let v12 : BitVec 32 := Scalar.muli arg10 c256_i32
  let v13 : BitVec 32 := v12
  let c16_i32 : BitVec 32 := 16#32
  let v17 : BitVec 32 := Scalar.subi v13 c16_i32
  let c0_i32_15 : BitVec 32 := 0#32
  let v18 : BitVec 32 := Scalar.maxsi v17 c0_i32_15
  v18
def k0_off2 (k0_t1 : Fin k0_t1_loop.trips) : Fin 2 → Nat :=
  let c0_i32 : BitVec 32 := 0#32
  let c1_i32_1 : BitVec 32 := 1#32
  let arg10 : BitVec 32 := Scf.iv c0_i32 c1_i32_1 k0_t1
  let c256_i32 : BitVec 32 := 256#32
  let v12 : BitVec 32 := Scalar.muli arg10 c256_i32
  let v13 : BitVec 32 := v12
  let c16_i32 : BitVec 32 := 16#32
  let v17 : BitVec 32 := Scalar.subi v13 c16_i32
  let c0_i32_15 : BitVec 32 := 0#32
  let v18 : BitVec 32 := Scalar.maxsi v17 c0_i32_15
  let v19 : BitVec 32 := v18
  let v20 : Index := Scalar.indexCast v19
  let c0_16 : Index := 0#32
  ![v20.toNat, 0]
def k0_off3 (k0_t1 : Fin k0_t1_loop.trips) : Fin 3 → Nat :=
  let c1_i32 : BitVec 32 := 1#32
  let c0_i32 : BitVec 32 := 0#32
  let c1_i32_1 : BitVec 32 := 1#32
  let arg10 : BitVec 32 := Scf.iv c0_i32 c1_i32_1 k0_t1
  let c256_i32 : BitVec 32 := 256#32
  let v12 : BitVec 32 := Scalar.muli arg10 c256_i32
  let v13 : BitVec 32 := v12
  let v60 : Index := Scalar.indexCast v13
  let c0_i32_33 : BitVec 32 := 0#32
  ![1, v60.toNat, 0]
def k0_off4 (k0_t1 : Fin k0_t1_loop.trips) : Fin 2 → Nat :=
  let c0_i32 : BitVec 32 := 0#32
  let c1_i32_1 : BitVec 32 := 1#32
  let arg10 : BitVec 32 := Scf.iv c0_i32 c1_i32_1 k0_t1
  let c256_i32 : BitVec 32 := 256#32
  let v12 : BitVec 32 := Scalar.muli arg10 c256_i32
  let v13 : BitVec 32 := v12
  let v73 : Index := Scalar.indexCast v13
  let c0_38 : Index := 0#32
  ![v73.toNat, 0]
@[reducible] def k0_t2_loop : Scf.Loop 32 :=
  let c0_i32_10 : BitVec 32 := 0#32
  let c8_i32_11 : BitVec 32 := 8#32
  let v11 : BitVec 32 := Scalar.addi c0_i32_10 c8_i32_11
  let c1_i32_12 : BitVec 32 := 1#32
  ⟨c0_i32_10, v11, c1_i32_12⟩
def k0_mult3 (k0_t2 : Fin k0_t2_loop.trips) : BitVec 32 :=
  let c0_i32_10 : BitVec 32 := 0#32
  let c1_i32_12 : BitVec 32 := 1#32
  let arg10 : BitVec 32 := Scf.iv c0_i32_10 c1_i32_12 k0_t2
  let c256_i32 : BitVec 32 := 256#32
  let v12 : BitVec 32 := Scalar.muli arg10 c256_i32
  v12
def k0_off5 (k0_t2 : Fin k0_t2_loop.trips) : Fin 2 → Nat :=
  let c0_i32_10 : BitVec 32 := 0#32
  let c1_i32_12 : BitVec 32 := 1#32
  let arg10 : BitVec 32 := Scf.iv c0_i32_10 c1_i32_12 k0_t2
  let c256_i32 : BitVec 32 := 256#32
  let v12 : BitVec 32 := Scalar.muli arg10 c256_i32
  let v13 : BitVec 32 := v12
  let v14 : Index := Scalar.indexCast v13
  let c0_14 : Index := 0#32
  ![v14.toNat, 0]
def k0_off6 (k0_t2 : Fin k0_t2_loop.trips) : Fin 2 → Nat :=
  let c0_i32_10 : BitVec 32 := 0#32
  let c1_i32_12 : BitVec 32 := 1#32
  let arg10 : BitVec 32 := Scf.iv c0_i32_10 c1_i32_12 k0_t2
  let c256_i32 : BitVec 32 := 256#32
  let v12 : BitVec 32 := Scalar.muli arg10 c256_i32
  let v13 : BitVec 32 := v12
  let v35 : Index := Scalar.indexCast v13
  let c0_23 : Index := 0#32
  ![v35.toNat, 0]
def k0_off7 (k0_t2 : Fin k0_t2_loop.trips) : Fin 3 → Nat :=
  let c0_i32_9 : BitVec 32 := 0#32
  let c0_i32_10 : BitVec 32 := 0#32
  let c1_i32_12 : BitVec 32 := 1#32
  let arg10 : BitVec 32 := Scf.iv c0_i32_10 c1_i32_12 k0_t2
  let c256_i32 : BitVec 32 := 256#32
  let v12 : BitVec 32 := Scalar.muli arg10 c256_i32
  let v13 : BitVec 32 := v12
  let v35 : Index := Scalar.indexCast v13
  let c0_i32_22 : BitVec 32 := 0#32
  ![0, v35.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x5632 : Shape := ⟨2, ![2048, 5632]⟩
abbrev S2048x2816 : Shape := ⟨2, ![2048, 2816]⟩
abbrev S3x2816 : Shape := ⟨2, ![3, 2816]⟩
abbrev S1x2816 : Shape := ⟨2, ![1, 2816]⟩
abbrev S_ : Shape := ⟨0, ![]⟩
abbrev S2x2816 : Shape := ⟨2, ![2, 2816]⟩
abbrev S2050x2816 : Shape := ⟨2, ![2050, 2816]⟩
abbrev S2816 : Shape := ⟨1, ![2816]⟩
abbrev S1x2048x2816 : Shape := ⟨3, ![1, 2048, 2816]⟩
abbrev S2x2048x2816 : Shape := ⟨3, ![2, 2048, 2816]⟩

abbrev nBuf : Space → Nat
  | .hbm => 92
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2816, .bf16⟩
  | .hbm, ⟨2, _⟩ => ⟨S3x2816, .f32⟩
  | .hbm, ⟨3, _⟩ => ⟨S1x2816, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2x2816, .f32⟩
  | .hbm, ⟨9, _⟩ => ⟨S2050x2816, .f32⟩
  | .hbm, ⟨10, _⟩ => ⟨S_, .f32⟩
  | .hbm, ⟨11, _⟩ => ⟨S2x2816, .f32⟩
  | .hbm, ⟨12, _⟩ => ⟨S2048x2816, .f32⟩
  | .hbm, ⟨13, _⟩ => ⟨S1x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S1x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S1x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S_, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S_, .f32⟩
  | .hbm, ⟨50, _⟩ => ⟨S2816, .f32⟩
  | .hbm, ⟨51, _⟩ => ⟨S1x2816, .f32⟩
  | .hbm, ⟨52, _⟩ => ⟨S2048x2816, .f32⟩
  | .hbm, ⟨53, _⟩ => ⟨S_, .f32⟩
  | .hbm, ⟨54, _⟩ => ⟨S2816, .f32⟩
  | .hbm, ⟨55, _⟩ => ⟨S1x2816, .f32⟩
  | .hbm, ⟨56, _⟩ => ⟨S2048x2816, .f32⟩
  | .hbm, ⟨57, _⟩ => ⟨S2048x2816, .f32⟩
  | .hbm, ⟨58, _⟩ => ⟨S_, .f32⟩
  | .hbm, ⟨59, _⟩ => ⟨S3x2816, .f32⟩
  | .hbm, ⟨60, _⟩ => ⟨S_, .f32⟩
  | .hbm, ⟨61, _⟩ => ⟨S2050x2816, .f32⟩
  | .hbm, ⟨62, _⟩ => ⟨S2048x2816, .f32⟩
  | .hbm, ⟨63, _⟩ => ⟨S_, .f32⟩
  | .hbm, ⟨64, _⟩ => ⟨S2816, .f32⟩
  | .hbm, ⟨65, _⟩ => ⟨S1x2816, .f32⟩
  | .hbm, ⟨66, _⟩ => ⟨S2048x2816, .f32⟩
  | .hbm, ⟨67, _⟩ => ⟨S2048x2816, .f32⟩
  | .hbm, ⟨68, _⟩ => ⟨S_, .f32⟩
  | .hbm, ⟨69, _⟩ => ⟨S3x2816, .f32⟩
  | .hbm, ⟨70, _⟩ => ⟨S3x2816, .f32⟩
  | .hbm, ⟨71, _⟩ => ⟨S_, .f32⟩
  | .hbm, ⟨72, _⟩ => ⟨S2050x2816, .f32⟩
  | .hbm, ⟨73, _⟩ => ⟨S2050x2816, .f32⟩
  | .hbm, ⟨74, _⟩ => ⟨S2048x2816, .f32⟩
  | .hbm, ⟨75, _⟩ => ⟨S_, .f32⟩
  | .hbm, ⟨76, _⟩ => ⟨S2816, .f32⟩
  | .hbm, ⟨77, _⟩ => ⟨S1x2816, .f32⟩
  | .hbm, ⟨78, _⟩ => ⟨S2048x2816, .f32⟩
  | .hbm, ⟨79, _⟩ => ⟨S2048x2816, .f32⟩
  | .hbm, ⟨80, _⟩ => ⟨S_, .f32⟩
  | .hbm, ⟨81, _⟩ => ⟨S3x2816, .f32⟩
  | .hbm, ⟨82, _⟩ => ⟨S3x2816, .f32⟩
  | .hbm, ⟨83, _⟩ => ⟨S_, .f32⟩
  | .hbm, ⟨84, _⟩ => ⟨S2050x2816, .f32⟩
  | .hbm, ⟨85, _⟩ => ⟨S2050x2816, .f32⟩
  | .hbm, ⟨86, _⟩ => ⟨S2x2816, .f32⟩
  | .hbm, ⟨87, _⟩ => ⟨S2048x2816, .f32⟩
  | .hbm, ⟨88, _⟩ => ⟨S1x2048x2816, .f32⟩
  | .hbm, ⟨89, _⟩ => ⟨S1x2048x2816, .f32⟩
  | .hbm, ⟨90, _⟩ => ⟨S2x2048x2816, .f32⟩
  | .hbm, ⟨91, _⟩ => ⟨S2x2048x2816, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v22_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v22_1 : Ref sig .tc := ⟨.hbm, 39, rfl⟩
abbrev main_v22_0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v27 : Ref sig .tc := ⟨.hbm, 48, rfl⟩
abbrev main_cst_1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_2 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel2.lean ====
abbrev S2x2048x2816 : Shape := ⟨3, ![2, 2048, 2816]⟩
abbrev S2048x1024 : Shape := ⟨2, ![2048, 1024]⟩
abbrev S5632x1024 : Shape := ⟨2, ![5632, 1024]⟩
abbrev S1x2048x1408 : Shape := ⟨3, ![1, 2048, 1408]⟩
abbrev S1408x1024 : Shape := ⟨2, ![1408, 1024]⟩
abbrev S2048x1408 : Shape := ⟨2, ![2048, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2x2048x2816, .bf16⟩
  | .hbm, ⟨1, _⟩ => ⟨S2048x1024, .bf16⟩
  | .hbm, ⟨2, _⟩ => ⟨S5632x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2x2048x2816 : Shape := ⟨3, ![2, 2048, 2816]⟩
abbrev S2048x1024 : Shape := ⟨2, ![2048, 1024]⟩
abbrev S1x2048x2816 : Shape := ⟨3, ![1, 2048, 2816]⟩
abbrev S2048x2816 : Shape := ⟨2, ![2048, 2816]⟩
abbrev S2048x5632 : Shape := ⟨2, ![2048, 5632]⟩
abbrev S5632x1024 : Shape := ⟨2, ![5632, 1024]⟩
abbrev S1024x5632 : Shape := ⟨2, ![1024, 5632]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S2048x1024, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S2048x5632, .bf16⟩
  | .hbm, ⟨7, _⟩ => ⟨S2048x1024, .f32⟩
  | .hbm, ⟨8, _⟩ => ⟨S2048x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S5632x1024, .bf16⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel3.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x2816 : Shape := ⟨2, ![2048, 2816]⟩
abbrev S2048x1024 : Shape := ⟨2, ![2048, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x2816, .f32⟩
  | .hbm, ⟨3, _⟩ => ⟨S2048x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S2048x2560 : Shape := ⟨2, ![2048, 2560]⟩
abbrev S2048x1024 : Shape := ⟨2, ![2048, 1024]⟩
abbrev S2560x1024 : Shape := ⟨2, ![2560, 1024]⟩
abbrev S2048x1280 : Shape := ⟨2, ![2048, 1280]⟩
abbrev S1280x1024 : Shape := ⟨2, ![1280, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2560, .bf16⟩
  | .hbm, ⟨1, _⟩ => ⟨S2048x1024, .bf16⟩
  | .hbm, ⟨2, _⟩ => ⟨S2560x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S1280x1024, .bf16⟩
  | .local _ .vmem, ⟨4, _⟩ => ⟨S1280x1024, .bf16⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x2560 : Shape := ⟨2, ![2048, 2560]⟩
abbrev S2048x1024 : Shape := ⟨2, ![2048, 1024]⟩
abbrev S2560x1024 : Shape := ⟨2, ![2560, 1024]⟩
abbrev S1024x2560 : Shape := ⟨2, ![1024, 2560]⟩

abbrev nBuf : Space → Nat
  | .hbm => 8
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S2048x1024, .bf16⟩
  | .hbm, ⟨2, _⟩ => ⟨S2048x1024, .f32⟩
  | .hbm, ⟨3, _⟩ => ⟨S2048x2560, .f32⟩
  | .hbm, ⟨4, _⟩ => ⟨S2560x1024, .f32⟩
  | .hbm, ⟨5, _⟩ => ⟨S1024x2560, .f32⟩
  | .hbm, ⟨6, _⟩ => ⟨S2560x1024, .f32⟩
  | .hbm, ⟨7, _⟩ => ⟨S2560x1024, .bf16⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference5Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S2048x1024 : Shape := ⟨2, ![2048, 1024]⟩
abbrev S2816x1024 : Shape := ⟨2, ![2816, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S2816x1024 : Shape := ⟨2, ![2816, 1024]⟩
abbrev S2048x2816 : Shape := ⟨2, ![2048, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2816x1024, .f32⟩
  | .hbm, ⟨3, _⟩ => ⟨S2048x1024, .f32⟩
  | .hbm, ⟨4, _⟩ => ⟨S2048x2816, .f32⟩
  | .hbm, ⟨5, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1024x1024, .f32⟩
  | .hbm, ⟨3, _⟩ => ⟨S2048x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S2x2048x2816 : Shape := ⟨3, ![2, 2048, 2816]⟩
abbrev S5632x1024 : Shape := ⟨2, ![5632, 1024]⟩
abbrev S2048x1024 : Shape := ⟨2, ![2048, 1024]⟩
abbrev S1x1024 : Shape := ⟨2, ![1, 1024]⟩
abbrev S1x1024x1408 : Shape := ⟨3, ![1, 1024, 1408]⟩
abbrev S1408x1024 : Shape := ⟨2, ![1408, 1024]⟩
abbrev S1024x1024 : Shape := ⟨2, ![1024, 1024]⟩
abbrev S1024x1408 : Shape := ⟨2, ![1024, 1408]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S2x2048x2816, .bf16⟩
  | .hbm, ⟨1, _⟩ => ⟨S5632x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

@[reducible] def k0_t1_loop : Scf.Loop 32 :=
  let c0_i32_9 : BitVec 32 := 0#32
  let c8_i32 : BitVec 32 := 8#32
  let v14 : BitVec 32 := Scalar.addi c0_i32_9 c8_i32
  let c1_i32 : BitVec 32 := 1#32
  ⟨c0_i32_9, v14, c1_i32⟩
def k0_mult1 (k0_t1 : Fin k0_t1_loop.trips) : BitVec 32 :=
  let c0_i32_9 : BitVec 32 := 0#32
  let c1_i32 : BitVec 32 := 1#32
  let arg11 : BitVec 32 := Scf.iv c0_i32_9 c1_i32 k0_t1
  let c128_i32 : BitVec 32 := 128#32
  let v22 : BitVec 32 := Scalar.muli arg11 c128_i32
  v22
def k0_off1 (k0_t1 : Fin k0_t1_loop.trips) : Fin 2 → Nat :=
  let c0_i32_9 : BitVec 32 := 0#32
  let c1_i32 : BitVec 32 := 1#32
  let arg11 : BitVec 32 := Scf.iv c0_i32_9 c1_i32 k0_t1
  let c128_i32 : BitVec 32 := 128#32
  let v22 : BitVec 32 := Scalar.muli arg11 c128_i32
  let v23 : BitVec 32 := v22
  let v24 : Index := Scalar.indexCast v23
  let c0_15 : Index := 0#32
  ![v24.toNat, 0]
def k0_cond4 (i : grid0.Coords) : BitVec 1 :=
  let arg0 : BitVec 32 := BitVec.ofNat 32 (i 0).val
  let c0_i32_11 : BitVec 32 := 0#32
  let v16 : BitVec 1 := Scalar.cmpi .eq arg0 c0_i32_11
  let v17 : BitVec 32 := Scalar.extui v16
  let c0_i32_12 : BitVec 32 := 0#32
  let v18 : BitVec 1 := Scalar.cmpi .ne v17 c0_i32_12
  v18

def k0_cond5 (i : grid0.Coords) : BitVec 1 :=
  let arg0 : BitVec 32 := BitVec.ofNat 32 (i 0).val
  let c0_i32_13 : BitVec 32 := 0#32
  let v19 : BitVec 1 := Scalar.cmpi .sgt arg0 c0_i32_13
  let v20 : BitVec 32 := Scalar.extui v19
  let c0_i32_14 : BitVec 32 := 0#32
  let v21 : BitVec 1 := Scalar.cmpi .ne v20 c0_i32_14
  v21

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference10Ideal.lean ====
abbrev S2x2048x2816 : Shape := ⟨3, ![2, 2048, 2816]⟩
abbrev S5632x1024 : Shape := ⟨2, ![5632, 1024]⟩
abbrev S2048x1024 : Shape := ⟨2, ![2048, 1024]⟩
abbrev S1x1024 : Shape := ⟨2, ![1, 1024]⟩
abbrev S1x2048x2816 : Shape := ⟨3, ![1, 2048, 2816]⟩
abbrev S2048x2816 : Shape := ⟨2, ![2048, 2816]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1024x5632 : Shape := ⟨2, ![1024, 5632]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S5632x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x2048x2816, .bf16⟩
  | .hbm, ⟨6, _⟩ => ⟨S2048x2816, .bf16⟩
  | .hbm, ⟨7, _⟩ => ⟨S1x2048x2816, .bf16⟩
  | .hbm, ⟨8, _⟩ => ⟨S2048x2816, .bf16⟩
  | .hbm, ⟨9, _⟩ => ⟨S2048x5632, .bf16⟩
  | .hbm, ⟨10, _⟩ => ⟨S2048x5632, .f32⟩
  | .hbm, ⟨11, _⟩ => ⟨S5632x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S1024x5632, .f32⟩
  | .hbm, ⟨32, _⟩ => ⟨S2048x5632, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .bf16⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Kernel11.lean ====
abbrev S2048x2560 : Shape := ⟨2, ![2048, 2560]⟩
abbrev S2560x1024 : Shape := ⟨2, ![2560, 1024]⟩
abbrev S2048x1024 : Shape := ⟨2, ![2048, 1024]⟩
abbrev S1x1024 : Shape := ⟨2, ![1, 1024]⟩
abbrev S1024x1280 : Shape := ⟨2, ![1024, 1280]⟩
abbrev S1280x1024 : Shape := ⟨2, ![1280, 1024]⟩
abbrev S1024x1024 : Shape := ⟨2, ![1024, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S2048x2560, .bf16⟩
  | .hbm, ⟨1, _⟩ => ⟨S2560x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .local _ .vmem, ⟨0, _⟩ => ⟨S1024x1280, .bf16⟩
  | .local _ .vmem, ⟨1, _⟩ => ⟨S1024x1280, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

@[reducible] def k0_t1_loop : Scf.Loop 32 :=
  let c0_i32_8 : BitVec 32 := 0#32
  let c8_i32 : BitVec 32 := 8#32
  let v13 : BitVec 32 := Scalar.addi c0_i32_8 c8_i32
  let c1_i32_9 : BitVec 32 := 1#32
  ⟨c0_i32_8, v13, c1_i32_9⟩
def k0_mult1 (k0_t1 : Fin k0_t1_loop.trips) : BitVec 32 :=
  let c0_i32_8 : BitVec 32 := 0#32
  let c1_i32_9 : BitVec 32 := 1#32
  let arg11 : BitVec 32 := Scf.iv c0_i32_8 c1_i32_9 k0_t1
  let c128_i32 : BitVec 32 := 128#32
  let v21 : BitVec 32 := Scalar.muli arg11 c128_i32
  v21
def k0_off1 (k0_t1 : Fin k0_t1_loop.trips) : Fin 2 → Nat :=
  let c0_i32_8 : BitVec 32 := 0#32
  let c1_i32_9 : BitVec 32 := 1#32
  let arg11 : BitVec 32 := Scf.iv c0_i32_8 c1_i32_9 k0_t1
  let c128_i32 : BitVec 32 := 128#32
  let v21 : BitVec 32 := Scalar.muli arg11 c128_i32
  let v22 : BitVec 32 := v21
  let v23 : Index := Scalar.indexCast v22
  let c0_15 : Index := 0#32
  ![v23.toNat, 0]
def k0_cond4 (i : grid0.Coords) : BitVec 1 :=
  let arg0 : BitVec 32 := BitVec.ofNat 32 (i 0).val
  let c0_i32_11 : BitVec 32 := 0#32
  let v15 : BitVec 1 := Scalar.cmpi .eq arg0 c0_i32_11
  let v16 : BitVec 32 := Scalar.extui v15
  let c0_i32_12 : BitVec 32 := 0#32
  let v17 : BitVec 1 := Scalar.cmpi .ne v16 c0_i32_12
  v17

def k0_cond5 (i : grid0.Coords) : BitVec 1 :=
  let arg0 : BitVec 32 := BitVec.ofNat 32 (i 0).val
  let c0_i32_13 : BitVec 32 := 0#32
  let v18 : BitVec 1 := Scalar.cmpi .sgt arg0 c0_i32_13
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference11Ideal.lean ====
abbrev S2048x2560 : Shape := ⟨2, ![2048, 2560]⟩
abbrev S2560x1024 : Shape := ⟨2, ![2560, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x2560 : Shape := ⟨2, ![1024, 2560]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S2560x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x2560, .f32⟩
  | .hbm, ⟨6, _⟩ => ⟨S2560x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S1024x2560, .f32⟩
  | .hbm, ⟨27, _⟩ => ⟨S2048x2560, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .bf16⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel12.lean ====
abbrev S2048x1024 : Shape := ⟨2, ![2048, 1024]⟩
abbrev S1x1024 : Shape := ⟨2, ![1, 1024]⟩
abbrev S2560x1024 : Shape := ⟨2, ![2560, 1024]⟩
abbrev S2048x2560 : Shape := ⟨2, ![2048, 2560]⟩
abbrev S512x1024 : Shape := ⟨2, ![512, 1024]⟩
abbrev S2048x512 : Shape := ⟨2, ![2048, 512]⟩
abbrev S128x1024 : Shape := ⟨2, ![128, 1024]⟩
abbrev S128 : Shape := ⟨1, ![128]⟩
abbrev S128x1 : Shape := ⟨2, ![128, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2560x1024, .bf16⟩
  | .hbm, ⟨3, _⟩ => ⟨S2048x2560, .f32⟩
  | .hbm, ⟨4, _⟩ => ⟨S2048x1024, .bf16⟩
  | .local _ .vmem, ⟨0, _⟩ => ⟨S2048x1024, .f32⟩
  | .local _ .vmem, ⟨1, _⟩ => ⟨S1x1024, .f32⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | .local _ .vmem, ⟨6, _⟩ => ⟨S2048x1024, .bf16⟩
  | .local _ .vmem, ⟨7, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c16_i32 : BitVec 32 := 16#32
  let v7 : BitVec 32 := Scalar.addi c0_i32_6 c16_i32
  let c1_i32 : BitVec 32 := 1#32
  ⟨c0_i32_6, v7, c1_i32⟩
def k0_mult1 (k0_t1 : Fin k0_t1_loop.trips) : BitVec 32 :=
  let c0_i32_6 : BitVec 32 := 0#32
  let c1_i32 : BitVec 32 := 1#32
  let arg8 : BitVec 32 := Scf.iv c0_i32_6 c1_i32 k0_t1
  let c128_i32 : BitVec 32 := 128#32
  let v8 : BitVec 32 := Scalar.muli arg8 c128_i32
  v8
def k0_off1 (k0_t1 : Fin k0_t1_loop.trips) : Fin 2 → Nat :=
  let c0_i32_6 : BitVec 32 := 0#32
  let c1_i32 : BitVec 32 := 1#32
  let arg8 : BitVec 32 := Scf.iv c0_i32_6 c1_i32 k0_t1
  let c128_i32 : BitVec 32 := 128#32
  let v8 : BitVec 32 := Scalar.muli arg8 c128_i32
  let v9 : BitVec 32 := v8
  let v10 : Index := Scalar.indexCast v9
  let c0_8 : Index := 0#32
  ![v10.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference12Ideal.lean ====
abbrev S2048x1024 : Shape := ⟨2, ![2048, 1024]⟩
abbrev S1x1024 : Shape := ⟨2, ![1, 1024]⟩
abbrev S2560x1024 : Shape := ⟨2, ![2560, 1024]⟩
abbrev S_ : Shape := ⟨0, ![]⟩
abbrev S2048 : Shape := ⟨1, ![2048]⟩
abbrev S2048x1 : Shape := ⟨2, ![2048, 1]⟩
abbrev S1024x2560 : Shape := ⟨2, ![1024, 2560]⟩
abbrev S2048x2560 : Shape := ⟨2, ![2048, 2560]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2560x1024, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2560x1024, .f32⟩
  | .hbm, ⟨19, _⟩ => ⟨S1024x2560, .f32⟩
  | .hbm, ⟨20, _⟩ => ⟨S2048x2560, .f32⟩
  | .hbm, ⟨21, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel13.lean ====
abbrev S8x4x1024 : Shape := ⟨3, ![8, 4, 1024]⟩
abbrev S8x4x64 : Shape := ⟨3, ![8, 4, 64]⟩
abbrev S8x4x31x512 : Shape := ⟨4, ![8, 4, 31, 512]⟩
abbrev S8x4x512 : Shape := ⟨3, ![8, 4, 512]⟩
abbrev S8x4x3x2816 : Shape := ⟨4, ![8, 4, 3, 2816]⟩
abbrev S8x4x2816 : Shape := ⟨3, ![8, 4, 2816]⟩
abbrev S4x1024 : Shape := ⟨2, ![4, 1024]⟩
abbrev S4x64 : Shape := ⟨2, ![4, 64]⟩
abbrev S4x31x512 : Shape := ⟨3, ![4, 31, 512]⟩
abbrev S4x512 : Shape := ⟨2, ![4, 512]⟩
abbrev S4x3x2816 : Shape := ⟨3, ![4, 3, 2816]⟩
abbrev S4x2816 : Shape := ⟨2, ![4, 2816]⟩
abbrev S1x4x1024 : Shape := ⟨3, ![1, 4, 1024]⟩
abbrev S1x4x64 : Shape := ⟨3, ![1, 4, 64]⟩
abbrev S1x4x31x512 : Shape := ⟨4, ![1, 4, 31, 512]⟩
abbrev S1x4x512 : Shape := ⟨3, ![1, 4, 512]⟩
abbrev S1x4x3x2816 : Shape := ⟨4, ![1, 4, 3, 2816]⟩
abbrev S1x4x2816 : Shape := ⟨3, ![1, 4, 2816]⟩

abbrev nBuf : Space → Nat
  | .hbm => 20
  | .vmem => 20
  | .smem => 0
  | _ => 0

abbrev bufTy : (tb : Table) → Fin (tcTables nBuf tb) → BufTy
  | .hbm, ⟨0, _⟩ => ⟨S8x4x1024, .f32⟩
  | .hbm, ⟨1, _⟩ => ⟨S8x4x64, .f32⟩
  | .hbm, ⟨2, _⟩ => ⟨S8x4x64, .f32⟩
  | .hbm, ⟨3, _⟩ => ⟨S8x4x31x512, .f32⟩
  | .hbm, ⟨4, _⟩ => ⟨S8x4x512, .f32⟩
  | .hbm, ⟨5, _⟩ => ⟨S8x4x512, .f32⟩
  | .hbm, ⟨6, _⟩ => ⟨S8x4x512, .f32⟩
  | .hbm, ⟨7, _⟩ => ⟨S8x4x1024, .f32⟩
  | .hbm, ⟨8, _⟩ => ⟨S8x4x3x2816, .f32⟩
  | .hbm, ⟨9, _⟩ => ⟨S8x4x2816, .f32⟩
  | .hbm, ⟨10, _⟩ => ⟨S4x1024, .f32⟩
  | .hbm, ⟨11, _⟩ => ⟨S4x64, .f32⟩
  | .hbm, ⟨12, _⟩ => ⟨S4x64, .f32⟩
  | .hbm, ⟨13, _⟩ => ⟨S4x31x512, .f32⟩
  | .hbm, ⟨14, _⟩ => ⟨S4x512, .f32⟩
  | .hbm, ⟨15, _⟩ => ⟨S4x512, .f32⟩
  | .hbm, ⟨16, _⟩ => ⟨S4x512, .f32⟩
  | .hbm, ⟨17, _⟩ => ⟨S4x1024, .f32⟩
  | .hbm, ⟨18, _⟩ => ⟨S4x3x2816, .f32⟩
  | .hbm, ⟨19, _⟩ => ⟨S4x2816, .f32⟩
  | .local _ .vmem, ⟨0, _⟩ => ⟨S8x4x1024, .f32⟩
  | .local _ .vmem, ⟨1, _⟩ => ⟨S8x4x64, .f32⟩
  | .local _ .vmem, ⟨2, _⟩ => ⟨S8x4x64, .f32⟩
  | .local _ .vmem, ⟨3, _⟩ => ⟨S8x4x31x512, .f32⟩
  | .local _ .vmem, ⟨4, _⟩ => ⟨S8x4x512, .f32⟩
  | .local _ .vmem, ⟨5, _⟩ => ⟨S8x4x512, .f32⟩
  | .local _ .vmem, ⟨6, _⟩ => ⟨S8x4x512, .f32⟩
  | .local _ .vmem, ⟨7, _⟩ => ⟨S8x4x1024, .f32⟩
  | .local _ .vmem, ⟨8, _⟩ => ⟨S8x4x3x2816, .f32⟩
  | .local _ .vmem, ⟨9, _⟩ => ⟨S8x4x2816, .f32⟩
  | .local _ .vmem, ⟨10, _⟩ => ⟨S4x1024, .f32⟩
  | .local _ .vmem, ⟨11, _⟩ => ⟨S4x64, .f32⟩
  | .local _ .vmem, ⟨12, _⟩ => ⟨S4x64, .f32⟩
  | .local _ .vmem, ⟨13, _⟩ => ⟨S4x31x512, .f32⟩
  | .local _ .vmem, ⟨14, _⟩ => ⟨S4x512, .f32⟩
  | .local _ .vmem, ⟨15, _⟩ => ⟨S4x512, .f32⟩
  | .local _ .vmem, ⟨16, _⟩ => ⟨S4x512, .f32⟩
  | .local _ .vmem, ⟨17, _⟩ => ⟨S4x1024, .f32⟩
  | .local _ .vmem, ⟨18, _⟩ => ⟨S4x3x2816, .f32⟩
  | .local _ .vmem, ⟨19, _⟩ => ⟨S4x2816, .f32⟩
  | _, _ => ⟨S8x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S8x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4x31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x4x3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x4x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x31x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x3x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x2816 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Reference13Ideal.lean ====
abbrev S8x4x1024 : Shape := ⟨3, ![8, 4, 1024]⟩
abbrev S8x4x64 : Shape := ⟨3, ![8, 4, 64]⟩
abbrev S8x4x31x512 : Shape := ⟨4, ![8, 4, 31, 512]⟩
abbrev S8x4x512 : Shape := ⟨3, ![8, 4, 512]⟩
abbrev S8x4x3x2816 : Shape := ⟨4, ![8, 4, 3, 2816]⟩
abbrev S8x4x2816 : Shape := ⟨3, ![8, 4, 2816]⟩
abbrev S_ : Shape := ⟨0, ![]⟩
abbrev S4x1024 : Shape := ⟨2, ![4, 1024]⟩
abbrev S4x64 : Shape := ⟨2, ![4, 64]⟩
abbrev S4x31x512 : Shape := ⟨3, ![4, 31, 512]⟩
abbrev S4x512 : Shape := ⟨2, ![4, 512]⟩
abbrev S4x3x2816 : Shape := ⟨3, ![4, 3, 2816]⟩
abbrev S4x2816 : Shape := ⟨2, ![4, 2816]⟩

abbrev nBuf : Space → Nat
  | .hbm => 30
  | .vmem => 0
  | .smem => 0
  | _ => 0

abbrev bufTy : (tb : Table) → Fin (tcTables nBuf tb) → BufTy
  | .hbm, ⟨0, _⟩ => ⟨S8x4x1024, .f32⟩
  | .hbm, ⟨1, _⟩ => ⟨S8x4x64, .f32⟩
  | .hbm, ⟨2, _⟩ => ⟨S8x4x64, .f32⟩
  | .hbm, ⟨3, _⟩ => ⟨S8x4x31x512, .f32⟩
  | .hbm, ⟨4, _⟩ => ⟨S8x4x512, .f32⟩
  | .hbm, ⟨5, _⟩ => ⟨S8x4x512, .f32⟩
  | .hbm, ⟨6, _⟩ => ⟨S8x4x512, .f32⟩
  | .hbm, ⟨7, _⟩ => ⟨S8x4x1024, .f32⟩
  | .hbm, ⟨8, _⟩ => ⟨S8x4x3x2816, .f32⟩
  | .hbm, ⟨9, _⟩ => ⟨S8x4x2816, .f32⟩
  | .hbm, ⟨10, _⟩ => ⟨S_, .f32⟩
  | .hbm, ⟨11, _⟩ => ⟨S4x1024, .f32⟩
  | .hbm, ⟨12, _⟩ => ⟨S_, .f32⟩
  | .hbm, ⟨13, _⟩ => ⟨S4x64, .f32⟩
  | .hbm, ⟨14, _⟩ => ⟨S_, .f32⟩
  | .hbm, ⟨15, _⟩ => ⟨S4x64, .f32⟩
  | .hbm, ⟨16, _⟩ => ⟨S_, .f32⟩
  | .hbm, ⟨17, _⟩ => ⟨S4x31x512, .f32⟩
  | .hbm, ⟨18, _⟩ => ⟨S_, .f32⟩
  | .hbm, ⟨19, _⟩ => ⟨S4x512, .f32⟩
  | .hbm, ⟨20, _⟩ => ⟨S_, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S_, .f32⟩
  | .hbm, ⟨25, _⟩ => ⟨S4x1024, .f32⟩
  | .hbm, ⟨26, _⟩ => ⟨S_, .f32⟩
  | .hbm, ⟨27, _⟩ => ⟨S4x3x2816, .f32⟩
  | .hbm, ⟨28, _⟩ => ⟨S_, .f32⟩
  | .hbm, ⟨29, _⟩ => ⟨S4x2816, .f32⟩
  | _, _ => ⟨S8x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_cst_3 : Ref sig .tc := ⟨.hbm, 18, rfl⟩
abbrev main_v4 : Ref sig .tc := ⟨.hbm, 19, rfl⟩
abbrev main_cst_4 : Ref sig .tc := ⟨.hbm, 20, rfl⟩
abbrev main_v5 : Ref sig .tc := ⟨.hbm, 21, rfl⟩
abbrev main_cst_5 : Ref sig .tc := ⟨.hbm, 22, rfl⟩
abbrev main_v6 : Ref sig .tc := ⟨.hbm, 23, rfl⟩
abbrev main_cst_6 : Ref sig .tc := ⟨.hbm, 24, rfl⟩
abbrev main_v7 : Ref sig .tc := ⟨.hbm, 25, rfl⟩
abbrev main_cst_7 : Ref sig .tc := ⟨.hbm, 26, rfl⟩
abbrev main_v8 : Ref sig .tc := ⟨.hbm, 27, rfl⟩
abbrev main_cst_8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Kernel14.lean ====
abbrev S4x1024 : Shape := ⟨2, ![4, 1024]⟩
abbrev S4x64 : Shape := ⟨2, ![4, 64]⟩
abbrev S4x512 : Shape := ⟨2, ![4, 512]⟩

abbrev nBuf : Space → Nat
  | .hbm => 21
  | .vmem => 21
  | .smem => 0
  | _ => 0

abbrev bufTy : (tb : Table) → Fin (tcTables nBuf tb) → BufTy
  | .hbm, ⟨0, _⟩ => ⟨S4x1024, .f32⟩
  | .hbm, ⟨1, _⟩ => ⟨S4x64, .f32⟩
  | .hbm, ⟨2, _⟩ => ⟨S4x512, .f32⟩
  | .hbm, ⟨3, _⟩ => ⟨S4x1024, .f32⟩
  | .hbm, ⟨4, _⟩ => ⟨S4x64, .f32⟩
  | .hbm, ⟨5, _⟩ => ⟨S4x512, .f32⟩
  | .hbm, ⟨6, _⟩ => ⟨S4x1024, .f32⟩
  | .hbm, ⟨7, _⟩ => ⟨S4x64, .f32⟩
  | .hbm, ⟨8, _⟩ => ⟨S4x512, .f32⟩
  | .hbm, ⟨9, _⟩ => ⟨S4x1024, .f32⟩
  | .hbm, ⟨10, _⟩ => ⟨S4x64, .f32⟩
  | .hbm, ⟨11, _⟩ => ⟨S4x512, .f32⟩
  | .hbm, ⟨12, _⟩ => ⟨S4x1024, .f32⟩
  | .hbm, ⟨13, _⟩ => ⟨S4x64, .f32⟩
  | .hbm, ⟨14, _⟩ => ⟨S4x512, .f32⟩
  | .hbm, ⟨15, _⟩ => ⟨S4x1024, .f32⟩
  | .hbm, ⟨16, _⟩ => ⟨S4x64, .f32⟩
  | .hbm, ⟨17, _⟩ => ⟨S4x512, .f32⟩
  | .hbm, ⟨18, _⟩ => ⟨S4x1024, .f32⟩
  | .hbm, ⟨19, _⟩ => ⟨S4x64, .f32⟩
  | .hbm, ⟨20, _⟩ => ⟨S4x512, .f32⟩
  | .local _ .vmem, ⟨0, _⟩ => ⟨S4x1024, .f32⟩
  | .local _ .vmem, ⟨1, _⟩ => ⟨S4x64, .f32⟩
  | .local _ .vmem, ⟨2, _⟩ => ⟨S4x512, .f32⟩
  | .local _ .vmem, ⟨3, _⟩ => ⟨S4x1024, .f32⟩
  | .local _ .vmem, ⟨4, _⟩ => ⟨S4x64, .f32⟩
  | .local _ .vmem, ⟨5, _⟩ => ⟨S4x512, .f32⟩
  | .local _ .vmem, ⟨6, _⟩ => ⟨S4x1024, .f32⟩
  | .local _ .vmem, ⟨7, _⟩ => ⟨S4x64, .f32⟩
  | .local _ .vmem, ⟨8, _⟩ => ⟨S4x512, .f32⟩
  | .local _ .vmem, ⟨9, _⟩ => ⟨S4x1024, .f32⟩
  | .local _ .vmem, ⟨10, _⟩ => ⟨S4x64, .f32⟩
  | .local _ .vmem, ⟨11, _⟩ => ⟨S4x512, .f32⟩
  | .local _ .vmem, ⟨12, _⟩ => ⟨S4x1024, .f32⟩
  | .local _ .vmem, ⟨13, _⟩ => ⟨S4x64, .f32⟩
  | .local _ .vmem, ⟨14, _⟩ => ⟨S4x512, .f32⟩
  | .local _ .vmem, ⟨15, _⟩ => ⟨S4x1024, .f32⟩
  | .local _ .vmem, ⟨16, _⟩ => ⟨S4x64, .f32⟩
  | .local _ .vmem, ⟨17, _⟩ => ⟨S4x512, .f32⟩
  | .local _ .vmem, ⟨18, _⟩ => ⟨S4x1024, .f32⟩
  | .local _ .vmem, ⟨19, _⟩ => ⟨S4x64, .f32⟩
  | .local _ .vmem, ⟨20, _⟩ => ⟨S4x512, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference14Ideal.lean ====
abbrev S4x1024 : Shape := ⟨2, ![4, 1024]⟩
abbrev S4x64 : Shape := ⟨2, ![4, 64]⟩
abbrev S4x512 : Shape := ⟨2, ![4, 512]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x64, .f32⟩
  | .hbm, ⟨2, _⟩ => ⟨S4x512, .f32⟩
  | .hbm, ⟨3, _⟩ => ⟨S4x1024, .f32⟩
  | .hbm, ⟨4, _⟩ => ⟨S4x64, .f32⟩
  | .hbm, ⟨5, _⟩ => ⟨S4x512, .f32⟩
  | .hbm, ⟨6, _⟩ => ⟨S4x1024, .f32⟩
  | .hbm, ⟨7, _⟩ => ⟨S4x64, .f32⟩
  | .hbm, ⟨8, _⟩ => ⟨S4x512, .f32⟩
  | .hbm, ⟨9, _⟩ => ⟨S4x1024, .f32⟩
  | .hbm, ⟨10, _⟩ => ⟨S4x64, .f32⟩
  | .hbm, ⟨11, _⟩ => ⟨S4x512, .f32⟩
  | .hbm, ⟨12, _⟩ => ⟨S_, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S4x1024, .f32⟩
  | .hbm, ⟨23, _⟩ => ⟨S_, .f32⟩
  | .hbm, ⟨24, _⟩ => ⟨S4x1024, .f32⟩
  | .hbm, ⟨25, _⟩ => ⟨S4x1024, .f32⟩
  | .hbm, ⟨26, _⟩ => ⟨S4x1024, .f32⟩
  | .hbm, ⟨27, _⟩ => ⟨S_, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | .hbm, ⟨37, _⟩ => ⟨S4x1024, .f32⟩
  | .hbm, ⟨38, _⟩ => ⟨S_, .f32⟩
  | .hbm, ⟨39, _⟩ => ⟨S4x1024, .f32⟩
  | .hbm, ⟨40, _⟩ => ⟨S4x1024, .f32⟩
  | .hbm, ⟨41, _⟩ => ⟨S4x1024, .f32⟩
  | .hbm, ⟨42, _⟩ => ⟨S_, .f32⟩
  | .hbm, ⟨43, _⟩ => ⟨S4x1024, .f32⟩
  | .hbm, ⟨44, _⟩ => ⟨S4x1024, .f32⟩
  | .hbm, ⟨45, _⟩ => ⟨S_, .f32⟩
  | .hbm, ⟨46, _⟩ => ⟨S4x64, .f32⟩
  | .hbm, ⟨47, _⟩ => ⟨S4x64, .f32⟩
  | .hbm, ⟨48, _⟩ => ⟨S_, .f32⟩
  | .hbm, ⟨49, _⟩ => ⟨S4x64, .f32⟩
  | .hbm, ⟨50, _⟩ => ⟨S4x64, .f32⟩
  | .hbm, ⟨51, _⟩ => ⟨S4x64, .f32⟩
  | .hbm, ⟨52, _⟩ => ⟨S_, .f32⟩
  | .hbm, ⟨53, _⟩ => ⟨S4x64, .f32⟩
  | .hbm, ⟨54, _⟩ => ⟨S4x64, .f32⟩
  | .hbm, ⟨55, _⟩ => ⟨S4x64, .f32⟩
  | .hbm, ⟨56, _⟩ => ⟨S_, .f32⟩
  | .hbm, ⟨57, _⟩ => ⟨S4x64, .f32⟩
  | .hbm, ⟨58, _⟩ => ⟨S4x64, .f32⟩
  | .hbm, ⟨59, _⟩ => ⟨S4x64, .f32⟩
  | .hbm, ⟨60, _⟩ => ⟨S_, .f32⟩
  | .hbm, ⟨61, _⟩ => ⟨S4x64, .f32⟩
  | .hbm, ⟨62, _⟩ => ⟨S4x64, .f32⟩
  | .hbm, ⟨63, _⟩ => ⟨S_, .f32⟩
  | .hbm, ⟨64, _⟩ => ⟨S4x64, .f32⟩
  | .hbm, ⟨65, _⟩ => ⟨S4x64, .f32⟩
  | .hbm, ⟨66, _⟩ => ⟨S4x64, .f32⟩
  | .hbm, ⟨67, _⟩ => ⟨S_, .f32⟩
  | .hbm, ⟨68, _⟩ => ⟨S4x64, .f32⟩
  | .hbm, ⟨69, _⟩ => ⟨S4x64, .f32⟩
  | .hbm, ⟨70, _⟩ => ⟨S4x64, .f32⟩
  | .hbm, ⟨71, _⟩ => ⟨S_, .f32⟩
  | .hbm, ⟨72, _⟩ => ⟨S4x64, .f32⟩
  | .hbm, ⟨73, _⟩ => ⟨S4x64, .f32⟩
  | .hbm, ⟨74, _⟩ => ⟨S4x64, .f32⟩
  | .hbm, ⟨75, _⟩ => ⟨S_, .f32⟩
  | .hbm, ⟨76, _⟩ => ⟨S4x64, .f32⟩
  | .hbm, ⟨77, _⟩ => ⟨S4x64, .f32⟩
  | .hbm, ⟨78, _⟩ => ⟨S_, .f32⟩
  | .hbm, ⟨79, _⟩ => ⟨S4x512, .f32⟩
  | .hbm, ⟨80, _⟩ => ⟨S4x512, .f32⟩
  | .hbm, ⟨81, _⟩ => ⟨S_, .f32⟩
  | .hbm, ⟨82, _⟩ => ⟨S4x512, .f32⟩
  | .hbm, ⟨83, _⟩ => ⟨S4x512, .f32⟩
  | .hbm, ⟨84, _⟩ => ⟨S4x512, .f32⟩
  | .hbm, ⟨85, _⟩ => ⟨S_, .f32⟩
  | .hbm, ⟨86, _⟩ => ⟨S4x512, .f32⟩
  | .hbm, ⟨87, _⟩ => ⟨S4x512, .f32⟩
  | .hbm, ⟨88, _⟩ => ⟨S4x512, .f32⟩
  | .hbm, ⟨89, _⟩ => ⟨S_, .f32⟩
  | .hbm, ⟨90, _⟩ => ⟨S4x512, .f32⟩
  | .hbm, ⟨91, _⟩ => ⟨S4x512, .f32⟩
  | .hbm, ⟨92, _⟩ => ⟨S4x512, .f32⟩
  | .hbm, ⟨93, _⟩ => ⟨S_, .f32⟩
  | .hbm, ⟨94, _⟩ => ⟨S4x512, .f32⟩
  | .hbm, ⟨95, _⟩ => ⟨S4x512, .f32⟩
  | .hbm, ⟨96, _⟩ => ⟨S_, .f32⟩
  | .hbm, ⟨97, _⟩ => ⟨S4x512, .f32⟩
  | .hbm, ⟨98, _⟩ => ⟨S4x512, .f32⟩
  | .hbm, ⟨99, _⟩ => ⟨S4x512, .f32⟩
  | .hbm, ⟨100, _⟩ => ⟨S_, .f32⟩
  | .hbm, ⟨101, _⟩ => ⟨S4x512, .f32⟩
  | .hbm, ⟨102, _⟩ => ⟨S4x512, .f32⟩
  | .hbm, ⟨103, _⟩ => ⟨S4x512, .f32⟩
  | .hbm, ⟨104, _⟩ => ⟨S_, .f32⟩
  | .hbm, ⟨105, _⟩ => ⟨S4x512, .f32⟩
  | .hbm, ⟨106, _⟩ => ⟨S4x512, .f32⟩
  | .hbm, ⟨107, _⟩ => ⟨S4x512, .f32⟩
  | .hbm, ⟨108, _⟩ => ⟨S_, .f32⟩
  | .hbm, ⟨109, _⟩ => ⟨S4x512, .f32⟩
  | .hbm, ⟨110, _⟩ => ⟨S4x512, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel15.lean ====
abbrev S4x31x64 : Shape := ⟨3, ![4, 31, 64]⟩
abbrev S4x3x352 : Shape := ⟨3, ![4, 3, 352]⟩
abbrev S4x2816 : Shape := ⟨2, ![4, 2816]⟩

abbrev nBuf : Space → Nat
  | .hbm => 21
  | .vmem => 21
  | .smem => 0
  | _ => 0

abbrev bufTy : (tb : Table) → Fin (tcTables nBuf tb) → BufTy
  | .hbm, ⟨0, _⟩ => ⟨S4x31x64, .f32⟩
  | .hbm, ⟨1, _⟩ => ⟨S4x3x352, .f32⟩
  | .hbm, ⟨2, _⟩ => ⟨S4x2816, .f32⟩
  | .hbm, ⟨3, _⟩ => ⟨S4x31x64, .f32⟩
  | .hbm, ⟨4, _⟩ => ⟨S4x3x352, .f32⟩
  | .hbm, ⟨5, _⟩ => ⟨S4x2816, .f32⟩
  | .hbm, ⟨6, _⟩ => ⟨S4x31x64, .f32⟩
  | .hbm, ⟨7, _⟩ => ⟨S4x3x352, .f32⟩
  | .hbm, ⟨8, _⟩ => ⟨S4x2816, .f32⟩
  | .hbm, ⟨9, _⟩ => ⟨S4x31x64, .f32⟩
  | .hbm, ⟨10, _⟩ => ⟨S4x3x352, .f32⟩
  | .hbm, ⟨11, _⟩ => ⟨S4x2816, .f32⟩
  | .hbm, ⟨12, _⟩ => ⟨S4x31x64, .f32⟩
  | .hbm, ⟨13, _⟩ => ⟨S4x3x352, .f32⟩
  | .hbm, ⟨14, _⟩ => ⟨S4x2816, .f32⟩
  | .hbm, ⟨15, _⟩ => ⟨S4x31x64, .f32⟩
  | .hbm, ⟨16, _⟩ => ⟨S4x3x352, .f32⟩
  | .hbm, ⟨17, _⟩ => ⟨S4x2816, .f32⟩
  | .hbm, ⟨18, _⟩ => ⟨S4x31x64, .f32⟩
  | .hbm, ⟨19, _⟩ => ⟨S4x3x352, .f32⟩
  | .hbm, ⟨20, _⟩ => ⟨S4x2816, .f32⟩
  | .local _ .vmem, ⟨0, _⟩ => ⟨S4x31x64, .f32⟩
  | .local _ .vmem, ⟨1, _⟩ => ⟨S4x3x352, .f32⟩
  | .local _ .vmem, ⟨2, _⟩ => ⟨S4x2816, .f32⟩
  | .local _ .vmem, ⟨3, _⟩ => ⟨S4x31x64, .f32⟩
  | .local _ .vmem, ⟨4, _⟩ => ⟨S4x3x352, .f32⟩
  | .local _ .vmem, ⟨5, _⟩ => ⟨S4x2816, .f32⟩
  | .local _ .vmem, ⟨6, _⟩ => ⟨S4x31x64, .f32⟩
  | .local _ .vmem, ⟨7, _⟩ => ⟨S4x3x352, .f32⟩
  | .local _ .vmem, ⟨8, _⟩ => ⟨S4x2816, .f32⟩
  | .local _ .vmem, ⟨9, _⟩ => ⟨S4x31x64, .f32⟩
  | .local _ .vmem, ⟨10, _⟩ => ⟨S4x3x352, .f32⟩
  | .local _ .vmem, ⟨11, _⟩ => ⟨S4x2816, .f32⟩
  | .local _ .vmem, ⟨12, _⟩ => ⟨S4x31x64, .f32⟩
  | .local _ .vmem, ⟨13, _⟩ => ⟨S4x3x352, .f32⟩
  | .local _ .vmem, ⟨14, _⟩ => ⟨S4x2816, .f32⟩
  | .local _ .vmem, ⟨15, _⟩ => ⟨S4x31x64, .f32⟩
  | .local _ .vmem, ⟨16, _⟩ => ⟨S4x3x352, .f32⟩
  | .local _ .vmem, ⟨17, _⟩ => ⟨S4x2816, .f32⟩
  | .local _ .vmem, ⟨18, _⟩ => ⟨S4x31x64, .f32⟩
  | .local _ .vmem, ⟨19, _⟩ => ⟨S4x3x352, .f32⟩
  | .local _ .vmem, ⟨20, _⟩ => ⟨S4x2816, .f32⟩
  | _, _ => ⟨S4x31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S4x31x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x31x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x3x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x31x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x3x352 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x31x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x3x352 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x31x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x3x352 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x31x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x3x352 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x2816 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x31x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x3x352 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x2816 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference15Ideal.lean ====
abbrev S4x31x64 : Shape := ⟨3, ![4, 31, 64]⟩
abbrev S4x3x352 : Shape := ⟨3, ![4, 3, 352]⟩
abbrev S4x2816 : Shape := ⟨2, ![4, 2816]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S4x31x64, .f32⟩
  | .hbm, ⟨1, _⟩ => ⟨S4x3x352, .f32⟩
  | .hbm, ⟨2, _⟩ => ⟨S4x2816, .f32⟩
  | .hbm, ⟨3, _⟩ => ⟨S4x31x64, .f32⟩
  | .hbm, ⟨4, _⟩ => ⟨S4x3x352, .f32⟩
  | .hbm, ⟨5, _⟩ => ⟨S4x2816, .f32⟩
  | .hbm, ⟨6, _⟩ => ⟨S4x31x64, .f32⟩
  | .hbm, ⟨7, _⟩ => ⟨S4x3x352, .f32⟩
  | .hbm, ⟨8, _⟩ => ⟨S4x2816, .f32⟩
  | .hbm, ⟨9, _⟩ => ⟨S4x31x64, .f32⟩
  | .hbm, ⟨10, _⟩ => ⟨S4x3x352, .f32⟩
  | .hbm, ⟨11, _⟩ => ⟨S4x2816, .f32⟩
  | .hbm, ⟨12, _⟩ => ⟨S_, .f32⟩
  | .hbm, ⟨13, _⟩ => ⟨S4x31x64, .f32⟩
  | .hbm, ⟨14, _⟩ => ⟨S4x31x64, .f32⟩
  | .hbm, ⟨15, _⟩ => ⟨S_, .f32⟩
  | .hbm, ⟨16, _⟩ => ⟨S4x31x64, .f32⟩
  | .hbm, ⟨17, _⟩ => ⟨S4x31x64, .f32⟩
  | .hbm, ⟨18, _⟩ => ⟨S4x31x64, .f32⟩
  | .hbm, ⟨19, _⟩ => ⟨S_, .f32⟩
  | .hbm, ⟨20, _⟩ => ⟨S4x31x64, .f32⟩
  | .hbm, ⟨21, _⟩ => ⟨S4x31x64, .f32⟩
  | .hbm, ⟨22, _⟩ => ⟨S4x31x64, .f32⟩
  | .hbm, ⟨23, _⟩ => ⟨S_, .f32⟩
  | .hbm, ⟨24, _⟩ => ⟨S4x31x64, .f32⟩
  | .hbm, ⟨25, _⟩ => ⟨S4x31x64, .f32⟩
  | .hbm, ⟨26, _⟩ => ⟨S4x31x64, .f32⟩
  | .hbm, ⟨27, _⟩ => ⟨S_, .f32⟩
  | .hbm, ⟨28, _⟩ => ⟨S4x31x64, .f32⟩
  | .hbm, ⟨29, _⟩ => ⟨S4x31x64, .f32⟩
  | .hbm, ⟨30, _⟩ => ⟨S_, .f32⟩
  | .hbm, ⟨31, _⟩ => ⟨S4x31x64, .f32⟩
  | .hbm, ⟨32, _⟩ => ⟨S4x31x64, .f32⟩
  | .hbm, ⟨33, _⟩ => ⟨S4x31x64, .f32⟩
  | .hbm, ⟨34, _⟩ => ⟨S_, .f32⟩
  | .hbm, ⟨35, _⟩ => ⟨S4x31x64, .f32⟩
  | .hbm, ⟨36, _⟩ => ⟨S4x31x64, .f32⟩
  | .hbm, ⟨37, _⟩ => ⟨S4x31x64, .f32⟩
  | .hbm, ⟨38, _⟩ => ⟨S_, .f32⟩
  | .hbm, ⟨39, _⟩ => ⟨S4x31x64, .f32⟩
  | .hbm, ⟨40, _⟩ => ⟨S4x31x64, .f32⟩
  | .hbm, ⟨41, _⟩ => ⟨S4x31x64, .f32⟩
  | .hbm, ⟨42, _⟩ => ⟨S_, .f32⟩
  | .hbm, ⟨43, _⟩ => ⟨S4x31x64, .f32⟩
  | .hbm, ⟨44, _⟩ => ⟨S4x31x64, .f32⟩
  | .hbm, ⟨45, _⟩ => ⟨S_, .f32⟩
  | .hbm, ⟨46, _⟩ => ⟨S4x3x352, .f32⟩
  | .hbm, ⟨47, _⟩ => ⟨S4x3x352, .f32⟩
  | .hbm, ⟨48, _⟩ => ⟨S_, .f32⟩
  | .hbm, ⟨49, _⟩ => ⟨S4x3x352, .f32⟩
  | .hbm, ⟨50, _⟩ => ⟨S4x3x352, .f32⟩
  | .hbm, ⟨51, _⟩ => ⟨S4x3x352, .f32⟩
  | .hbm, ⟨52, _⟩ => ⟨S_, .f32⟩
  | .hbm, ⟨53, _⟩ => ⟨S4x3x352, .f32⟩
  | .hbm, ⟨54, _⟩ => ⟨S4x3x352, .f32⟩
  | .hbm, ⟨55, _⟩ => ⟨S4x3x352, .f32⟩
  | .hbm, ⟨56, _⟩ => ⟨S_, .f32⟩
  | .hbm, ⟨57, _⟩ => ⟨S4x3x352, .f32⟩
  | .hbm, ⟨58, _⟩ => ⟨S4x3x352, .f32⟩
  | .hbm, ⟨59, _⟩ => ⟨S4x3x352, .f32⟩
  | .hbm, ⟨60, _⟩ => ⟨S_, .f32⟩
  | .hbm, ⟨61, _⟩ => ⟨S4x3x352, .f32⟩
  | .hbm, ⟨62, _⟩ => ⟨S4x3x352, .f32⟩
  | .hbm, ⟨63, _⟩ => ⟨S_, .f32⟩
  | .hbm, ⟨64, _⟩ => ⟨S4x3x352, .f32⟩
  | .hbm, ⟨65, _⟩ => ⟨S4x3x352, .f32⟩
  | .hbm, ⟨66, _⟩ => ⟨S4x3x352, .f32⟩
  | .hbm, ⟨67, _⟩ => ⟨S_, .f32⟩
  | .hbm, ⟨68, _⟩ => ⟨S4x3x352, .f32⟩
  | .hbm, ⟨69, _⟩ => ⟨S4x3x352, .f32⟩
  | .hbm, ⟨70, _⟩ => ⟨S4x3x352, .f32⟩
  | .hbm, ⟨71, _⟩ => ⟨S_, .f32⟩
  | .hbm, ⟨72, _⟩ => ⟨S4x3x352, .f32⟩
  | .hbm, ⟨73, _⟩ => ⟨S4x3x352, .f32⟩
  | .hbm, ⟨74, _⟩ => ⟨S4x3x352, .f32⟩
  | .hbm, ⟨75, _⟩ => ⟨S_, .f32⟩
  | .hbm, ⟨76, _⟩ => ⟨S4x3x352, .f32⟩
  | .hbm, ⟨77, _⟩ => ⟨S4x3x352, .f32⟩
  | .hbm, ⟨78, _⟩ => ⟨S_, .f32⟩
  | .hbm, ⟨79, _⟩ => ⟨S4x2816, .f32⟩
  | .hbm, ⟨80, _⟩ => ⟨S4x2816, .f32⟩
  | .hbm, ⟨81, _⟩ => ⟨S_, .f32⟩
  | .hbm, ⟨82, _⟩ => ⟨S4x2816, .f32⟩
  | .hbm, ⟨83, _⟩ => ⟨S4x2816, .f32⟩
  | .hbm, ⟨84, _⟩ => ⟨S4x2816, .f32⟩
  | .hbm, ⟨85, _⟩ => ⟨S_, .f32⟩
  | .hbm, ⟨86, _⟩ => ⟨S4x2816, .f32⟩
  | .hbm, ⟨87, _⟩ => ⟨S4x2816, .f32⟩
  | .hbm, ⟨88, _⟩ => ⟨S4x2816, .f32⟩
  | .hbm, ⟨89, _⟩ => ⟨S_, .f32⟩
  | .hbm, ⟨90, _⟩ => ⟨S4x2816, .f32⟩
  | .hbm, ⟨91, _⟩ => ⟨S4x2816, .f32⟩
  | .hbm, ⟨92, _⟩ => ⟨S4x2816, .f32⟩
  | .hbm, ⟨93, _⟩ => ⟨S_, .f32⟩
  | .hbm, ⟨94, _⟩ => ⟨S4x2816, .f32⟩
  | .hbm, ⟨95, _⟩ => ⟨S4x2816, .f32⟩
  | .hbm, ⟨96, _⟩ => ⟨S_, .f32⟩
  | .hbm, ⟨97, _⟩ => ⟨S4x2816, .f32⟩
  | .hbm, ⟨98, _⟩ => ⟨S4x2816, .f32⟩
  | .hbm, ⟨99, _⟩ => ⟨S4x2816, .f32⟩
  | .hbm, ⟨100, _⟩ => ⟨S_, .f32⟩
  | .hbm, ⟨101, _⟩ => ⟨S4x2816, .f32⟩
  | .hbm, ⟨102, _⟩ => ⟨S4x2816, .f32⟩
  | .hbm, ⟨103, _⟩ => ⟨S4x2816, .f32⟩
  | .hbm, ⟨104, _⟩ => ⟨S_, .f32⟩
  | .hbm, ⟨105, _⟩ => ⟨S4x2816, .f32⟩
  | .hbm, ⟨106, _⟩ => ⟨S4x2816, .f32⟩
  | .hbm, ⟨107, _⟩ => ⟨S4x2816, .f32⟩
  | .hbm, ⟨108, _⟩ => ⟨S_, .f32⟩
  | .hbm, ⟨109, _⟩ => ⟨S4x2816, .f32⟩
  | .hbm, ⟨110, _⟩ => ⟨S4x2816, .f32⟩
  | _, _ => ⟨S4x31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel16.lean ====
abbrev S2048x5632 : Shape := ⟨2, ![2048, 5632]⟩
abbrev S3x2816 : Shape := ⟨2, ![3, 2816]⟩
abbrev S1x2816 : Shape := ⟨2, ![1, 2816]⟩
abbrev S2048x2816 : Shape := ⟨2, ![2048, 2816]⟩
abbrev S2048x256 : Shape := ⟨2, ![2048, 256]⟩
abbrev S3x256 : Shape := ⟨2, ![3, 256]⟩
abbrev S1x256 : Shape := ⟨2, ![1, 256]⟩
abbrev S256x256 : Shape := ⟨2, ![256, 256]⟩
abbrev S16x256 : Shape := ⟨2, ![16, 256]⟩
abbrev S272x256 : Shape := ⟨2, ![272, 256]⟩

abbrev nBuf : Space → Nat
  | .hbm => 4
  | .vmem => 10
  | .smem => 0
  | _ => 0

abbrev bufTy : (tb : Table) → Fin (tcTables nBuf tb) → BufTy
  | .hbm, ⟨0, _⟩ => ⟨S2048x5632, .bf16⟩
  | .hbm, ⟨1, _⟩ => ⟨S3x2816, .f32⟩
  | .hbm, ⟨2, _⟩ => ⟨S1x2816, .f32⟩
  | .hbm, ⟨3, _⟩ => ⟨S2048x2816, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  v1
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  let v2 : BitVec 32 := v1
  let v3 : Index := Scalar.indexCast v2
  let c0 : Index := 0#32
  ![v3.toNat, 0]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  let v2 : BitVec 32 := v1
  let c16_i32 : BitVec 32 := 16#32
  let v6 : BitVec 32 := Scalar.subi v2 c16_i32
  let c0_i32_1 : BitVec 32 := 0#32
  let v7 : BitVec 32 := Scalar.maxsi v6 c0_i32_1
  v7
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v1 : BitVec 32 := Scalar.muli arg6 c256_i32
  let v2 : BitVec 32 := v1
  let c16_i32 : BitVec 32 := 16#32
  let v6 : BitVec 32 := Scalar.subi v2 c16_i32
  let c0_i32_1 : BitVec 32 := 0#32
  let v7 : BitVec 32 := Scalar.maxsi v6 c0_i32_1
  let v8 : BitVec 32 := v7
  let v9 : Index := Scalar.indexCast v8
  let c0_2 : Index := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S2048x5632 : Shape := ⟨2, ![2048, 5632]⟩
abbrev S3x2816 : Shape := ⟨2, ![3, 2816]⟩
abbrev S1x2816 : Shape := ⟨2, ![1, 2816]⟩
abbrev S2048x2816 : Shape := ⟨2, ![2048, 2816]⟩
abbrev S_ : Shape := ⟨0, ![]⟩
abbrev S2x2816 : Shape := ⟨2, ![2, 2816]⟩
abbrev S2050x2816 : Shape := ⟨2, ![2050, 2816]⟩

abbrev nBuf : Space → Nat
  | .hbm => 36
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S3x2816, .f32⟩
  | .hbm, ⟨2, _⟩ => ⟨S1x2816, .f32⟩
  | .hbm, ⟨3, _⟩ => ⟨S2048x5632, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2x2816, .f32⟩
  | .hbm, ⟨8, _⟩ => ⟨S2050x2816, .f32⟩
  | .hbm, ⟨9, _⟩ => ⟨S2048x2816, .f32⟩
  | .hbm, ⟨10, _⟩ => ⟨S1x2816, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S1x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S1x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S_, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Kernel17.lean ====
abbrev S2048x1024 : Shape := ⟨2, ![2048, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S8x128, .f32⟩
  | .hbm, ⟨3, _⟩ => ⟨S2048x1024, .f32⟩
  | .hbm, ⟨4, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x128, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S2048x1024 : Shape := ⟨2, ![2048, 1024]⟩
abbrev S_ : Shape := ⟨0, ![]⟩
abbrev S2048 : Shape := ⟨1, ![2048]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S8x128, .f32⟩
  | .hbm, ⟨26, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel18.lean ====
abbrev S8x352x1024 : Shape := ⟨3, ![8, 352, 1024]⟩
abbrev S1x352x1024 : Shape := ⟨3, ![1, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .sge arg1 c0_i32_0
  let v2 : BitVec 1 := Scalar.andi v0 v1
  let c2_i32 : BitVec 32 := 2#32
  let v3 : BitVec 1 := Scalar.cmpi .slt arg1 c2_i32
  let v4 : BitVec 1 := Scalar.andi v2 v3
  let v5 : BitVec 32 := Scalar.extui v4
  let c0_i32_1 : BitVec 32 := 0#32
  let v6 : BitVec 1 := Scalar.cmpi .ne v5 c0_i32_1
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c2_i32 : BitVec 32 := 2#32
  let v1 : BitVec 32 := Scalar.muli v0 c2_i32
  let v2 : BitVec 32 := Scalar.addi v1 arg1
  let c0_i32_0 : BitVec 32 := 0#32
  let v3 : BitVec 32 := Scalar.subi v2 c0_i32_0
  let c0_i32_1 : BitVec 32 := 0#32
  let c1_i32 : BitVec 32 := 1#32
  let v4 : BitVec 32 := Scalar.maxsi c0_i32_1 v3
  let v5 : BitVec 32 := Scalar.minsi c1_i32 v4
  let c0_i32_2 : BitVec 32 := 0#32
  let c0_i32_3 : BitVec 32 := 0#32
  let c0_i32_4 : BitVec 32 := 0#32
  ![c0_i32_2.toNat, v5.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1x352x1024, .f32⟩
  | .hbm, ⟨8, _⟩ => ⟨S_, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel19.lean ====
abbrev S8x704x1024 : Shape := ⟨3, ![8, 704, 1024]⟩
abbrev S1x704x1024 : Shape := ⟨3, ![1, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .sge arg1 c0_i32_0
  let v2 : BitVec 1 := Scalar.andi v0 v1
  let c4_i32 : BitVec 32 := 4#32
  let v3 : BitVec 1 := Scalar.cmpi .slt arg1 c4_i32
  let v4 : BitVec 1 := Scalar.andi v2 v3
  let v5 : BitVec 32 := Scalar.extui v4
  let c0_i32_1 : BitVec 32 := 0#32
  let v6 : BitVec 1 := Scalar.cmpi .ne v5 c0_i32_1
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c4_i32 : BitVec 32 := 4#32
  let v1 : BitVec 32 := Scalar.muli v0 c4_i32
  let v2 : BitVec 32 := Scalar.addi v1 arg1
  let c0_i32_0 : BitVec 32 := 0#32
  let v3 : BitVec 32 := Scalar.subi v2 c0_i32_0
  let c0_i32_1 : BitVec 32 := 0#32
  let c3_i32 : BitVec 32 := 3#32
  let v4 : BitVec 32 := Scalar.maxsi c0_i32_1 v3
  let v5 : BitVec 32 := Scalar.minsi c3_i32 v4
  let c0_i32_2 : BitVec 32 := 0#32
  let c0_i32_3 : BitVec 32 := 0#32
  let c0_i32_4 : BitVec 32 := 0#32
  ![c0_i32_2.toNat, v5.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference19Ideal.lean ====
abbrev S8x704x1024 : Shape := ⟨3, ![8, 704, 1024]⟩
abbrev S1x704x1024 : Shape := ⟨3, ![1, 704, 1024]⟩
abbrev S_ : Shape := ⟨0, ![]⟩
abbrev S704x1024 : Shape := ⟨2, ![704, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S1x704x1024, .f32⟩
  | .hbm, ⟨8, _⟩ => ⟨S_, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S1x704x1024, .f32⟩
  | .hbm, ⟨23, _⟩ => ⟨S_, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | .hbm, ⟨37, _⟩ => ⟨S1x704x1024, .f32⟩
  | .hbm, ⟨38, _⟩ => ⟨S_, .f32⟩
  | .hbm, ⟨39, _⟩ => ⟨S1x704x1024, .f32⟩
  | .hbm, ⟨40, _⟩ => ⟨S1x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel20.lean ====
abbrev S8x320x1024 : Shape := ⟨3, ![8, 320, 1024]⟩
abbrev S1x320x1024 : Shape := ⟨3, ![1, 320, 1024]⟩
abbrev S8x160x1024 : Shape := ⟨3, ![8, 160, 1024]⟩
abbrev S1x160x1024 : Shape := ⟨3, ![1, 160, 1024]⟩
abbrev S160x1024 : Shape := ⟨2, ![160, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x320x1024, .bf16⟩
  | .hbm, ⟨1, _⟩ => ⟨S1x320x1024, .f32⟩
  | .hbm, ⟨2, _⟩ => ⟨S1x320x1024, .f32⟩
  | .hbm, ⟨3, _⟩ => ⟨S1x320x1024, .f32⟩
  | .hbm, ⟨4, _⟩ => ⟨S1x320x1024, .f32⟩
  | .hbm, ⟨5, _⟩ => ⟨S1x320x1024, .f32⟩
  | .hbm, ⟨6, _⟩ => ⟨S1x320x1024, .f32⟩
  | .hbm, ⟨7, _⟩ => ⟨S1x320x1024, .f32⟩
  | .local _ .vmem, ⟨0, _⟩ => ⟨S8x160x1024, .bf16⟩
  | .local _ .vmem, ⟨1, _⟩ => ⟨S8x160x1024, .bf16⟩
  | .local _ .vmem, ⟨2, _⟩ => ⟨S1x160x1024, .f32⟩
  | .local _ .vmem, ⟨3, _⟩ => ⟨S1x160x1024, .f32⟩
  | .local _ .vmem, ⟨4, _⟩ => ⟨S1x160x1024, .f32⟩
  | .local _ .vmem, ⟨5, _⟩ => ⟨S1x160x1024, .f32⟩
  | .local _ .vmem, ⟨6, _⟩ => ⟨S1x160x1024, .f32⟩
  | .local _ .vmem, ⟨7, _⟩ => ⟨S1x160x1024, .f32⟩
  | .local _ .vmem, ⟨8, _⟩ => ⟨S1x160x1024, .f32⟩
  | .local _ .vmem, ⟨9, _⟩ => ⟨S1x160x1024, .f32⟩
  | .local _ .vmem, ⟨10, _⟩ => ⟨S1x160x1024, .f32⟩
  | .local _ .vmem, ⟨11, _⟩ => ⟨S1x160x1024, .f32⟩
  | .local _ .vmem, ⟨12, _⟩ => ⟨S1x160x1024, .f32⟩
  | .local _ .vmem, ⟨13, _⟩ => ⟨S1x160x1024, .f32⟩
  | .local _ .vmem, ⟨14, _⟩ => ⟨S1x160x1024, .f32⟩
  | .local _ .vmem, ⟨15, _⟩ => ⟨S1x160x1024, .f32⟩
  | _, _ => ⟨S8x320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .sge arg1 c0_i32_0
  let v2 : BitVec 1 := Scalar.andi v0 v1
  let c2_i32 : BitVec 32 := 2#32
  let v3 : BitVec 1 := Scalar.cmpi .slt arg1 c2_i32
  let v4 : BitVec 1 := Scalar.andi v2 v3
  let v5 : BitVec 32 := Scalar.extui v4
  let c0_i32_1 : BitVec 32 := 0#32
  let v6 : BitVec 1 := Scalar.cmpi .ne v5 c0_i32_1
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c2_i32 : BitVec 32 := 2#32
  let v1 : BitVec 32 := Scalar.muli v0 c2_i32
  let v2 : BitVec 32 := Scalar.addi v1 arg1
  let c0_i32_0 : BitVec 32 := 0#32
  let v3 : BitVec 32 := Scalar.subi v2 c0_i32_0
  let c0_i32_1 : BitVec 32 := 0#32
  let c1_i32 : BitVec 32 := 1#32
  let v4 : BitVec 32 := Scalar.maxsi c0_i32_1 v3
  let v5 : BitVec 32 := Scalar.minsi c1_i32 v4
  let c0_i32_2 : BitVec 32 := 0#32
  let c0_i32_3 : BitVec 32 := 0#32
  let c0_i32_4 : BitVec 32 := 0#32
  ![c0_i32_2.toNat, v5.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x160x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference20Ideal.lean ====
abbrev S8x320x1024 : Shape := ⟨3, ![8, 320, 1024]⟩
abbrev S1x320x1024 : Shape := ⟨3, ![1, 320, 1024]⟩
abbrev S_ : Shape := ⟨0, ![]⟩
abbrev S320x1024 : Shape := ⟨2, ![320, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x320x1024, .bf16⟩
  | .hbm, ⟨1, _⟩ => ⟨S1x320x1024, .f32⟩
  | .hbm, ⟨2, _⟩ => ⟨S1x320x1024, .f32⟩
  | .hbm, ⟨3, _⟩ => ⟨S1x320x1024, .f32⟩
  | .hbm, ⟨4, _⟩ => ⟨S8x320x1024, .f32⟩
  | .hbm, ⟨5, _⟩ => ⟨S_, .f32⟩
  | .hbm, ⟨6, _⟩ => ⟨S320x1024, .f32⟩
  | .hbm, ⟨7, _⟩ => ⟨S1x320x1024, .f32⟩
  | .hbm, ⟨8, _⟩ => ⟨S_, .f32⟩
  | .hbm, ⟨9, _⟩ => ⟨S1x320x1024, .f32⟩
  | .hbm, ⟨10, _⟩ => ⟨S1x320x1024, .f32⟩
  | .hbm, ⟨11, _⟩ => ⟨S_, .f32⟩
  | .hbm, ⟨12, _⟩ => ⟨S1x320x1024, .f32⟩
  | .hbm, ⟨13, _⟩ => ⟨S1x320x1024, .f32⟩
  | .hbm, ⟨14, _⟩ => ⟨S1x320x1024, .f32⟩
  | .hbm, ⟨15, _⟩ => ⟨S_, .f32⟩
  | .hbm, ⟨16, _⟩ => ⟨S1x320x1024, .f32⟩
  | .hbm, ⟨17, _⟩ => ⟨S1x320x1024, .f32⟩
  | .hbm, ⟨18, _⟩ => ⟨S1x320x1024, .f32⟩
  | .hbm, ⟨19, _⟩ => ⟨S_, .f32⟩
  | .hbm, ⟨20, _⟩ => ⟨S1x320x1024, .f32⟩
  | .hbm, ⟨21, _⟩ => ⟨S1x320x1024, .f32⟩
  | .hbm, ⟨22, _⟩ => ⟨S1x320x1024, .f32⟩
  | .hbm, ⟨23, _⟩ => ⟨S_, .f32⟩
  | .hbm, ⟨24, _⟩ => ⟨S1x320x1024, .f32⟩
  | .hbm, ⟨25, _⟩ => ⟨S1x320x1024, .f32⟩
  | .hbm, ⟨26, _⟩ => ⟨S_, .f32⟩
  | .hbm, ⟨27, _⟩ => ⟨S1x320x1024, .f32⟩
  | .hbm, ⟨28, _⟩ => ⟨S1x320x1024, .f32⟩
  | .hbm, ⟨29, _⟩ => ⟨S1x320x1024, .f32⟩
  | .hbm, ⟨30, _⟩ => ⟨S_, .f32⟩
  | .hbm, ⟨31, _⟩ => ⟨S1x320x1024, .f32⟩
  | .hbm, ⟨32, _⟩ => ⟨S1x320x1024, .f32⟩
  | .hbm, ⟨33, _⟩ => ⟨S1x320x1024, .f32⟩
  | .hbm, ⟨34, _⟩ => ⟨S_, .f32⟩
  | .hbm, ⟨35, _⟩ => ⟨S1x320x1024, .f32⟩
  | .hbm, ⟨36, _⟩ => ⟨S1x320x1024, .f32⟩
  | .hbm, ⟨37, _⟩ => ⟨S1x320x1024, .f32⟩
  | .hbm, ⟨38, _⟩ => ⟨S_, .f32⟩
  | .hbm, ⟨39, _⟩ => ⟨S1x320x1024, .f32⟩
  | .hbm, ⟨40, _⟩ => ⟨S1x320x1024, .f32⟩
  | _, _ => ⟨S8x320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.BodyRun.lean ====
/- The body of the call, run once at any grid point on any buffers: what its two loops leave in the gradient
   block, in the taps' and the bias' partial sums and in the scratch, named as lists of stored pieces. -/
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- The memory the body is given: five input blocks, three output blocks and the scratch. -/
structure Bufs where
  arg1 : Memref sig .tc .vmem S2048x256 .bf16
  harg1 : arg1.IsWhole
  arg2 : Memref sig .tc .vmem S2048x256 .bf16
  harg2 : arg2.IsWhole
  arg3 : Memref sig .tc .vmem S2048x256 .bf16
  harg3 : arg3.IsWhole
  arg4 : Memref sig .tc .vmem S3x256 .f32
  harg4 : arg4.IsWhole
  arg5 : Memref sig .tc .vmem S1x256 .f32
  harg5 : arg5.IsWhole
  arg6 : Memref sig .tc .vmem S2x2048x256 .bf16
  harg6 : arg6.IsWhole
  arg7 : Memref sig .tc .vmem S3x256 .f32
  harg7 : arg7.IsWhole
  arg8 : Memref sig .tc .vmem S1x256 .f32
  harg8 : arg8.IsWhole
  arg9 : Memref sig .tc .vmem S2064x256 .f32
  harg9 : arg9.IsWhole

/-- What the input blocks hold: gate, value, cotangent, taps and bias. -/
structure Blocks (F : FTy → Type) where
  gate : Vec F S2048x256 .bf16
  val : Vec F S2048x256 .bf16
  dact : Vec F S2048x256 .bf16
  w : Vec F S3x256 .f32
  b : Vec F S1x256 .f32

/-- After `k` trips of the first loop: the running sums, the pieces of the gradient's second plane and those of the
    scratch. -/
def loop1 (c : Dev nD) (i : grid0.Coords) (b : Bufs) (x : Blocks F) (k : ℕ) :=
  st_k0_t1 (F := F) Variants.none c none i b.arg1 b.harg1 b.arg2 b.harg2 b.arg3 b.harg3 b.arg4 b.harg4 b.arg5 b.harg5 b.arg6 b.harg6 b.arg7 b.harg7 b.arg8 b.harg8 b.arg9 b.harg9 (b.harg1.unread x.gate) (b.harg2.unread x.val) (b.harg3.unread x.dact)
    (b.harg4.unread x.w) (b.harg5.unread x.b) (k0_pay2, k0_pay2, k0_pay2, k0_pay2) k

/-- The scratch's pieces: the first loop's over the sixteen zero rows at the end. -/
def scratchL (c : Dev nD) (i : grid0.Coords) (b : Bufs) (x : Blocks F) : List (View.Piece (Elt F) S2064x256 .f32) :=
  (loop1 c i b x (Scf.trips k0_t1_loop.lb k0_t1_loop.ub k0_t1_loop.st)).2.2
    ++ [⟨Rect.unit ![2048, 0] S16x256.size inb_S2064x256_S16x256_2048_0, k0_pay1⟩]

/-- They cover the scratch. -/
theorem scratch_cover (c : Dev nD) (i : grid0.Coords) (b : Bufs) (x : Blocks F) :
    ∀ y, ∃ p ∈ scratchL c i b x, y ∈ p.1.set :=
  View.cover_of_tiledBy (scratchL c i b x) ![16, 256] (by sl_kernel_rfl)

/-- What the second loop reads from the scratch. -/
def scratch (c : Dev nD) (i : grid0.Coords) (b : Bufs) (x : Blocks F) : Vec F S2064x256 .f32 :=
  b.arg9.view.read (Elt F) (b.arg9.view.writes (Elt F) b.arg9.view.junk (scratchL c i b x))

/-- The pieces of the gradient's first plane, after `k` trips of the second loop. -/
def loop2 (c : Dev nD) (i : grid0.Coords) (b : Bufs) (x : Blocks F) (k : ℕ) : List (View.Piece (Elt F) S2x2048x256 .bf16) :=
  pb_k0_t2 (F := F) Variants.none c none i b.arg1 b.harg1 b.arg2 b.harg2 b.arg3 b.harg3 b.arg4 b.harg4 b.arg5 b.harg5 b.arg6 b.harg6 b.arg7 b.harg7 b.arg8 b.harg8 b.arg9 b.harg9 (b.harg4.unread x.w) (b.harg9.unread (scratch c i b x)) k

/-- All pieces of the gradient block. -/
def dupL (c : Dev nD) (i : grid0.Coords) (b : Bufs) (x : Blocks F) : List (View.Piece (Elt F) S2x2048x256 .bf16) :=
  loop2 c i b x (Scf.trips k0_t2_loop.lb k0_t2_loop.ub k0_t2_loop.st)
    ++ (loop1 c i b x (Scf.trips k0_t1_loop.lb k0_t1_loop.ub k0_t1_loop.st)).2.1

/-- They cover it. -/
theorem dup_cover (c : Dev nD) (i : grid0.Coords) (b : Bufs) (x : Blocks F) :
    ∀ y, ∃ p ∈ dupL c i b x, y ∈ p.1.set :=
  View.cover_of_tiledL (dupL c i b x) S1x256x256.size (by sl_kernel_rfl)

/-- The three rows of the taps' gradient block. -/
def dwL (c : Dev nD) (i : grid0.Coords) (b : Bufs) (x : Blocks F) : List (View.Piece (Elt F) S3x256 .f32) :=
  let s := (loop1 c i b x (Scf.trips k0_t1_loop.lb k0_t1_loop.ub k0_t1_loop.st)).1
  [⟨Rect.unit ![2, 0] S1x256.size inb_S3x256_S1x256_2_0, s.2.2.2⟩,
   ⟨Rect.unit ![1, 0] S1x256.size inb_S3x256_S1x256_1_0, s.2.2.1⟩,
   ⟨Rect.unit ![0, 0] S1x256.size inb_S3x256_S1x256_0_0, s.2.1⟩]

/-- The bias' gradient block. -/
def dbL (c : Dev nD) (i : grid0.Coords) (b : Bufs) (x : Blocks F) : List (View.Piece (Elt F) S1x256 .f32) :=
  [⟨Rect.unit ![0, 0] S1x256.size inb_S1x256_S1x256_0_0, (loop1 c i b x (Scf.trips k0_t1_loop.lb k0_t1_loop.ub k0_t1_loop.st)).1.1⟩]

/-- What the gradient block holds in the end; -/
def dupB (c : Dev nD) (i : grid0.Coords) (b : Bufs) (x : Blocks F) : Vec F S2x2048x256 .bf16 :=
  b.arg6.view.read (Elt F) (b.arg6.view.writes (Elt F) b.arg6.view.junk (dupL c i b x))
/-- the taps' gradient block; -/
def dwB (c : Dev nD) (i : grid0.Coords) (b : Bufs) (x : Blocks F) : Vec F S3x256 .f32 :=
  b.arg7.view.read (Elt F) (b.arg7.view.writes (Elt F) b.arg7.view.junk (dwL c i b x))
/-- the bias' gradient block. -/
def dbB (c : Dev nD) (i : grid0.Coords) (b : Bufs) (x : Blocks F) : Vec F S1x256 .f32 :=
  b.arg8.view.read (Elt F) (b.arg8.view.writes (Elt F) b.arg8.view.junk (dbL c i b x))

set_option maxHeartbeats 1000000 in
/-- The body's run: the input blocks are kept, the outputs end at the blocks named above. -/
theorem body (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x256 .bf16) (harg3 : arg3.IsWhole) (arg4 : Memref sig .tc .vmem S3x256 .f32) (harg4 : arg4.IsWhole) (arg5 : Memref sig .tc .vmem S1x256 .f32) (harg5 : arg5.IsWhole) (arg6 : Memref sig .tc .vmem S2x2048x256 .bf16) (harg6 : arg6.IsWhole) (arg7 : Memref sig .tc .vmem S3x256 .f32) (harg7 : arg7.IsWhole) (arg8 : Memref sig .tc .vmem S1x256 .f32) (harg8 : arg8.IsWhole) (arg9 : Memref sig .tc .vmem S2064x256 .f32) (harg9 : arg9.IsWhole) (x0 : Vec F S2048x256 .bf16) (x1 : Vec F S2048x256 .bf16) (x2 : Vec F S2048x256 .bf16) (x3 : Vec F S3x256 .f32) (x4 : Vec F S1x256 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dupB c i ⟨arg1, harg1, arg2, harg2, arg3, harg3, arg4, harg4, arg5, harg5, arg6, harg6, arg7, harg7, arg8, harg8, arg9, harg9⟩ ⟨x0, x1, x2, x3, x4⟩) ∗ owns (c : Thread nD τ) arg7 fullShare (dwB c i ⟨arg1, harg1, arg2, harg2, arg3, harg3, arg4, harg4, arg5, harg5, arg6, harg6, arg7, harg7, arg8, harg8, arg9, harg9⟩ ⟨x0, x1, x2, x3, x4⟩) ∗ owns (c : Thread nD τ) arg8 fullShare (dbB c i ⟨arg1, harg1, arg2, harg2, arg3, harg3, arg4, harg4, arg5, harg5, arg6, harg6, arg7, harg7, arg8, harg8, arg9, harg9⟩ ⟨x0, x1, x2, x3, x4⟩) ∗ (∃ d, owns (c : Thread nD τ) arg9 fullShare d)) -∗ K ⟨⟩))
          ⊢ wp frame (wpE (defs₀ (F := F)) Variants.none c none) E (cc0_bwd_ffn (F := F) i arg1 harg1 arg2 harg2 arg3 harg3 arg4 harg4 arg5 harg5 arg6 harg6 arg7 harg7 arg8 harg8 arg9 harg9) K := by
    simp only [cc0_bwd_ffn_eq_skeleton]; unfold cc0_bwd_ffn_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      have e := harg9.eq_unread (View.read_writes_of_cover arg9.view fs0 arg9.view arg9.view.junk _
        (scratch_cover c i ⟨arg1, harg1, arg2, harg2, arg3, harg3, arg4, harg4, arg5, harg5, arg6, harg6, arg7, harg7, arg8, harg8, arg9, harg9⟩ ⟨x0, x1, x2, x3, x4⟩))
      unfold scratchL loop1 at e
      rw [e]
      exact View.read_writes_of_cover arg6.view f5 arg6.view arg6.view.junk _
        (dup_cover c i ⟨arg1, harg1, arg2, harg2, arg3, harg3, arg4, harg4, arg5, harg5, arg6, harg6, arg7, harg7, arg8, harg8, arg9, harg9⟩ ⟨x0, x1, x2, x3, x4⟩)
    isplitl [H6]
    · iexists _; isplitr; swap; · iexact H6
      ipureintro; rfl
    isplitl [H7]
    · iexists _; isplitr; swap; · iexact H7
      ipureintro; rfl
    iexists _, _; isplitr; swap; · iexact HS0
    ipureintro; rfl

end Cert.Ffn

end
-- ==== Proof.CallRun.lean ====
/- The whole call: every grid point runs the body on its blocks, so the call ends with each output array block by
   block at what the body leaves, its arguments kept and every counter at zero. -/
module

public import proofs.«01_k».proof.Proof.BodyRun
public import Idealize.ShloMosaic.Lib.Claim
public import Idealize.ShloMosaic.Lib.Pipeline.Value

@[expose] public section

set_option maxRecDepth 16384

noncomputable section

namespace Cert.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

abbrev stg0 (t : Fin cfg0.N) : Memref sig .tc .vmem S2048x256 .bf16 := win0_0.stage (cfg0.slots t 0)
abbrev stg1 (t : Fin cfg0.N) : Memref sig .tc .vmem S2048x256 .bf16 := win0_1.stage (cfg0.slots t 1)
abbrev stg2 (t : Fin cfg0.N) : Memref sig .tc .vmem S2048x256 .bf16 := win0_2.stage (cfg0.slots t 2)
abbrev stg3 (t : Fin cfg0.N) : Memref sig .tc .vmem S3x256 .f32 := win0_3.stage (cfg0.slots t 3)
abbrev stg4 (t : Fin cfg0.N) : Memref sig .tc .vmem S1x256 .f32 := win0_4.stage (cfg0.slots t 4)
abbrev stg5 (t : Fin cfg0.N) : Memref sig .tc .vmem S2x2048x256 .bf16 := win0_5.stage (cfg0.slots t 5)
abbrev stg6 (t : Fin cfg0.N) : Memref sig .tc .vmem S3x256 .f32 := win0_6.stage (cfg0.slots t 6)
abbrev stg7 (t : Fin cfg0.N) : Memref sig .tc .vmem S1x256 .f32 := win0_7.stage (cfg0.slots t 7)

/-- The body's memory at point `t`, -/
def bufs (t : Fin cfg0.N) : Bufs := ⟨stg0 t, hstage0_0 ((cfg0.slots t 0).cast nbuf0_0), stg1 t, hstage0_1 ((cfg0.slots t 1).cast nbuf0_1), stg2 t, hstage0_2 ((cfg0.slots t 2).cast nbuf0_2), stg3 t, hstage0_3 ((cfg0.slots t 3).cast nbuf0_3), stg4 t, hstage0_4 ((cfg0.slots t 4).cast nbuf0_4), stg5 t, hstage0_5 ((cfg0.slots t 5).cast nbuf0_5), stg6 t, hstage0_6 ((cfg0.slots t 6).cast nbuf0_6), stg7 t, hstage0_7 ((cfg0.slots t 7).cast nbuf0_7), Memref.whole cc0_scratch0, Memref.isWhole_whole _⟩

/-- and its input blocks. -/
def blocks (c : Dev nD) (t : Fin cfg0.N) : Blocks F := ⟨iblk m c 0 t, iblk m c 1 t, iblk m c 2 t, iblk m c 3 t, iblk m c 4 t⟩

/-- The invariant between points: the scratch at some contents, and the generator register. -/
theorem phi_eq (c : Dev nD) :
    (Pipeline.ΦA spec0 c : sProp 𝕄)
      = iprop(iprop((∃ d, owns (c : Thread nD τ) (Memref.whole cc0_scratch0 : Memref sig .tc .vmem S2064x256 .f32) fullShare d)) ∗ (∃ r, prngReg c r)) := by
  unfold Pipeline.ΦA; rw [scopedRest0_eq]; simp only [owns_whole]; try rfl

/-- The proof data: input blocks stay, output blocks end at the body's. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dupB c (grid0.coords t) (bufs t) (blocks m c t)
    | ⟨6, _⟩ => dwB c (grid0.coords t) (bufs t) (blocks m c t)
    | ⟨7, _⟩ => dbB c (grid0.coords t) (bufs t) (blocks m c t)
  Φ _ := Pipeline.ΦA spec0 c
  q w := Pipeline.shareOf spec0 w
  owed _ := 0

theorem dat_A (c : Dev nD) (w : Fin cfg0.W) : (dat m 0 c).A w = V m c (Pipeline.arrRef spec0 w) := by
  dsimp only [dat]

theorem after_0 (c : Dev nD) (t : Fin cfg0.N) : (dat m 0 c).after 0 t = iblk m c 0 t := by dsimp only [dat]
theorem after_1 (c : Dev nD) (t : Fin cfg0.N) : (dat m 0 c).after 1 t = iblk m c 1 t := by dsimp only [dat]
theorem after_2 (c : Dev nD) (t : Fin cfg0.N) : (dat m 0 c).after 2 t = iblk m c 2 t := by dsimp only [dat]
theorem after_3 (c : Dev nD) (t : Fin cfg0.N) : (dat m 0 c).after 3 t = iblk m c 3 t := by dsimp only [dat]
theorem after_4 (c : Dev nD) (t : Fin cfg0.N) : (dat m 0 c).after 4 t = iblk m c 4 t := by dsimp only [dat]
theorem after_5 (c : Dev nD) (t : Fin cfg0.N) : (dat m 0 c).after 5 t = dupB c (grid0.coords t) (bufs t) (blocks m c t) := by dsimp only [dat]
theorem after_6 (c : Dev nD) (t : Fin cfg0.N) : (dat m 0 c).after 6 t = dwB c (grid0.coords t) (bufs t) (blocks m c t) := by dsimp only [dat]
theorem after_7 (c : Dev nD) (t : Fin cfg0.N) : (dat m 0 c).after 7 t = dbB c (grid0.coords t) (bufs t) (blocks m c t) := by dsimp only [dat]

theorem before_0 (c : Dev nD) (t : Fin cfg0.N) (d) : (dat m 0 c).before 0 t d = iblk m c 0 t :=
  before0_0_of m (dat m 0 c) (dat_A m c 0) (fun _ => by dsimp only [dat]) t d
theorem before_1 (c : Dev nD) (t : Fin cfg0.N) (d) : (dat m 0 c).before 1 t d = iblk m c 1 t :=
  before0_1_of m (dat m 0 c) (dat_A m c 1) (fun _ => by dsimp only [dat]) t d
theorem before_2 (c : Dev nD) (t : Fin cfg0.N) (d) : (dat m 0 c).before 2 t d = iblk m c 2 t :=
  before0_2_of m (dat m 0 c) (dat_A m c 2) (fun _ => by dsimp only [dat]) t d
theorem before_3 (c : Dev nD) (t : Fin cfg0.N) (d) : (dat m 0 c).before 3 t d = iblk m c 3 t :=
  before0_3_of m (dat m 0 c) (dat_A m c 3) (fun _ => by dsimp only [dat]) t d
theorem before_4 (c : Dev nD) (t : Fin cfg0.N) (d) : (dat m 0 c).before 4 t d = iblk m c 4 t :=
  before0_4_of m (dat m 0 c) (dat_A m c 4) (fun _ => by dsimp only [dat]) t d

def atPre (c : Dev nD) (t : Fin cfg0.N) : sProp 𝕄 :=
  iprop((dat m 0 c).Φ t.castSucc ∗ (dat m 0 c).owesAt () t.castSucc ∗ (∃ d, owns (c : Thread nD τ) (stg0 t) fullShare ((dat m 0 c).before 0 t d)) ∗ (∃ d, owns (c : Thread nD τ) (stg1 t) fullShare ((dat m 0 c).before 1 t d)) ∗ (∃ d, owns (c : Thread nD τ) (stg2 t) fullShare ((dat m 0 c).before 2 t d)) ∗ (∃ d, owns (c : Thread nD τ) (stg3 t) fullShare ((dat m 0 c).before 3 t d)) ∗ (∃ d, owns (c : Thread nD τ) (stg4 t) fullShare ((dat m 0 c).before 4 t d)) ∗ (∃ d, owns (c : Thread nD τ) (stg5 t) fullShare ((dat m 0 c).before 5 t d)) ∗ (∃ d, owns (c : Thread nD τ) (stg6 t) fullShare ((dat m 0 c).before 6 t d)) ∗ (∃ d, owns (c : Thread nD τ) (stg7 t) fullShare ((dat m 0 c).before 7 t d)))

def atPost (c : Dev nD) (t : Fin cfg0.N) : sProp 𝕄 :=
  iprop((dat m 0 c).Φ t.succ ∗ (dat m 0 c).owesAt () t.succ ∗ owns (c : Thread nD τ) (stg0 t) fullShare ((dat m 0 c).after 0 t) ∗ owns (c : Thread nD τ) (stg1 t) fullShare ((dat m 0 c).after 1 t) ∗ owns (c : Thread nD τ) (stg2 t) fullShare ((dat m 0 c).after 2 t) ∗ owns (c : Thread nD τ) (stg3 t) fullShare ((dat m 0 c).after 3 t) ∗ owns (c : Thread nD τ) (stg4 t) fullShare ((dat m 0 c).after 4 t) ∗ owns (c : Thread nD τ) (stg5 t) fullShare ((dat m 0 c).after 5 t) ∗ owns (c : Thread nD τ) (stg6 t) fullShare ((dat m 0 c).after 6 t) ∗ owns (c : Thread nD τ) (stg7 t) fullShare ((dat m 0 c).after 7 t))

set_option maxHeartbeats 800000 in
/-- The body at any point. -/
theorem at_point (c : Dev nD) (t : Fin cfg0.N) :
    atPre m c t ⊢ wp frame (wpE (defs₀ (F := F)) Variants.none c none) Set.univ (bodyAt0 t) (fun _ => atPost m c t) := by
  unfold atPre atPost bodyAt0
  simp only [before_0, before_1, before_2, before_3, before_4]
  rw [show (dat m 0 c).Φ t.succ = (dat m 0 c).Φ t.castSucc from rfl,
    show (dat m 0 c).owesAt () t.succ = (dat m 0 c).owesAt () t.castSucc from rfl,
    after_0, after_1, after_2, after_3, after_4, after_5, after_6, after_7]
  rw [show (dat m 0 c).Φ t.castSucc = Pipeline.ΦA spec0 c from rfl, phi_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body c (grid0.coords t) _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row (t : Fin cfg0.N) :
    defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ := fun t => by
  rw [bigSep_W0, bigSep_W0, row]
  exact triple_restated (at_point m c t) rfl .rfl fun _ => .rfl

set_option backward.isDefEq.respectTransparency.types false in
/-- The launch. -/
theorem run : θ_run defs (onTc (τ := τ) (main (F := F))) (s₀ m ρ) (fun r => (Pipeline.FramePost cfgs (dat m) 0 (V m)) r ∧ r.2.sem = fun _ => 0) :=
  Pipeline.θ_run_frame_shared (Q' := _) cfgs (dat m) (0 : Fin 1) launch₀0 defs₀ Variants.none m ρ main
    (hbody := fun c => (obligation m c).loose) (hq := fun _ _ _ => rfl)
    (howed := fun _ _ => rfl) (V := V m) (hmain := hmain m Variants.none) (hA := dat_A m) (hΦ := fun _ _ => rfl)

/-- The frame: the arguments end unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dat m) (dat_A m) ((θ_run defs _ _).mono (fun _ h => h.1) (run m ρ)))
    ((θ_run defs _ _).mono (fun _ h => h.2) (run m ρ))

/-- The run with the three output arrays named. -/
theorem run_named : θ_run defs (onTc (τ := τ) (main (F := F))) ⟨m, fun _ => 0, ρ⟩ (fun r => (∀ c : Dev nD,
      r.2.mem ((c : Thread nD τ).loc main_v0_0) = (dat m 0 c).arrAt 5 cfg0.N
      ∧ r.2.mem ((c : Thread nD τ).loc main_v0_1) = (dat m 0 c).arrAt 6 cfg0.N
      ∧ r.2.mem ((c : Thread nD τ).loc main_v0_2) = (dat m 0 c).arrAt 7 cfg0.N)) :=
  (θ_run defs _ _).mono (fun _ h c => ⟨(h.1 c).1 5, (h.1 c).1 6, (h.1 c).1 7⟩) (run m ρ)

end Cert.Ffn

end
-- ==== Proof.Frames.lean ====
module

public import proofs.«01_k».proof.Defs
public import proofs.«01_k».proof.Proof.Gen.Kernel
public import proofs.«01_k».proof.Proof.CallRun

/-! The two frame claims of the kernel, from the one run. -/

@[expose] public section

set_option maxRecDepth 16384

noncomputable section

namespace Cert.Ffn

open Idealize.ShloMosaic Idealize.SL.Sem

attribute [local instance] Cert.Kernel.Gen.facts Cert.KernelIdeal.Gen.facts

/-- The body of the one call is the same in both programs. -/
theorem bodies_eq {F : FTy → Type} [FloatOps F] :
    (Cert.Kernel.defs₀ (F := F)) = (Cert.KernelIdeal.defs₀ (F := F)) := by
  refine congrArg Defs.onTc (funext fun l => funext fun a => ?_)
  match l, a with
  | 0, (t, s) => rfl

/-- So are the procedures around it. -/
theorem defs_eq {F : FTy → Type} [FloatOps F] :
    (Cert.Kernel.defs (F := F)) = (Cert.KernelIdeal.defs (F := F)) :=
  congrArg (Pipeline.defs Cert.KernelIdeal.pcfgs) bodies_eq

theorem frame_kernel : Cert.quiescent_Kernel := by
  intro m g _
  have h := quiet (F := Bits) m g
  rw [← defs_eq] at h
  exact h

theorem frame_ideal : Cert.quiescent_KernelIdeal := fun m g _ => quiet (F := Ideal) m g

end Cert.Ffn

end
-- ==== Proof.Step.lean ====
/- One trip of each loop of the body, in closed form. -/
module

public import proofs.«01_k».proof.Proof.BodyRun

@[expose] public section

set_option maxRecDepth 16384

noncomputable section

namespace Cert.Ffn

open Cert.KernelIdeal Cert.KernelIdeal.Gen
open Idealize.ShloMosaic Idealize.ShloMosaic.TcCoe Idealize.ShloMosaic.Tactic

variable {F : FTy → Type} [FloatOps F]
variable (b : Bufs) (x : Blocks F)

/-- The gate's rows of trip `k`, -/
def gateR (k : Fin k0_t1_loop.trips) : FVec F S256x256 .bf16 :=
  b.arg1.view.readAt (Elt F) (Rect.unit (s := S2048x256) (k0_off1 k) S256x256.size (k0_off1_inb k)).toLoadRect (b.harg1.unread x.gate)
/-- the sixteen rows above them, -/
def haloR (k : Fin k0_t1_loop.trips) : FVec F S16x256 .bf16 :=
  b.arg1.view.readAt (Elt F) (Rect.unit (s := S2048x256) (k0_off2 k) S16x256.size (k0_off2_inb k)).toLoadRect (b.harg1.unread x.gate)
/-- the value's rows, -/
def valR (k : Fin k0_t1_loop.trips) : FVec F S256x256 .bf16 :=
  b.arg2.view.readAt (Elt F) (Rect.unit (s := S2048x256) (k0_off1 k) S256x256.size (k0_off1_inb k)).toLoadRect (b.harg2.unread x.val)
/-- the cotangent's rows, -/
def dactR (k : Fin k0_t1_loop.trips) : FVec F S256x256 .bf16 :=
  b.arg3.view.readAt (Elt F) (Rect.unit (s := S2048x256) (k0_off1 k) S256x256.size (k0_off1_inb k)).toLoadRect (b.harg3.unread x.dact)
/-- the three taps -/
def tap0 : FVec F S1x256 .f32 :=
  b.arg4.view.readAt (Elt F) (Rect.unit (s := S3x256) ![0, 0] S1x256.size inb_S3x256_S1x256_0_0).toLoadRect (b.harg4.unread x.w)
def tap1 : FVec F S1x256 .f32 :=
  b.arg4.view.readAt (Elt F) (Rect.unit (s := S3x256) ![1, 0] S1x256.size inb_S3x256_S1x256_1_0).toLoadRect (b.harg4.unread x.w)
def tap2 : FVec F S1x256 .f32 :=
  b.arg4.view.readAt (Elt F) (Rect.unit (s := S3x256) ![2, 0] S1x256.size inb_S3x256_S1x256_2_0).toLoadRect (b.harg4.unread x.w)
/-- and the bias. -/
def biasR : FVec F S1x256 .f32 :=
  b.arg5.view.readAt (Elt F) (Rect.unit (s := S1x256) ![0, 0] S1x256.size inb_S1x256_S1x256_0_0).toLoadRect (b.harg5.unread x.b)

/-- The gate's rows under the sixteen above them, -/
def padR (k : Fin k0_t1_loop.trips) : FVec F S272x256 .f32 := k0_pay6 0#32 1#32 k (gateR b x k) (haloR b x k)
/-- the convolution's value, -/
def gcR (k : Fin k0_t1_loop.trips) : FVec F S256x256 .f32 :=
  k0_pay7 0#32 1#32 k (gateR b x k) (haloR b x k) (tap2 b x) (biasR b x) (tap0 b x) (tap1 b x)
/-- the logistic function's denominator. -/
def denR (k : Fin k0_t1_loop.trips) : FVec F S256x256 .f32 :=
  k0_pay8 0#32 1#32 k (gateR b x k) (haloR b x k) (tap2 b x) (biasR b x) (tap0 b x) (tap1 b x)

variable (c : Dev nD) (i : grid0.Coords)

/-- A trip of the first loop adds the rows' sums and stores two blocks. -/
theorem loop1_succ (k : Fin k0_t1_loop.trips) :
    loop1 c i b x (k.val + 1)
      = ((k0_pay15 (loop1 c i b x k.val).1.1 (gcR b x k) (denR b x k) k0_pay9 (dactR b x k) (valR b x k),
          k0_pay16 (loop1 c i b x k.val).1.2.1 (padR b x k) (gcR b x k) (denR b x k) k0_pay9 (dactR b x k) (valR b x k),
          k0_pay17 (loop1 c i b x k.val).1.2.2.1 (padR b x k) (gcR b x k) (denR b x k) k0_pay9 (dactR b x k) (valR b x k),
          k0_pay3 (loop1 c i b x k.val).1.2.2.2 (k0_pay18 (padR b x k) (gcR b x k) (denR b x k) k0_pay9 (dactR b x k) (valR b x k))),
         ⟨Rect.unit (s := S2x2048x256) (k0_off3 k) S1x256x256.size (k0_off3_inb k), k0_pay12 (gcR b x k) (denR b x k) k0_pay9 (dactR b x k)⟩
           :: (loop1 c i b x k.val).2.1,
         ⟨Rect.unit (s := S2064x256) (k0_off4 k) S256x256.size (k0_off4_inb k), k0_pay14 (gcR b x k) (denR b x k) k0_pay9 (dactR b x k) (valR b x k)⟩
           :: (loop1 c i b x k.val).2.2) := by
  unfold loop1
  rw [st_k0_t1_succ]
  unfold tripR_k0_t1 tripL_k0_t1 trip_k0_t1
  rfl

theorem loop1_zero : loop1 c i b x 0 = ((k0_pay2, k0_pay2, k0_pay2, k0_pay2), [], []) := rfl

/-- A trip of the second loop stores one block. -/
theorem loop2_succ (k : Fin k0_t2_loop.trips) :
    loop2 c i b x (k.val + 1)
      = ⟨Rect.unit (s := S2x2048x256) (k0_off7 k) S1x256x256.size (k0_off7_inb k),
          k0_pay4 (b.arg9.view.readAt (Elt F) (Rect.unit (s := S2064x256) (k0_off5 k) S272x256.size (k0_off5_inb k)).toLoadRect
            (b.harg9.unread (scratch c i b x))) (tap2 b x) (tap0 b x) (tap1 b x)⟩
        :: loop2 c i b x k.val := by
  unfold loop2
  rw [pb_k0_t2_succ]
  unfold tripL_k0_t2 trip_k0_t2
  rfl

theorem loop2_zero : loop2 c i b x 0 = [] := rfl

end Cert.Ffn

end
-- ==== Proof.Scalars.lean ====
/- The scalar equation behind the gated convolution's gradient, on the extended reals: the derivative of
   `g · σ(g)` written as `σ (1 + g (1 − σ))` (the kernel's form) and as the sum `σ + g (σ (1 − σ))` (the form
   differentiation gives), each times a cotangent that is a real number. -/
module

public import Idealize.ShloMosaic.PureOps
public import Idealize.ShloMosaic.PureOps.Ideal.Laws
public import Idealize.ShloMosaic.Lib.IdealHost

@[expose] public section

noncomputable section

namespace Cert.Scalars

open Idealize.ShloMosaic

theorem one_f32 : Ideal.ofBits .f32 0x3F800000#32 = 1 := Idealize.ShloMosaic.Ideal.ofBits_one_f32
theorem zero_f32 : Ideal.ofBits .f32 0x00000000#32 = 0 := Ideal.ofBits_zero_f32
theorem inf_f32 : Ideal.ofBits .f32 0x7F800000#32 = ⊤ := by simp [Ideal.ofBits, Ideal.ieee]

/-- The logistic function as both programs spell it. -/
def sg (g : EReal) : EReal := Ideal.div 1 (1 + Ideal.exp (-g))

theorem sg_eq (g : EReal) : sg g = Ideal.logistic g := rfl

/-- The gradient with respect to the convolution's value, in the kernel's form. -/
def dk (c g : EReal) : EReal := c * (sg g * (1 + g * (1 - sg g)))

/-- The same in the form that differentiation gives. -/
def dr (c g : EReal) : EReal := c * sg g + g * c * (sg g * (1 - sg g))

theorem dk_eq_dr (c g : EReal) (h : c ≠ ⊤) (h' : c ≠ ⊥) : dk c g = dr c g := by
  unfold dk dr
  rw [sg_eq]
  induction c with
  | bot => exact absurd rfl h'
  | top => exact absurd rfl h
  | coe c =>
    induction g with
    | bot => simp
    | top =>
      have e : (1 : EReal) - 1 = 0 := by rw [← EReal.coe_one, ← EReal.coe_sub, sub_self, EReal.coe_zero]
      simp [e]
    | coe g =>
      rw [Ideal.logistic_coe]
      generalize (1 + Real.exp (-g))⁻¹ = s
      rw [← EReal.coe_one]
      norm_cast
      ring

/-- A number whose absolute value is below infinity is a real number. -/
theorem real_of_abs_lt (x : EReal) (h : max x (-x) < ⊤) : x ≠ ⊤ ∧ x ≠ ⊥ := by
  constructor
  · rintro rfl; simp at h
  · rintro rfl; simp at h

theorem mul_real (x y : EReal) (hx : x ≠ ⊤ ∧ x ≠ ⊥) (hy : y ≠ ⊤ ∧ y ≠ ⊥) : x * y ≠ ⊤ ∧ x * y ≠ ⊥ := by
  induction x with
  | bot => exact absurd rfl hx.2
  | top => exact absurd rfl hx.1
  | coe x =>
    induction y with
    | bot => exact absurd rfl hy.2
    | top => exact absurd rfl hy.1
    | coe y => rw [← EReal.coe_mul]; exact ⟨EReal.coe_ne_top _, EReal.coe_ne_bot _⟩

end Cert.Scalars

end
-- ==== Proof.Spec.lean ====
/- One channel of the gated causal convolution and of its gradient, over rows counted by natural numbers. -/
module

public import proofs.«01_k».proof.Proof.Scalars

@[expose] public section

noncomputable section

namespace Cert.Ffn

open Cert.Scalars

/-- A column moved down by `n` rows, zeros coming in at the top. -/
def sh (n : ℕ) (u : ℕ → EReal) (r : ℕ) : EReal := if n ≤ r then u (r - n) else 0

/-- What one channel reads: the gate's, the value's and the cotangent's columns, three taps and the bias. -/
structure Col where
  U : ℕ → EReal
  V : ℕ → EReal
  A : ℕ → EReal
  w0 : EReal
  w1 : EReal
  w2 : EReal
  b : EReal

namespace Col

/-- The convolution's value at row `r`. -/
def gc (x : Col) (r : ℕ) : EReal := ((x.U r * x.w2 + x.b) + sh 2 x.U r * x.w0) + sh 1 x.U r * x.w1
/-- The gradient of the loss with respect to that value. -/
def dgc (x : Col) (r : ℕ) : EReal := dk (x.A r * x.V r) (x.gc r)
/-- The same, zero from row 2048 on. -/
def D (x : Col) (r : ℕ) : EReal := if r < 2048 then x.dgc r else 0
/-- The gradient of the value column. -/
def dval (x : Col) (r : ℕ) : EReal := (x.A r * x.gc r) * sg (x.gc r)
/-- The gradient of the gate column. -/
def dgate (x : Col) (r : ℕ) : EReal := (x.D r * x.w2 + x.D (r + 2) * x.w0) + x.D (r + 1) * x.w1
/-- The sums of the first `n` rows: of the bias' gradient, -/
def sb (x : Col) (n : ℕ) : EReal := ∑ r ∈ Finset.range n, x.dgc r
/-- and of the three taps'. -/
def s0 (x : Col) (n : ℕ) : EReal := ∑ r ∈ Finset.range n, sh 2 x.U r * x.dgc r
def s1 (x : Col) (n : ℕ) : EReal := ∑ r ∈ Finset.range n, sh 1 x.U r * x.dgc r
def s2 (x : Col) (n : ℕ) : EReal := ∑ r ∈ Finset.range n, x.U r * x.dgc r

end Col

/-- A sum over the first `n + k` rows, the last `k` of them numbered by `Fin k`. -/
theorem sum_range_add (f : ℕ → EReal) (n k : ℕ) :
    ∑ r ∈ Finset.range (n + k), f r = ∑ r ∈ Finset.range n, f r + ∑ j : Fin k, f (n + j.val) := by
  rw [Finset.sum_range_add, Finset.sum_range (fun j => f (n + j))]

end Cert.Ffn

end
-- ==== Proof.Payload.lean ====
/- What the loops' vectors hold at a row and a channel, from what they read. -/
module

public import proofs.«01_k».proof.Proof.Gen.KernelIdeal.Skeleton
public import proofs.«01_k».proof.Proof.Spec
public import Idealize.ShloMosaic.Lib.ValueIdx
public import Idealize.ShloMosaic.Lib.KernelVsHost
public import Idealize.ShloMosaic.Lib.Pipeline.Value
public import Idealize.ShloMosaic.PureOps.Ideal.Laws

@[expose] public section

set_option maxRecDepth 16384

noncomputable section

namespace Cert.Ffn

open Cert.KernelIdeal Cert.KernelIdeal.Gen Cert.Scalars
open Idealize.ShloMosaic Idealize.ShloMosaic.ValueIdx

/-- A row broadcast over the block's rows. -/
theorem bcast_row (v : FVec Ideal S1x256 .f32) (r c : Fin 256) :
    broadcastTo S256x256 v broadcasts_S1x256_S256x256 (ix2 r c) = v (ix2 0 c) :=
  broadcastTo_apply _ _ _ _ (by intro a; fin_cases a <;> rfl)

/-- The block's rows seen `n ≤ 16` rows up: rotate by `n` and drop the sixteen rows of the block before. -/
theorem rot_down (n : BitVec 32) (hn : n.toNat ≤ 16) (e : FVec Ideal S272x256 .f32) (r c : Fin 256) :
    extractStridedSlice S256x256 ![16, 0] (dynamicRotate 0 n none e rotates_S272x256_d0) slices_S272x256_o16_0_S256x256 (ix2 r c)
      = e (ix2 ⟨16 + r.val - n.toNat, by have := r.isLt; omega⟩ c) := by
  rw [extractStridedSlice_apply ![16, 0] _ _ (ix2 r c) (ix2 ⟨16 + r.val, by have := r.isLt; omega⟩ c)
    (by intro a; fin_cases a <;> simp [ix2] <;> rfl)]
  refine dynamicRotate_apply 0 n e _ _ _ ?_
  intro a; have := r.isLt
  fin_cases a
  · show 16 + r.val - n.toNat = (16 + r.val + 272 - n.toNat % 272) % 272
    omega
  · rfl

/-- The scratch's rows seen `272 - n` rows further down. -/
theorem rot_up (n : BitVec 32) (j : ℕ) (hn : n.toNat = 272 - j) (h0 : 0 < j) (hj : j ≤ 16) (e : FVec Ideal S272x256 .f32) (r c : Fin 256) :
    extractStridedSlice S256x256 ![0, 0] (dynamicRotate 0 n none e rotates_S272x256_d0) slices_S272x256_o0_0_S256x256 (ix2 r c)
      = e (ix2 ⟨r.val + j, by have := r.isLt; omega⟩ c) := by
  rw [extractStridedSlice_apply ![0, 0] _ _ (ix2 r c) (ix2 ⟨r.val, by have := r.isLt; omega⟩ c)
    (by intro a; fin_cases a <;> simp [ix2] <;> rfl)]
  refine dynamicRotate_apply 0 n e _ _ _ ?_
  intro a; have := r.isLt
  fin_cases a
  · show r.val + j = (r.val + 272 - n.toNat % 272) % 272
    omega
  · rfl

theorem ext_block (e : FVec Ideal S272x256 .f32) (r c : Fin 256) :
    extractStridedSlice S256x256 ![16, 0] e slices_S272x256_o16_0_S256x256 (ix2 r c)
      = e (ix2 ⟨16 + r.val, by have := r.isLt; omega⟩ c) :=
  extractStridedSlice_apply (s := S272x256) (t := S256x256) ![16, 0] e _ (ix2 r c) _ (by intro a; fin_cases a <;> simp [ix2] <;> rfl)

theorem top_block (e : FVec Ideal S272x256 .f32) (r c : Fin 256) :
    extractStridedSlice S256x256 ![0, 0] e slices_S272x256_o0_0_S256x256 (ix2 r c)
      = e (ix2 ⟨r.val, by have := r.isLt; omega⟩ c) :=
  extractStridedSlice_apply (s := S272x256) (t := S256x256) ![0, 0] e _ (ix2 r c) _ (by intro a; fin_cases a <;> simp [ix2] <;> rfl)

/-- A block's column sums, added to what was carried. -/
theorem colsum (acc : FVec Ideal S1x256 .f32) (v : FVec Ideal S256x256 .f32) (c : Fin 256) :
    k0_pay3 acc v (ix2 0 c) = acc (ix2 0 c) + ∑ j : Fin 256, v (ix2 j c) := by
  unfold k0_pay3
  try dsimp only
  rw [addf_apply, shapeCast_apply _ _ (ix2 0 c) (ix1 c) (by rw [Shape.rowMajor_val_one, Shape.rowMajor_val_two]; simp [ix1, ix2])]
  refine (congrArg (acc (ix2 0 c) + ·) (Ideal.multiReduction_add_single (a := 0) v _ reduces_S256x256_S256 (.inl rfl) rfl (ix1 c))).trans ?_
  refine congrArg (acc (ix2 0 c) + ·) ?_
  refine Finset.sum_congr rfl fun j _ => congrArg v ?_
  funext a; apply Fin.ext
  fin_cases a <;> rfl

/-- What one trip of the first loop reads of channel `c` at trip `k`. -/
structure Reads (x : Col) (c : Fin 256) (k : ℕ) (v15 : FVec Ideal S256x256 .bf16) (v21 : FVec Ideal S16x256 .bf16)
    (v27 v30 v35 v41 : FVec Ideal S1x256 .f32) : Prop where
  gate : ∀ r : Fin 256, v15 (ix2 r c) = x.U (256 * k + r.val)
  halo : 0 < k → ∀ e : Fin 16, v21 (ix2 e c) = x.U (256 * k - 16 + e.val)
  w2 : v27 (ix2 0 c) = x.w2
  b : v30 (ix2 0 c) = x.b
  w0 : v35 (ix2 0 c) = x.w0
  w1 : v41 (ix2 0 c) = x.w1

theorem trip_pos : ∀ k : Fin k0_t1_loop.trips,
    Scalar.cmpi .sgt (Scalar.muli (Scf.iv 0#32 1#32 k) 256#32) 0#32 = if 0 < k.val then 1#1 else 0#1 := by decide +kernel

section
variable {x : Col} {c : Fin 256} {k : Fin k0_t1_loop.trips} {v15 : FVec Ideal S256x256 .bf16} {v21 : FVec Ideal S16x256 .bf16}
  {v27 v30 v35 v41 : FVec Ideal S1x256 .f32}

/-- The block under the sixteen rows before it, zeros before the first. -/
theorem pay6_apply (h : Reads x c k.val v15 v21 v27 v30 v35 v41) (e : Fin 272) :
    k0_pay6 (F := Ideal) 0#32 1#32 k v15 v21 (ix2 e c) = sh 16 x.U (256 * k.val + e.val) := by
  unfold k0_pay6
  try dsimp only
  rw [trip_pos]
  by_cases he : e.val < 16
  · rw [concatenate_apply_piece 0 _ _ (ix2 e c) 0 (by simp) S16x256 _ rfl rfl 0 rfl (ix2 ⟨e.val, he⟩ c)
      (by intro a ha; fin_cases a; · exact absurd rfl ha
          · rfl) (by simp [ix2])]
    by_cases hk : 0 < k.val
    · rw [if_pos hk]
      show v21 (ix2 ⟨e.val, he⟩ c) = _
      rw [h.halo hk]; unfold sh
      rw [if_pos (by omega)]
      congr 1; simp only; omega
    · rw [if_neg hk]
      show Ideal.ofBits .f32 0x00000000#32 = _
      rw [zero_f32]; unfold sh
      rw [if_neg (by omega)]
  · rw [concatenate_apply_piece 0 _ _ (ix2 e c) 1 (by simp) S256x256 _ rfl rfl 16 rfl (ix2 ⟨e.val - 16, by have := e.isLt; omega⟩ c)
      (by intro a ha; fin_cases a; · exact absurd rfl ha
          · rfl) (by show 16 + (e.val - 16) = e.val; omega)]
    show v15 (ix2 ⟨e.val - 16, _⟩ c) = _
    rw [h.gate]; unfold sh
    rw [if_pos (by omega)]
    congr 1; simp only; omega

theorem pay6_sh (h : Reads x c k.val v15 v21 v27 v30 v35 v41) (n : BitVec 32) (hn : n.toNat ≤ 16) (r : Fin 256) :
    extractStridedSlice S256x256 ![16, 0] (dynamicRotate 0 n none (k0_pay6 (F := Ideal) 0#32 1#32 k v15 v21) rotates_S272x256_d0)
      slices_S272x256_o16_0_S256x256 (ix2 r c) = sh n.toNat x.U (256 * k.val + r.val) := by
  rw [rot_down n hn, pay6_apply h]
  unfold sh
  simp only
  by_cases hr : n.toNat ≤ 256 * k.val + r.val
  · rw [if_pos hr, if_pos (by omega)]; congr 1; omega
  · rw [if_neg hr, if_neg (by omega)]

theorem pay6_mid (h : Reads x c k.val v15 v21 v27 v30 v35 v41) (r : Fin 256) :
    extractStridedSlice S256x256 ![16, 0] (k0_pay6 (F := Ideal) 0#32 1#32 k v15 v21)
      slices_S272x256_o16_0_S256x256 (ix2 r c) = x.U (256 * k.val + r.val) := by
  rw [ext_block, pay6_apply h]
  unfold sh
  simp only
  rw [if_pos (by omega)]; congr 1; omega

/-- The convolution's value. -/
theorem pay7_apply (h : Reads x c k.val v15 v21 v27 v30 v35 v41) (r : Fin 256) :
    k0_pay7 (F := Ideal) 0#32 1#32 k v15 v21 v27 v30 v35 v41 (ix2 r c) = x.gc (256 * k.val + r.val) := by
  unfold k0_pay7 k0_pay5
  try dsimp only
  simp only [addf_apply, mulf_apply, extf_apply, bcast_row]
  rw [pay6_sh h 2#32 (by decide), pay6_sh h 1#32 (by decide), h.gate, h.w2, h.b, h.w0, h.w1]
  rfl

/-- The logistic function of it. -/
theorem pay10_apply (h : Reads x c k.val v15 v21 v27 v30 v35 v41) (r : Fin 256) :
    k0_pay10 (F := Ideal) (k0_pay8 0#32 1#32 k v15 v21 v27 v30 v35 v41) k0_pay9 (ix2 r c) = sg (x.gc (256 * k.val + r.val)) := by
  unfold k0_pay10 k0_pay9 k0_pay8
  try dsimp only
  rw [divf_apply, addf_apply]
  show Ideal.div (Ideal.ofBits .f32 0x3F800000#32) (Ideal.ofBits .f32 0x3F800000#32 + Ideal.exp (Ideal.ofBits .f32 0x00000000#32 - k0_pay7 (F := Ideal) 0#32 1#32 k v15 v21 v27 v30 v35 v41 (ix2 r c))) = _
  rw [pay7_apply h, one_f32, zero_f32, zero_sub]
  rfl

/-- The gradient of the value column. -/
theorem pay12_apply (h : Reads x c k.val v15 v21 v27 v30 v35 v41) (v53 : FVec Ideal S256x256 .bf16)
    (h53 : ∀ r : Fin 256, v53 (ix2 r c) = x.A (256 * k.val + r.val)) (r : Fin 256) :
    k0_pay12 (F := Ideal) (k0_pay7 0#32 1#32 k v15 v21 v27 v30 v35 v41) (k0_pay8 0#32 1#32 k v15 v21 v27 v30 v35 v41) k0_pay9 v53 (ix3 0 r c)
      = x.dval (256 * k.val + r.val) := by
  unfold k0_pay12
  try dsimp only
  rw [shapeCast_apply _ _ (ix3 0 r c) (ix2 r c) (by rw [Shape.rowMajor_val_two, Shape.rowMajor_val_three]; simp [ix2, ix3])]
  rw [truncf_apply, mulf_apply, mulf_apply, pay10_apply h, pay7_apply h]
  unfold k0_pay11
  try dsimp only
  rw [extf_apply, h53]
  rfl

/-- The gradient of the convolution's value. -/
theorem pay13_apply (h : Reads x c k.val v15 v21 v27 v30 v35 v41) (v53 v63 : FVec Ideal S256x256 .bf16)
    (h53 : ∀ r : Fin 256, v53 (ix2 r c) = x.A (256 * k.val + r.val))
    (h63 : ∀ r : Fin 256, v63 (ix2 r c) = x.V (256 * k.val + r.val)) (r : Fin 256) :
    k0_pay13 (F := Ideal) (k0_pay7 0#32 1#32 k v15 v21 v27 v30 v35 v41) (k0_pay8 0#32 1#32 k v15 v21 v27 v30 v35 v41) k0_pay9 v53 v63 (ix2 r c)
      = x.dgc (256 * k.val + r.val) := by
  unfold k0_pay13 k0_pay11
  try dsimp only
  simp only [mulf_apply, addf_apply, subf_apply, extf_apply]
  rw [pay10_apply h, pay7_apply h, h53, h63]
  show x.A _ * x.V _ * (sg _ * (Ideal.ofBits .f32 0x3F800000#32 + _ * (Ideal.ofBits .f32 0x3F800000#32 - _))) = _
  rw [one_f32]
  rfl

end

theorem pay14_eq (v44 v49 v50 : FVec Ideal S256x256 .f32) (v53 v63 : FVec Ideal S256x256 .bf16) (r c : Fin 256) :
    k0_pay14 (F := Ideal) v44 v49 v50 v53 v63 (ix2 r c) = k0_pay13 v44 v49 v50 v53 v63 (ix2 r c) := by
  unfold k0_pay14
  try dsimp only
  exact shapeCast_apply _ _ _ _ rfl

/-- The second loop's block: the transposed convolution of the scratch's rows. -/
theorem pay4_apply (v15 : FVec Ideal S272x256 .f32) (v17 v22 v28 : FVec Ideal S1x256 .f32) (r c : Fin 256) :
    k0_pay4 (F := Ideal) v15 v17 v22 v28 (ix3 0 r c)
      = (v15 (ix2 ⟨r.val, by have := r.isLt; omega⟩ c) * v17 (ix2 0 c) + v15 (ix2 ⟨r.val + 2, by have := r.isLt; omega⟩ c) * v22 (ix2 0 c))
        + v15 (ix2 ⟨r.val + 1, by have := r.isLt; omega⟩ c) * v28 (ix2 0 c) := by
  unfold k0_pay4
  try dsimp only
  rw [shapeCast_apply _ _ (ix3 0 r c) (ix2 r c) (by rw [Shape.rowMajor_val_two, Shape.rowMajor_val_three]; simp [ix2, ix3])]
  rw [truncf_apply]
  simp only [addf_apply, mulf_apply, bcast_row]
  rw [top_block, rot_up 270#32 2 (by decide) (by decide) (by decide), rot_up 271#32 1 (by decide) (by decide) (by decide)]

end Cert.Ffn

end
-- ==== Proof.BlockValue.lean ====
/- What the body leaves in its three output blocks, channel by channel. -/
module

public import proofs.«01_k».proof.Proof.Step
public import proofs.«01_k».proof.Proof.Payload
public import Idealize.ShloMosaic.Lib.WholeRead
public import Idealize.ShloMosaic.Lib.Writes

@[expose] public section

set_option maxRecDepth 16384

noncomputable section

namespace Cert.Ffn

open Cert.KernelIdeal Cert.KernelIdeal.Gen Cert.Scalars
open Idealize.ShloMosaic Idealize.ShloMosaic.TcCoe Idealize.ShloMosaic.ValueIdx

/-- Channel `q` of a block of 2048 rows, zero past its end. -/
def colOf {n : ℕ} (v : (⟨2, ![2048, n]⟩ : Shape).Idx → EReal) (q : Fin n) (r : ℕ) : EReal :=
  if h : r < 2048 then v (ix2 ⟨r, h⟩ q) else 0

theorem colOf_lt {n : ℕ} (v : (⟨2, ![2048, n]⟩ : Shape).Idx → EReal) (q : Fin n) (r : ℕ) (h : r < 2048) :
    colOf v q r = v (ix2 ⟨r, h⟩ q) := dif_pos h

/-- Channel `q` of the input blocks. -/
def Blocks.col (x : Blocks Ideal) (q : Fin 256) : Col where
  U := colOf x.gate q
  V := colOf x.val q
  A := colOf x.dact q
  w0 := x.w (ix2 0 q)
  w1 := x.w (ix2 1 q)
  w2 := x.w (ix2 2 q)
  b := x.b (ix2 0 q)

theorem trips1 : Scf.trips k0_t1_loop.lb k0_t1_loop.ub k0_t1_loop.st = 8 := by decide +kernel
theorem trips2 : Scf.trips k0_t2_loop.lb k0_t2_loop.ub k0_t2_loop.st = 8 := by decide +kernel
theorem lt8 (k : Fin k0_t1_loop.trips) : k.val < 8 := Nat.lt_of_lt_of_le k.isLt k0_t1_abs.2.1
theorem lt8' (k : Fin k0_t2_loop.trips) : k.val < 8 := Nat.lt_of_lt_of_le k.isLt k0_t2_abs.2.1
theorem off2_eq : ∀ k : Fin k0_t1_loop.trips, k0_off2 k = ![256 * k.val - 16, 0] := by decide +kernel

/-- Where a block of unit stride lies. -/
theorem unit_emb_val {s : Shape} (off size : Fin s.rank → ℕ) (inb) (y : (Rect.unit off size inb).shape.Idx) (a : Fin s.rank) :
    ((Rect.unit off size inb).emb y a).val = off a + (y a).val := by
  show off a + 1 * (y a).val = _; omega

/-- The four sums of a trip, each as what was carried plus a block's column sums. -/
theorem pay15_sum (acc : FVec Ideal S1x256 .f32) (v44 v49 v50 : FVec Ideal S256x256 .f32) (v53 v63 : FVec Ideal S256x256 .bf16) (q : Fin 256) :
    k0_pay15 acc v44 v49 v50 v53 v63 (ix2 0 q) = acc (ix2 0 q) + ∑ j : Fin 256, k0_pay13 v44 v49 v50 v53 v63 (ix2 j q) :=
  colsum acc (k0_pay13 v44 v49 v50 v53 v63) q
theorem pay16_sum (acc : FVec Ideal S1x256 .f32) (v26 : FVec Ideal S272x256 .f32) (v44 v49 v50 : FVec Ideal S256x256 .f32) (v53 v63 : FVec Ideal S256x256 .bf16) (q : Fin 256) :
    k0_pay16 acc v26 v44 v49 v50 v53 v63 (ix2 0 q) = acc (ix2 0 q) + ∑ j : Fin 256,
      extractStridedSlice S256x256 ![16, 0] (dynamicRotate 0 2#32 none v26 rotates_S272x256_d0) slices_S272x256_o16_0_S256x256 (ix2 j q)
        * k0_pay13 v44 v49 v50 v53 v63 (ix2 j q) := by
  have e : k0_pay16 acc v26 v44 v49 v50 v53 v63 = k0_pay3 acc (mulf (extractStridedSlice S256x256 ![16, 0] (dynamicRotate 0 2#32 none v26 rotates_S272x256_d0) slices_S272x256_o16_0_S256x256) (k0_pay13 v44 v49 v50 v53 v63)) := by
    unfold k0_pay16 k0_pay3
    rfl
  rw [e, colsum]
  exact congrArg _ (Finset.sum_congr rfl fun j _ => by rw [mulf_apply])
theorem pay17_sum (acc : FVec Ideal S1x256 .f32) (v26 : FVec Ideal S272x256 .f32) (v44 v49 v50 : FVec Ideal S256x256 .f32) (v53 v63 : FVec Ideal S256x256 .bf16) (q : Fin 256) :
    k0_pay17 acc v26 v44 v49 v50 v53 v63 (ix2 0 q) = acc (ix2 0 q) + ∑ j : Fin 256,
      extractStridedSlice S256x256 ![16, 0] (dynamicRotate 0 1#32 none v26 rotates_S272x256_d0) slices_S272x256_o16_0_S256x256 (ix2 j q)
        * k0_pay13 v44 v49 v50 v53 v63 (ix2 j q) := by
  have e : k0_pay17 acc v26 v44 v49 v50 v53 v63 = k0_pay3 acc (mulf (extractStridedSlice S256x256 ![16, 0] (dynamicRotate 0 1#32 none v26 rotates_S272x256_d0) slices_S272x256_o16_0_S256x256) (k0_pay13 v44 v49 v50 v53 v63)) := by
    unfold k0_pay17 k0_pay3
    rfl
  rw [e, colsum]
  exact congrArg _ (Finset.sum_congr rfl fun j _ => by rw [mulf_apply])
theorem pay18_apply (v26 : FVec Ideal S272x256 .f32) (v44 v49 v50 : FVec Ideal S256x256 .f32) (v53 v63 : FVec Ideal S256x256 .bf16) (j q : Fin 256) :
    k0_pay18 v26 v44 v49 v50 v53 v63 (ix2 j q)
      = extractStridedSlice S256x256 ![16, 0] v26 slices_S272x256_o16_0_S256x256 (ix2 j q) * k0_pay13 v44 v49 v50 v53 v63 (ix2 j q) := by
  unfold k0_pay18
  exact mulf_apply _ _ _

/-- The rows below the last are filled with zeros. -/
theorem pay1_apply (j : S16x256.Idx) : k0_pay1 (F := Ideal) j = 0 := by
  unfold k0_pay1
  exact (shapeCast_apply (s := S16x256) (t := S16x256) _ _ j j rfl).trans zero_f32

variable (b : Bufs) (x : Blocks Ideal) (q : Fin 256)

/-- Rows `o …` of a block of 2048 rows, as loaded. -/
theorem load_rows {n : ℕ} (mem : Memref sig .tc .vmem S2048x256 .bf16) (h : mem.IsWhole) (X : FVec Ideal S2048x256 .bf16)
    (off : Fin 2 → ℕ) (inb) (o : ℕ) (ho : off = ![o, 0]) (r : Fin n) :
    mem.view.readAt (Elt Ideal) (Rect.unit (s := S2048x256) off ![n, 256] inb).toLoadRect (h.unread X) (ix2 r q)
      = colOf X q (o + r.val) := by
  subst ho
  rw [h.readAt_unread]
  have hb := inb 0
  have hr := r.isLt
  simp at hb
  rw [colOf_lt X q (o + r.val) (by omega)]
  refine congrArg X (funext fun a => Fin.ext ?_)
  fin_cases a
  · show o + 1 * r.val = o + r.val; omega
  · show 0 + 1 * q.val = q.val; omega

theorem gateR_apply (k : Fin k0_t1_loop.trips) (r : Fin 256) : gateR b x k (ix2 r q) = (x.col q).U (256 * k.val + r.val) :=
  load_rows q _ _ _ _ (k0_off1_inb k) _ (k0_off1_eq k) r
theorem valR_apply (k : Fin k0_t1_loop.trips) (r : Fin 256) : valR b x k (ix2 r q) = (x.col q).V (256 * k.val + r.val) :=
  load_rows q _ _ _ _ (k0_off1_inb k) _ (k0_off1_eq k) r
theorem dactR_apply (k : Fin k0_t1_loop.trips) (r : Fin 256) : dactR b x k (ix2 r q) = (x.col q).A (256 * k.val + r.val) :=
  load_rows q _ _ _ _ (k0_off1_inb k) _ (k0_off1_eq k) r
theorem haloR_apply (k : Fin k0_t1_loop.trips) (r : Fin 16) : haloR b x k (ix2 r q) = (x.col q).U (256 * k.val - 16 + r.val) :=
  load_rows q _ _ _ _ (k0_off2_inb k) _ (off2_eq k) r

theorem tap_apply (i : Fin 3) (inb) :
    b.arg4.view.readAt (Elt Ideal) (Rect.unit (s := S3x256) ![i.val, 0] S1x256.size inb).toLoadRect (b.harg4.unread x.w) (ix2 0 q)
      = x.w (ix2 i q) := by
  rw [b.harg4.readAt_unread]
  refine congrArg x.w (funext fun a => Fin.ext ?_)
  fin_cases a
  · show i.val + 1 * 0 = i.val; omega
  · show 0 + 1 * q.val = q.val; omega

theorem tap0_apply : tap0 b x (ix2 0 q) = (x.col q).w0 := tap_apply b x q 0 _
theorem tap1_apply : tap1 b x (ix2 0 q) = (x.col q).w1 := tap_apply b x q 1 _
theorem tap2_apply : tap2 b x (ix2 0 q) = (x.col q).w2 := tap_apply b x q 2 _
theorem bias_apply : biasR b x (ix2 0 q) = (x.col q).b := by
  unfold biasR
  rw [b.harg5.readAt_unread]
  refine congrArg x.b (funext fun a => Fin.ext ?_)
  fin_cases a
  · rfl
  · show 0 + 1 * q.val = q.val; omega

theorem reads (k : Fin k0_t1_loop.trips) :
    Reads (x.col q) q k.val (gateR b x k) (haloR b x k) (tap2 b x) (biasR b x) (tap0 b x) (tap1 b x) :=
  ⟨gateR_apply b x q k, fun _ => haloR_apply b x q k, tap2_apply b x q, bias_apply b x q, tap0_apply b x q, tap1_apply b x q⟩

variable (c : Dev nD) (i : grid0.Coords)

/-- The gradient of the convolution's value, as a trip computes it. -/
theorem dgcR_apply (k : Fin k0_t1_loop.trips) (r : Fin 256) :
    k0_pay13 (F := Ideal) (gcR b x k) (denR b x k) k0_pay9 (dactR b x k) (valR b x k) (ix2 r q) = (x.col q).dgc (256 * k.val + r.val) :=
  pay13_apply (reads b x q k) _ _ (dactR_apply b x q k) (valR_apply b x q k) r

/-- What the gradient block is to hold. -/
def dupG : S2x2048x256.Idx → EReal := fun j =>
  if (j 0).val = 1 then (x.col (j 2)).dval (j 1).val else (x.col (j 2)).dgate (j 1).val
/-- What the scratch is to hold. -/
def scrG : S2064x256.Idx → EReal := fun j => (x.col (j 1)).D (j 0).val

/-- The running sums and the pieces after `n` trips. -/
structure Inv (n : ℕ) : Prop where
  sb : ∀ q, (loop1 c i b x n).1.1 (ix2 0 q) = (x.col q).sb (256 * n)
  s0 : ∀ q, (loop1 c i b x n).1.2.1 (ix2 0 q) = (x.col q).s0 (256 * n)
  s1 : ∀ q, (loop1 c i b x n).1.2.2.1 (ix2 0 q) = (x.col q).s1 (256 * n)
  s2 : ∀ q, (loop1 c i b x n).1.2.2.2 (ix2 0 q) = (x.col q).s2 (256 * n)
  dup : ∀ p ∈ (loop1 c i b x n).2.1, ∀ y : p.1.shape.Idx, p.2 y = dupG x (p.1.emb y)
  scr : ∀ p ∈ (loop1 c i b x n).2.2, ∀ y : p.1.shape.Idx, p.2 y = scrG x (p.1.emb y)

theorem inv_zero : Inv b x c i 0 := by
  refine ⟨?_, ?_, ?_, ?_, ?_, ?_⟩
  · intro q; rw [loop1_zero]; exact zero_f32
  · intro q; rw [loop1_zero]; exact zero_f32
  · intro q; rw [loop1_zero]; exact zero_f32
  · intro q; rw [loop1_zero]; exact zero_f32
  · intro p hp; rw [loop1_zero] at hp; exact absurd hp List.not_mem_nil
  · intro p hp; rw [loop1_zero] at hp; exact absurd hp List.not_mem_nil

theorem inv_succ (k : Fin k0_t1_loop.trips) (h : Inv b x c i k.val) : Inv b x c i (k.val + 1) := by
  have hk := lt8 k
  refine ⟨?_, ?_, ?_, ?_, ?_, ?_⟩
  · intro q
    rw [loop1_succ, Nat.mul_succ]
    unfold Col.sb
    rw [sum_range_add]
    dsimp only
    rw [pay15_sum, h.sb q]
    exact congrArg _ (Finset.sum_congr rfl fun r _ => dgcR_apply b x q k r)
  · intro q
    rw [loop1_succ, Nat.mul_succ]
    unfold Col.s0
    rw [sum_range_add]
    dsimp only
    rw [pay16_sum, h.s0 q]
    exact congrArg _ (Finset.sum_congr rfl fun r _ => congrArg₂ (· * ·) (pay6_sh (reads b x q k) 2#32 (by decide) r) (dgcR_apply b x q k r))
  · intro q
    rw [loop1_succ, Nat.mul_succ]
    unfold Col.s1
    rw [sum_range_add]
    dsimp only
    rw [pay17_sum, h.s1 q]
    exact congrArg _ (Finset.sum_congr rfl fun r _ => congrArg₂ (· * ·) (pay6_sh (reads b x q k) 1#32 (by decide) r) (dgcR_apply b x q k r))
  · intro q
    rw [loop1_succ, Nat.mul_succ]
    unfold Col.s2
    rw [sum_range_add]
    dsimp only
    rw [colsum, h.s2 q]
    exact congrArg _ (Finset.sum_congr rfl fun r _ => (pay18_apply _ _ _ _ _ _ r q).trans
      (congrArg₂ (· * ·) (pay6_mid (reads b x q k) r) (dgcR_apply b x q k r)))
  · intro p hp
    rw [loop1_succ] at hp
    rcases List.mem_cons.1 hp with rfl | hp
    · intro y
      obtain ⟨y0, y1, y2, rfl⟩ : ∃ (y0 : Fin 1) (y1 y2 : Fin 256), y = ix3 y0 y1 y2 := ⟨y 0, y 1, y 2, eq_ix3 y⟩
      obtain rfl : y0 = 0 := Subsingleton.elim _ _
      refine (pay12_apply (reads b x y2 k) _ (dactR_apply b x y2 k) y1).trans ?_
      have e : (Rect.unit (s := S2x2048x256) (k0_off3 k) S1x256x256.size (k0_off3_inb k)).emb (ix3 0 y1 y2)
          = ix3 (1 : Fin 2) (⟨256 * k.val + y1.val, by have := y1.isLt; omega⟩ : Fin 2048) y2 := by
        funext a; apply Fin.ext
        refine (unit_emb_val _ _ _ _ a).trans ?_
        refine (congrArg (· + _) (congrFun (k0_off3_eq k) a)).trans ?_
        fin_cases a
        · rfl
        · rfl
        · show 0 + y2.val = y2.val; omega
      rw [e]
      exact (if_pos rfl).symm
    · exact h.dup p hp
  · intro p hp
    rw [loop1_succ] at hp
    rcases List.mem_cons.1 hp with rfl | hp
    · intro y
      obtain ⟨y1, y2, rfl⟩ : ∃ (y1 y2 : Fin 256), y = ix2 y1 y2 := ⟨y 0, y 1, eq_ix2 y⟩
      refine (pay14_eq _ _ _ _ _ y1 y2).trans ((dgcR_apply b x y2 k y1).trans ?_)
      have e : (Rect.unit (s := S2064x256) (k0_off4 k) S256x256.size (k0_off4_inb k)).emb (ix2 y1 y2)
          = ix2 (⟨256 * k.val + y1.val, by have := y1.isLt; omega⟩ : Fin 2064) y2 := by
        funext a; apply Fin.ext
        refine (unit_emb_val _ _ _ _ a).trans ?_
        refine (congrArg (· + _) (congrFun (k0_off4_eq k) a)).trans ?_
        fin_cases a
        · rfl
        · show 0 + y2.val = y2.val; omega
      rw [e]
      unfold scrG Col.D
      refine (if_pos ?_).symm
      show 256 * k.val + y1.val < 2048
      have := y1.isLt; omega
    · exact h.scr p hp

theorem inv_all : ∀ n, n ≤ 8 → Inv b x c i n
  | 0, _ => inv_zero b x c i
  | n + 1, h => inv_succ b x c i ⟨n, by show n < Scf.trips _ _ _; rw [trips1]; omega⟩ (inv_all n (by omega))

/-- The scratch after the first loop: the gradient of the convolution's value, zero below its last row. -/
theorem scratch_apply (r : Fin 2064) (q : Fin 256) : scratch c i b x (ix2 r q) = (x.col q).D r.val := by
  unfold scratch
  refine (View.read_writes_apply_of_pieces _ _ (scrG x) _ ?_ _ (scratch_cover c i b x _)).trans rfl
  intro p hp
  unfold scratchL at hp
  rcases List.mem_append.1 hp with hp | hp
  · rw [trips1] at hp
    exact (inv_all b x c i 8 le_rfl).scr p hp
  · obtain rfl := List.mem_singleton.1 hp
    intro y
    obtain ⟨y1, y2, rfl⟩ : ∃ (y1 : Fin 16) (y2 : Fin 256), y = ix2 y1 y2 := ⟨y 0, y 1, eq_ix2 y⟩
    have e : (Rect.unit (s := S2064x256) ![2048, 0] S16x256.size inb_S2064x256_S16x256_2048_0).emb (ix2 y1 y2)
        = ix2 (⟨2048 + y1.val, by have := y1.isLt; omega⟩ : Fin 2064) y2 := by
      funext a; apply Fin.ext
      refine (unit_emb_val _ _ _ _ a).trans ?_
      fin_cases a
      · rfl
      · show 0 + y2.val = y2.val; omega
    rw [e]
    unfold scrG Col.D
    refine Eq.trans ?_ (if_neg ?_).symm
    · exact pay1_apply (ix2 y1 y2)
    · show ¬ 2048 + y1.val < 2048
      omega

/-- The second loop's pieces. -/
theorem loop2_pieces : ∀ n, n ≤ 8 → ∀ p ∈ loop2 c i b x n, ∀ y : p.1.shape.Idx, p.2 y = dupG x (p.1.emb y)
  | 0, _, p, hp => by rw [loop2_zero] at hp; exact absurd hp List.not_mem_nil
  | n + 1, h, p, hp => by
    have hn : n < k0_t2_loop.trips := by show n < Scf.trips _ _ _; rw [trips2]; omega
    rw [show n + 1 = (⟨n, hn⟩ : Fin k0_t2_loop.trips).val + 1 from rfl, loop2_succ] at hp
    rcases List.mem_cons.1 hp with rfl | hp
    · intro y
      obtain ⟨y0, y1, y2, rfl⟩ : ∃ (y0 : Fin 1) (y1 y2 : Fin 256), y = ix3 y0 y1 y2 := ⟨y 0, y 1, y 2, eq_ix3 y⟩
      obtain rfl : y0 = 0 := Subsingleton.elim _ _
      have e : (Rect.unit (s := S2x2048x256) (k0_off7 ⟨n, hn⟩) S1x256x256.size (k0_off7_inb ⟨n, hn⟩)).emb (ix3 0 y1 y2)
          = ix3 (0 : Fin 2) (⟨256 * n + y1.val, by have := y1.isLt; omega⟩ : Fin 2048) y2 := by
        funext a; apply Fin.ext
        refine (unit_emb_val _ _ _ _ a).trans ?_
        refine (congrArg (· + _) (congrFun (k0_off7_eq ⟨n, hn⟩) a)).trans ?_
        fin_cases a
        · rfl
        · rfl
        · show 0 + y2.val = y2.val; omega
      rw [e]
      have ld : ∀ j : Fin 272, b.arg9.view.readAt (Elt Ideal) (Rect.unit (s := S2064x256) (k0_off5 ⟨n, hn⟩) S272x256.size (k0_off5_inb ⟨n, hn⟩)).toLoadRect
            (b.harg9.unread (scratch c i b x)) (ix2 j y2) = (x.col y2).D (256 * n + j.val) := by
        intro j
        rw [b.harg9.readAt_unread]
        rw [← scratch_apply b x c i ⟨256 * n + j.val, by have := j.isLt; omega⟩ y2]
        refine congrArg (scratch c i b x) (funext fun a => Fin.ext ?_)
        have e5 := k0_off5_eq ⟨n, hn⟩
        fin_cases a
        · show k0_off5 ⟨n, hn⟩ 0 + 1 * j.val = 256 * n + j.val
          rw [e5]; show 256 * n + 1 * j.val = _; omega
        · show k0_off5 ⟨n, hn⟩ 1 + 1 * y2.val = y2.val
          rw [e5]; show 0 + 1 * y2.val = _; omega
      refine (pay4_apply _ _ _ _ y1 y2).trans ?_
      rw [ld, ld, ld, tap0_apply, tap1_apply, tap2_apply]
      exact (if_neg (by show ¬ (0 : ℕ) = 1; decide)).symm
    · exact loop2_pieces n (by omega) p hp

/-- The gradient block: the gate's plane, -/
theorem dupB_apply (j : S2x2048x256.Idx) : dupB c i b x j = dupG x j := by
  unfold dupB
  refine View.read_writes_apply_of_pieces _ _ (dupG x) _ ?_ _ (dup_cover c i b x _)
  intro p hp
  unfold dupL at hp
  rcases List.mem_append.1 hp with hp | hp
  · rw [trips2] at hp; exact loop2_pieces b x c i 8 le_rfl p hp
  · rw [trips1] at hp; exact (inv_all b x c i 8 le_rfl).dup p hp

/-- What the taps' block is to hold. -/
def dwG : S3x256.Idx → EReal := fun j =>
  if (j 0).val = 0 then (x.col (j 1)).s0 2048 else if (j 0).val = 1 then (x.col (j 1)).s1 2048 else (x.col (j 1)).s2 2048

theorem dw_cover : ∀ y, ∃ p ∈ dwL c i b x, y ∈ p.1.set :=
  View.cover_of_tiledL (dwL c i b x) S1x256.size (by sl_kernel_rfl)

theorem dw_piece (r : Fin 3) (v : FVec Ideal S1x256 .f32) (inb) (hv : ∀ q, v (ix2 0 q) = dwG x (ix2 r q)) :
    ∀ y : (Rect.unit (s := S3x256) ![r.val, 0] S1x256.size inb).shape.Idx, v y = dwG x ((Rect.unit (s := S3x256) ![r.val, 0] S1x256.size inb).emb y) := by
  intro y
  obtain ⟨y0, y1, rfl⟩ : ∃ (y0 : Fin 1) (y1 : Fin 256), y = ix2 y0 y1 := ⟨y 0, y 1, eq_ix2 y⟩
  obtain rfl : y0 = 0 := Subsingleton.elim _ _
  rw [hv]
  refine congrArg (dwG x) (funext fun a => Fin.ext ?_)
  refine Eq.trans ?_ (unit_emb_val _ _ _ _ a).symm
  fin_cases a
  · rfl
  · show y1.val = 0 + y1.val; omega

theorem dwB_apply (j : S3x256.Idx) : dwB c i b x j = dwG x j := by
  unfold dwB
  refine View.read_writes_apply_of_pieces _ _ (dwG x) _ ?_ _ (dw_cover b x c i _)
  intro p hp
  have h := inv_all b x c i 8 le_rfl
  unfold dwL at hp
  rw [trips1] at hp
  simp only [List.mem_cons, List.not_mem_nil, or_false] at hp
  rcases hp with rfl | rfl | rfl
  · exact dw_piece x 2 _ inb_S3x256_S1x256_2_0 h.s2
  · exact dw_piece x 1 _ inb_S3x256_S1x256_1_0 h.s1
  · exact dw_piece x 0 _ inb_S3x256_S1x256_0_0 h.s0

theorem dbB_apply (q : Fin 256) : dbB c i b x (ix2 0 q) = (x.col q).sb 2048 := by
  unfold dbB
  refine (View.read_writes_apply_of_pieces _ _ (fun j : S1x256.Idx => (x.col (j 1)).sb 2048) _ ?_ _
    (View.cover_of_tiledL (dbL c i b x) S1x256.size (by sl_kernel_rfl) _)).trans rfl
  intro p hp
  have h := inv_all b x c i 8 le_rfl
  unfold dbL at hp
  rw [trips1] at hp
  obtain rfl := List.mem_singleton.1 hp
  intro y
  obtain ⟨y0, y1, rfl⟩ : ∃ (y0 : Fin 1) (y1 : Fin 256), y = ix2 y0 y1 := ⟨y 0, y 1, eq_ix2 y⟩
  obtain rfl : y0 = 0 := Subsingleton.elim _ _
  refine (h.sb y1).trans ?_
  refine congrArg (fun t => (x.col t).sb 2048) (Fin.ext ?_)
  refine Eq.trans ?_ (unit_emb_val (s := S1x256) ![0, 0] S1x256.size inb_S1x256_S1x256_0_0 (ix2 0 y1) (1 : Fin 2)).symm
  show y1.val = 0 + y1.val; omega

end Cert.Ffn

end
-- ==== Proof.Array.lean ====
/- The three output arrays of the call as functions of its arguments, channel by channel. -/
module

public import proofs.«01_k».proof.Proof.BlockValue
public import proofs.«01_k».proof.Proof.CallRun
public import Idealize.ShloMosaic.Lib.Pipeline.ValueKit.Geometry

@[expose] public section

set_option maxRecDepth 16384

noncomputable section

namespace Cert.Ffn

open Cert.KernelIdeal Cert.KernelIdeal.Gen Cert.Scalars
open Idealize.ShloMosaic Idealize.ShloMosaic.TcCoe Idealize.ShloMosaic.ValueIdx
open Idealize.ShloMosaic.Pipeline (Dat Cfg Window)

/-- Channel `q` of the arguments: the gate in the first 2816 lanes of `a0`, the value in the last. -/
def argCol (a0 : S2048x5632.Idx → EReal) (a1 : S2048x2816.Idx → EReal) (a2 : S3x2816.Idx → EReal) (a3 : S1x2816.Idx → EReal)
    (q : Fin 2816) : Col where
  U := colOf a0 (⟨q.val, by have := q.isLt; omega⟩ : Fin 5632)
  V := colOf a0 (⟨2816 + q.val, by have := q.isLt; omega⟩ : Fin 5632)
  A := colOf a1 q
  w0 := a2 (ix2 0 q)
  w1 := a2 (ix2 1 q)
  w2 := a2 (ix2 2 q)
  b := a3 (ix2 0 q)

/-- Both gradients, the gate's plane first. -/
def dupOf (x : Fin 2816 → Col) : S2x2048x2816.Idx → EReal := fun j =>
  if (j 0).val = 1 then (x (j 2)).dval (j 1).val else (x (j 2)).dgate (j 1).val
/-- The taps' gradients. -/
def dwOf (x : Fin 2816 → Col) : S3x2816.Idx → EReal := fun j =>
  if (j 0).val = 0 then (x (j 1)).s0 2048 else if (j 0).val = 1 then (x (j 1)).s1 2048 else (x (j 1)).s2 2048
/-- The bias' gradient. -/
def dbOf (x : Fin 2816 → Col) : S1x2816.Idx → EReal := fun j => (x (j 1)).sb 2048

theorem index0 : ∀ t : Fin grid0.N, win0_0.index t = ![0, t.val] := by decide +kernel
theorem index1 : ∀ t : Fin grid0.N, win0_1.index t = ![0, 11 + t.val] := by decide +kernel
theorem index2 : ∀ t : Fin grid0.N, win0_2.index t = ![0, t.val] := by decide +kernel
theorem index3 : ∀ t : Fin grid0.N, win0_3.index t = ![0, t.val] := by decide +kernel
theorem index4 : ∀ t : Fin grid0.N, win0_4.index t = ![0, t.val] := by decide +kernel
theorem index5 : ∀ t : Fin grid0.N, win0_5.index t = ![0, 0, t.val] := by decide +kernel
theorem index6 : ∀ t : Fin grid0.N, win0_6.index t = ![0, t.val] := by decide +kernel
theorem index7 : ∀ t : Fin grid0.N, win0_7.index t = ![0, t.val] := by decide +kernel
theorem points : grid0.N = 11 := by decide +kernel

variable (m : (ℓ : Loc nD τ sig) → Buf (Elt Ideal) ℓ)

/-- The channels of the arguments as the memory holds them. -/
def chan (c : Dev nD) : Fin 2816 → Col :=
  argCol (m ((c : Thread nD τ).loc main_arg0)) (m ((c : Thread nD τ).loc main_arg1)) (m ((c : Thread nD τ).loc main_arg2)) (m ((c : Thread nD τ).loc main_arg3))

/-- The channel of lane `q` of point `t`. -/
def lane (t : Fin cfg0.N) (q : Fin 256) : Fin 2816 := ⟨256 * t.val + q.val, by
  have h1 : t.val < 11 := lt_of_lt_of_eq t.isLt points
  have h2 := q.isLt
  omega⟩

theorem iblk0_apply (c : Dev nD) (t : Fin cfg0.N) (r : Fin 2048) (q : Fin 256) :
    iblk m c 0 t (ix2 r q) = m ((c : Thread nD τ).loc main_arg0) (ix2 r (⟨(lane t q).val, by have := (lane t q).isLt; omega⟩ : Fin 5632)) := by
  refine congrArg (m ((c : Thread nD τ).loc main_arg0)) (funext fun a => Fin.ext ?_)
  refine (win0_0.rect_emb_val t (ix2 r q) a).trans ?_
  refine (congrArg (· * _ + _) (congrFun (index0 t) a)).trans ?_
  fin_cases a
  · show 0 * 2048 + r.val = r.val; omega
  · show t.val * 256 + q.val = 256 * t.val + q.val; omega

theorem iblk1_apply (c : Dev nD) (t : Fin cfg0.N) (r : Fin 2048) (q : Fin 256) :
    iblk m c 1 t (ix2 r q) = m ((c : Thread nD τ).loc main_arg0) (ix2 r (⟨2816 + (lane t q).val, by have := (lane t q).isLt; omega⟩ : Fin 5632)) := by
  refine congrArg (m ((c : Thread nD τ).loc main_arg0)) (funext fun a => Fin.ext ?_)
  refine (win0_1.rect_emb_val t (ix2 r q) a).trans ?_
  refine (congrArg (· * _ + _) (congrFun (index1 t) a)).trans ?_
  fin_cases a
  · show 0 * 2048 + r.val = r.val; omega
  · show (11 + t.val) * 256 + q.val = 2816 + (256 * t.val + q.val); omega

theorem iblk2_apply (c : Dev nD) (t : Fin cfg0.N) (r : Fin 2048) (q : Fin 256) :
    iblk m c 2 t (ix2 r q) = m ((c : Thread nD τ).loc main_arg1) (ix2 r (lane t q)) := by
  refine congrArg (m ((c : Thread nD τ).loc main_arg1)) (funext fun a => Fin.ext ?_)
  refine (win0_2.rect_emb_val t (ix2 r q) a).trans ?_
  refine (congrArg (· * _ + _) (congrFun (index2 t) a)).trans ?_
  fin_cases a
  · show 0 * 2048 + r.val = r.val; omega
  · show t.val * 256 + q.val = 256 * t.val + q.val; omega

theorem iblk3_apply (c : Dev nD) (t : Fin cfg0.N) (r : Fin 3) (q : Fin 256) :
    iblk m c 3 t (ix2 r q) = m ((c : Thread nD τ).loc main_arg2) (ix2 r (lane t q)) := by
  refine congrArg (m ((c : Thread nD τ).loc main_arg2)) (funext fun a => Fin.ext ?_)
  refine (win0_3.rect_emb_val t (ix2 r q) a).trans ?_
  refine (congrArg (· * _ + _) (congrFun (index3 t) a)).trans ?_
  fin_cases a
  · show 0 * 3 + r.val = r.val; omega
  · show t.val * 256 + q.val = 256 * t.val + q.val; omega

theorem iblk4_apply (c : Dev nD) (t : Fin cfg0.N) (r : Fin 1) (q : Fin 256) :
    iblk m c 4 t (ix2 r q) = m ((c : Thread nD τ).loc main_arg3) (ix2 r (lane t q)) := by
  refine congrArg (m ((c : Thread nD τ).loc main_arg3)) (funext fun a => Fin.ext ?_)
  refine (win0_4.rect_emb_val t (ix2 r q) a).trans ?_
  refine (congrArg (· * _ + _) (congrFun (index4 t) a)).trans ?_
  fin_cases a
  · show 0 * 1 + r.val = r.val; omega
  · show t.val * 256 + q.val = 256 * t.val + q.val; omega

/-- A column of a block is the column of the array it was cut from. -/
theorem colOf_congr {n k : ℕ} (v : (⟨2, ![2048, n]⟩ : Shape).Idx → EReal) (u : (⟨2, ![2048, k]⟩ : Shape).Idx → EReal) (p : Fin n) (q : Fin k)
    (h : ∀ r : Fin 2048, v (ix2 r p) = u (ix2 r q)) : colOf v p = colOf u q := by
  funext r
  unfold colOf
  split
  · exact h _
  · rfl

theorem blocks_col (c : Dev nD) (t : Fin cfg0.N) (q : Fin 256) : (blocks m c t).col q = chan m c (lane t q) := by
  show Col.mk _ _ _ _ _ _ _ = Col.mk _ _ _ _ _ _ _
  refine Col.mk.injEq .. |>.mpr ⟨?_, ?_, ?_, ?_, ?_, ?_, ?_⟩
  · exact colOf_congr _ _ _ _ fun r => iblk0_apply m c t r q
  · exact colOf_congr _ _ _ _ fun r => iblk1_apply m c t r q
  · exact colOf_congr _ _ _ _ fun r => iblk2_apply m c t r q
  · exact iblk3_apply m c t 0 q
  · exact iblk3_apply m c t 1 q
  · exact iblk3_apply m c t 2 q
  · exact iblk4_apply m c t 0 q

theorem covers5 : win0_5.Covers := by decide +kernel
theorem covers6 : win0_6.Covers := by decide +kernel
theorem covers7 : win0_7.Covers := by decide +kernel

theorem dupG_at (x : Blocks Ideal) (p : Fin 2) (r : Fin 2048) (q : Fin 256) :
    dupG x (ix3 p r q) = if p.val = 1 then (x.col q).dval r.val else (x.col q).dgate r.val := rfl
theorem dupOf_at (x : Fin 2816 → Col) (p : Fin 2) (r : Fin 2048) (q : Fin 2816) :
    dupOf x (ix3 p r q) = if p.val = 1 then (x q).dval r.val else (x q).dgate r.val := rfl
theorem dwG_at (x : Blocks Ideal) (p : Fin 3) (q : Fin 256) :
    dwG x (ix2 p q) = if p.val = 0 then (x.col q).s0 2048 else if p.val = 1 then (x.col q).s1 2048 else (x.col q).s2 2048 := rfl
theorem dwOf_at (x : Fin 2816 → Col) (p : Fin 3) (q : Fin 2816) :
    dwOf x (ix2 p q) = if p.val = 0 then (x q).s0 2048 else if p.val = 1 then (x q).s1 2048 else (x q).s2 2048 := rfl

/-- The gradient of both halves, as the call leaves it; -/
theorem arr5 (c : Dev nD) : (dat m 0 c).arrAt 5 cfg0.N = dupOf (chan m c) := by
  refine (dat m 0 c).arrAt_eq_of_covers 5 (dupOf (chan m c)) covers5 fun t _ y => ?_
  rw [after_5]
  obtain ⟨y0, y1, y2, rfl⟩ : ∃ (y0 : Fin 2) (y1 : Fin 2048) (y2 : Fin 256), y = ix3 y0 y1 y2 := ⟨y 0, y 1, y 2, eq_ix3 y⟩
  refine (dupB_apply _ _ c _ (ix3 y0 y1 y2)).trans ?_
  have e : (win0_5.blk t).view.emb (ix3 y0 y1 y2) = ix3 y0 y1 (lane t y2) := by
    funext a; apply Fin.ext
    refine (win0_5.rect_emb_val t (ix3 y0 y1 y2) a).trans ?_
    refine (congrArg (· * _ + _) (congrFun (index5 t) a)).trans ?_
    fin_cases a
    · show 0 * 2 + y0.val = y0.val; omega
    · show 0 * 2048 + y1.val = y1.val; omega
    · show t.val * 256 + y2.val = 256 * t.val + y2.val; omega
  refine Eq.trans ?_ (congrArg (dupOf (chan m c)) e).symm
  rw [dupG_at, dupOf_at, blocks_col m c t]

/-- the gradient of the taps; -/
theorem arr6 (c : Dev nD) : (dat m 0 c).arrAt 6 cfg0.N = dwOf (chan m c) := by
  refine (dat m 0 c).arrAt_eq_of_covers 6 (dwOf (chan m c)) covers6 fun t _ y => ?_
  rw [after_6]
  obtain ⟨y0, y1, rfl⟩ : ∃ (y0 : Fin 3) (y1 : Fin 256), y = ix2 y0 y1 := ⟨y 0, y 1, eq_ix2 y⟩
  refine (dwB_apply _ _ c _ (ix2 y0 y1)).trans ?_
  have e : (win0_6.blk t).view.emb (ix2 y0 y1) = ix2 y0 (lane t y1) := by
    funext a; apply Fin.ext
    refine (win0_6.rect_emb_val t (ix2 y0 y1) a).trans ?_
    refine (congrArg (· * _ + _) (congrFun (index6 t) a)).trans ?_
    fin_cases a
    · show 0 * 3 + y0.val = y0.val; omega
    · show t.val * 256 + y1.val = 256 * t.val + y1.val; omega
  refine Eq.trans ?_ (congrArg (dwOf (chan m c)) e).symm
  rw [dwG_at, dwOf_at, blocks_col m c t]

/-- and the gradient of the bias. -/
theorem arr7 (c : Dev nD) : (dat m 0 c).arrAt 7 cfg0.N = dbOf (chan m c) := by
  refine (dat m 0 c).arrAt_eq_of_covers 7 (dbOf (chan m c)) covers7 fun t _ y => ?_
  rw [after_7]
  obtain ⟨y0, y1, rfl⟩ : ∃ (y0 : Fin 1) (y1 : Fin 256), y = ix2 y0 y1 := ⟨y 0, y 1, eq_ix2 y⟩
  obtain rfl : y0 = 0 := Subsingleton.elim _ _
  refine (dbB_apply _ _ c _ y1).trans ?_
  have e : (win0_7.blk t).view.emb (ix2 0 y1) = ix2 (0 : Fin 1) (lane t y1) := by
    funext a; apply Fin.ext
    refine (win0_7.rect_emb_val t (ix2 0 y1) a).trans ?_
    refine (congrArg (· * _ + _) (congrFun (index7 t) a)).trans ?_
    fin_cases a
    · rfl
    · show t.val * 256 + y1.val = 256 * t.val + y1.val; omega
  refine Eq.trans ?_ (congrArg (dbOf (chan m c)) e).symm
  unfold dbOf
  rw [blocks_col m c t]

end Cert.Ffn

end
-- ==== Proof.RefValue.lean ====
/- The reference's three results, channel by channel. -/
module

public import proofs.«01_k».proof.Proof.Gen.ReferenceIdeal.Read
public import proofs.«01_k».proof.Proof.Array
public import Idealize.ShloMosaic.Lib.KernelVsHost

@[expose] public section

set_option maxRecDepth 16384

noncomputable section

namespace Cert.FfnRef

open Cert.ReferenceIdeal Cert.ReferenceIdeal.Gen Cert.ReferenceIdeal.Read Cert.Scalars
open Cert.Ffn (Col argCol colOf colOf_lt sh dupOf dwOf dbOf)
open Idealize.ShloMosaic Idealize.ShloMosaic.TcCoe Idealize.ShloMosaic.ValueIdx

variable (x0 : (⟨S2048x5632, .bf16⟩ : BufTy).Contents (Elt Ideal)) (x1 : (⟨S2048x2816, .bf16⟩ : BufTy).Contents (Elt Ideal))
  (x2 : (⟨S3x2816, .f32⟩ : BufTy).Contents (Elt Ideal)) (x3 : (⟨S1x2816, .f32⟩ : BufTy).Contents (Elt Ideal))

/-- Channel `q` of the arguments. -/
abbrev ch (q : Fin 2816) : Col := argCol x0 x1 x2 x3 q

theorem gate_at (r : Fin 2048) (q : Fin 2816) : val_main_v1 (F := Ideal) x0 (ix2 r q) = (ch x0 x1 x2 x3 q).U r.val := by
  refine (val_main_v1_apply x0 (ix2 r q)).trans ((val_main_v0_apply x0 _).trans ?_)
  refine Eq.trans ?_ (colOf_lt x0 (⟨q.val, by have := q.isLt; omega⟩ : Fin 5632) r.val r.isLt).symm
  exact congrArg x0 (funext fun a => Fin.ext (by match a with | ⟨0, _⟩ => rfl | ⟨1, _⟩ => rfl))

theorem val_at (r : Fin 2048) (q : Fin 2816) : val_main_v2 (F := Ideal) x0 (ix2 r q) = (ch x0 x1 x2 x3 q).V r.val := by
  refine (val_main_v2_apply x0 (ix2 r q)).trans ((val_main_v0_apply x0 _).trans ?_)
  refine Eq.trans ?_ (colOf_lt x0 (⟨2816 + q.val, by have := q.isLt; omega⟩ : Fin 5632) r.val r.isLt).symm
  exact congrArg x0 (funext fun a => Fin.ext (by match a with | ⟨0, _⟩ => rfl | ⟨1, _⟩ => rfl))

theorem dact_at (r : Fin 2048) (q : Fin 2816) : val_main_v24 (F := Ideal) x1 (ix2 r q) = (ch x0 x1 x2 x3 q).A r.val :=
  (val_main_v24_apply x1 (ix2 r q)).trans (colOf_lt x1 q r.val r.isLt).symm

/-- The gate's column under two rows of zeros. -/
theorem padded_at (r : Fin 2050) (q : Fin 2816) :
    val_main_v4 (F := Ideal) x0 (ix2 r q) = if 2 ≤ r.val then (ch x0 x1 x2 x3 q).U (r.val - 2) else 0 := by
  unfold val_main_v4
  split
  · next h =>
    have hr := r.isLt
    refine (concatenate_pair_apply_right (t := S2050x2816) (s₁ := S2x2816) (s₂ := S2048x2816) 0 _ _ _ (ix2 r q)
      rfl rfl (ix2 (⟨r.val - 2, by omega⟩ : Fin 2048) q) ?_ ?_).trans (gate_at x0 x1 x2 x3 _ q)
    · intro b hb
      match b, hb with
      | ⟨0, _⟩, hb => exact absurd rfl hb
      | ⟨1, _⟩, _ => rfl
    · show r.val - 2 + 2 = r.val
      omega
  · next h =>
    refine (concatenate_pair_apply_left (t := S2050x2816) (s₁ := S2x2816) (s₂ := S2048x2816) 0 _ _ _ (ix2 r q)
      rfl (ix2 (⟨r.val, by omega⟩ : Fin 2) q) ?_).trans ?_
    · intro b
      match b with
      | ⟨0, _⟩ => rfl
      | ⟨1, _⟩ => rfl
    · exact (val_main_v3_apply (F := Ideal) _).trans ((val_main_cst_apply (F := Ideal) _).trans zero_f32)

theorem p0_at (r : Fin 2048) (q : Fin 2816) : val_main_v6 (F := Ideal) x0 (ix2 r q) = sh 2 (ch x0 x1 x2 x3 q).U r.val := by
  have e : idx_main_v6 (ix2 r q) = ix2 (⟨r.val, by have := r.isLt; omega⟩ : Fin 2050) q :=
    funext fun a => Fin.ext (by match a with | ⟨0, _⟩ => rfl | ⟨1, _⟩ => rfl)
  rw [val_main_v6_apply, e, padded_at x0 x1 x2 x3]
  rfl

theorem p1_at (r : Fin 2048) (q : Fin 2816) : val_main_v10 (F := Ideal) x0 (ix2 r q) = sh 1 (ch x0 x1 x2 x3 q).U r.val := by
  have e : idx_main_v10 (ix2 r q) = ix2 (⟨1 + r.val, by have := r.isLt; omega⟩ : Fin 2050) q :=
    funext fun a => Fin.ext (by match a with | ⟨0, _⟩ => rfl | ⟨1, _⟩ => rfl)
  rw [val_main_v10_apply, e, padded_at x0 x1 x2 x3]
  unfold sh
  by_cases h : 1 ≤ r.val
  · rw [if_pos h, if_pos (by show 2 ≤ 1 + r.val; omega)]
    exact congrArg _ (by show 1 + r.val - 2 = r.val - 1; omega)
  · rw [if_neg h, if_neg (by show ¬ 2 ≤ 1 + r.val; omega)]

theorem p2_at (r : Fin 2048) (q : Fin 2816) : val_main_v15 (F := Ideal) x0 (ix2 r q) = (ch x0 x1 x2 x3 q).U r.val := by
  have e : idx_main_v15 (ix2 r q) = ix2 (⟨2 + r.val, by have := r.isLt; omega⟩ : Fin 2050) q :=
    funext fun a => Fin.ext (by match a with | ⟨0, _⟩ => rfl | ⟨1, _⟩ => rfl)
  rw [val_main_v15_apply, e, padded_at x0 x1 x2 x3, if_pos (by show 2 ≤ 2 + r.val; omega)]
  exact congrArg _ (by show 2 + r.val - 2 = r.val; omega)

theorem w0_at (q : Fin 2816) : val_main_v7 (F := Ideal) x2 (ix2 0 q) = x2 (ix2 0 q) :=
  (val_main_v7_apply x2 _).trans (congrArg x2 (funext fun a => Fin.ext (by match a with | ⟨0, _⟩ => rfl | ⟨1, _⟩ => rfl)))
theorem w1_at (q : Fin 2816) : val_main_v11 (F := Ideal) x2 (ix2 0 q) = x2 (ix2 1 q) :=
  (val_main_v11_apply x2 _).trans (congrArg x2 (funext fun a => Fin.ext (by match a with | ⟨0, _⟩ => rfl | ⟨1, _⟩ => rfl)))
theorem w2_at (q : Fin 2816) : val_main_v16 (F := Ideal) x2 (ix2 0 q) = x2 (ix2 2 q) :=
  (val_main_v16_apply x2 _).trans (congrArg x2 (funext fun a => Fin.ext (by match a with | ⟨0, _⟩ => rfl | ⟨1, _⟩ => rfl)))

/-- A row read from every row it was copied to. -/
theorem row_idx (i : S1x2816.Idx) (q : Fin 2816) (h : (i 1).val = q.val) : i = ix2 0 q := by
  funext a; apply Fin.ext
  match a with
  | ⟨0, _⟩ => exact congrArg Fin.val (Subsingleton.elim (α := Fin 1) (i 0) 0)
  | ⟨1, _⟩ => exact h

theorem w0b_at (r : Fin 2048) (q : Fin 2816) : val_main_v8 (F := Ideal) x2 (ix2 r q) = x2 (ix2 0 q) := by
  rw [val_main_v8_apply, row_idx (idx_main_v8 (ix2 r q)) q rfl, w0_at]
theorem w1b_at (r : Fin 2048) (q : Fin 2816) : val_main_v12 (F := Ideal) x2 (ix2 r q) = x2 (ix2 1 q) := by
  rw [val_main_v12_apply, row_idx (idx_main_v12 (ix2 r q)) q rfl, w1_at]
theorem w2b_at (r : Fin 2048) (q : Fin 2816) : val_main_v17 (F := Ideal) x2 (ix2 r q) = x2 (ix2 2 q) := by
  rw [val_main_v17_apply, row_idx (idx_main_v17 (ix2 r q)) q rfl, w2_at]
theorem w2c_at (r : Fin 2048) (q : Fin 2816) : val_main_v33 (F := Ideal) x2 (ix2 r q) = x2 (ix2 2 q) := by
  rw [val_main_v33_apply, row_idx (idx_main_v33 (ix2 r q)) q rfl, w2_at]
theorem w1c_at (r : Fin 2048) (q : Fin 2816) : val_main_v40 (F := Ideal) x2 (ix2 r q) = x2 (ix2 1 q) := by
  rw [val_main_v40_apply, row_idx (idx_main_v40 (ix2 r q)) q rfl, w1_at]
theorem w0c_at (r : Fin 2048) (q : Fin 2816) : val_main_v49 (F := Ideal) x2 (ix2 r q) = x2 (ix2 0 q) := by
  rw [val_main_v49_apply, row_idx (idx_main_v49 (ix2 r q)) q rfl, w0_at]
theorem bias_at (r : Fin 2048) (q : Fin 2816) : val_main_v20 (F := Ideal) x3 (ix2 r q) = x3 (ix2 0 q) := by
  rw [val_main_v20_apply, row_idx (idx_main_v20 (ix2 r q)) q rfl]

/-- The convolution's value: the kernel's sum in another order. -/
theorem conv_at (r : Fin 2048) (q : Fin 2816) : val_main_v21 (F := Ideal) x0 x2 x3 (ix2 r q) = (ch x0 x1 x2 x3 q).gc r.val := by
  rw [val_main_v21_apply, val_main_v19_apply, val_main_v14_apply, val_main_v9_apply, val_main_v13_apply, val_main_v18_apply,
    p0_at x0 x1 x2 x3, p1_at x0 x1 x2 x3, p2_at x0 x1 x2 x3, w0b_at, w1b_at, w2b_at, bias_at]
  unfold Col.gc
  show ((sh 2 (ch x0 x1 x2 x3 q).U r.val * (ch x0 x1 x2 x3 q).w0 + sh 1 (ch x0 x1 x2 x3 q).U r.val * (ch x0 x1 x2 x3 q).w1)
    + (ch x0 x1 x2 x3 q).U r.val * (ch x0 x1 x2 x3 q).w2) + (ch x0 x1 x2 x3 q).b = _
  generalize sh 2 (ch x0 x1 x2 x3 q).U r.val * (ch x0 x1 x2 x3 q).w0 = u
  generalize sh 1 (ch x0 x1 x2 x3 q).U r.val * (ch x0 x1 x2 x3 q).w1 = v
  generalize (ch x0 x1 x2 x3 q).U r.val * (ch x0 x1 x2 x3 q).w2 = w
  generalize (ch x0 x1 x2 x3 q).b = z
  rw [add_assoc (u + v), add_comm (u + v), add_assoc (w + z)]

theorem sig_at (r : Fin 2048) (q : Fin 2816) : val_main_v22_2 (F := Ideal) x0 x2 x3 (ix2 r q) = sg ((ch x0 x1 x2 x3 q).gc r.val) := by
  rw [val_main_v22_2_apply, val_main_call0_v3_apply, val_main_call0_v1_apply, val_main_call0_v0_apply, conv_at x0 x1 x2 x3,
    val_main_call0_v4_apply, val_main_call0_v2_apply, val_main_call0_cst_apply, val_main_call0_cst_0_apply]
  show Ideal.div (Ideal.ofBits .f32 0x3F800000#32) (Ideal.ofBits .f32 0x3F800000#32 + Ideal.exp (-_)) = _
  rw [one_f32]
  rfl

/-- The value's gradient: the same three factors. -/
theorem dval_at (r : Fin 2048) (q : Fin 2816) : val_main_v25 (F := Ideal) x0 x1 x2 x3 (ix2 r q) = (ch x0 x1 x2 x3 q).dval r.val := by
  rw [val_main_v25_apply, val_main_v22_0_apply, conv_at x0 x1 x2 x3, sig_at x0 x1 x2 x3, dact_at x0 x1 x2 x3]
  show ((ch x0 x1 x2 x3 q).gc r.val * sg _) * (ch x0 x1 x2 x3 q).A r.val = _
  unfold Col.dval
  rw [mul_comm, ← mul_assoc]

/-- The gradient of the convolution's value, where the cotangent is a real number. -/
theorem dgc_at (r : Fin 2048) (q : Fin 2816)
    (h : (ch x0 x1 x2 x3 q).A r.val * (ch x0 x1 x2 x3 q).V r.val ≠ ⊤ ∧ (ch x0 x1 x2 x3 q).A r.val * (ch x0 x1 x2 x3 q).V r.val ≠ ⊥) :
    val_main_v27 (F := Ideal) x0 x1 x2 x3 (ix2 r q) = (ch x0 x1 x2 x3 q).dgc r.val := by
  rw [val_main_v27_apply, val_main_call1_v1_apply, val_main_call1_v2_apply, val_main_call1_v0_apply, val_main_v22_1_apply,
    val_main_call0_v7_apply, val_main_call0_v6_apply, val_main_call0_cst_1_apply, val_main_v26_apply,
    conv_at x0 x1 x2 x3, sig_at x0 x1 x2 x3, dact_at x0 x1 x2 x3, val_at x0 x1 x2 x3]
  unfold Col.dgc
  rw [dk_eq_dr _ _ h.1 h.2]
  show _ + _ * (_ * (Ideal.ofBits .f32 0x3F800000#32 - _)) = _
  rw [one_f32]
  rfl

end Cert.FfnRef

end
-- ==== Proof.RefSums.lean ====
/- The reference's results assembled: the sums over the rows, the padded products and the two stacked planes. -/
module

public import proofs.«01_k».proof.Proof.RefValue

@[expose] public section

set_option maxRecDepth 16384

noncomputable section

namespace Cert.FfnRef

open Cert.ReferenceIdeal Cert.ReferenceIdeal.Gen Cert.ReferenceIdeal.Read Cert.Scalars
open Cert.Ffn (Col argCol colOf colOf_lt sh dupOf dwOf dbOf dupOf_at dwOf_at)
open Idealize.ShloMosaic Idealize.ShloMosaic.TcCoe Idealize.ShloMosaic.ValueIdx

/-- A block padded above by `lo` rows and below by `hi` rows: the block's rows inside, the pad value outside. -/
theorem pad_rows {n k w : ℕ} (lo hi : ℕ) (x : (⟨2, ![n, w]⟩ : Shape).Idx → EReal) (v : S_.Idx → EReal)
    (h : (⟨2, ![n, w]⟩ : Shape).Pads ![lo, 0] ![hi, 0] ![0, 0] ⟨2, ![k, w]⟩) (hu : 0 < S_.numel) (r : Fin k) (q : Fin w)
    (f : ℕ → EReal) (hf : ∀ (i : Fin n), x (ix2 i q) = f i.val) (hv : ∀ i, v i = 0) :
    pad ⟨2, ![k, w]⟩ ![lo, 0] ![hi, 0] ![0, 0] x v h hu (ix2 r q) = if lo ≤ r.val ∧ r.val - lo < n then f (r.val - lo) else 0 := by
  split
  · next c =>
    refine (pad_apply_of_inside _ _ _ x v h hu (ix2 r q) (ix2 (⟨r.val - lo, c.2⟩ : Fin n) q) fun a => ?_).trans (hf _)
    match a with
    | ⟨0, _⟩ => show r.val = lo + (r.val - lo) * (0 + 1); omega
    | ⟨1, _⟩ => show q.val = 0 + q.val * (0 + 1); omega
  · next c =>
    refine (pad_apply_of_not_inside _ _ _ x v h hu (ix2 r q) 0 fun d => c ?_).trans (hv _)
    have d1 : lo ≤ r.val := d.1
    have d2 : (r.val - lo) / (0 + 1) < n := d.2.2
    exact ⟨d1, by omega⟩

/-- A column's sum, its rows numbered by natural numbers. -/
theorem col_sum (z : EReal) (hz : z = 0) (u : Fin 2048 → EReal) (f : ℕ → EReal) (h : ∀ k : Fin 2048, u k = f k.val) :
    z + ∑ k : Fin 2048, u k = ∑ r ∈ Finset.range 2048, f r := by
  rw [hz, zero_add, Finset.sum_range]
  exact Finset.sum_congr rfl fun k _ => h k

variable (x0 : (⟨S2048x5632, .bf16⟩ : BufTy).Contents (Elt Ideal)) (x1 : (⟨S2048x2816, .bf16⟩ : BufTy).Contents (Elt Ideal))
  (x2 : (⟨S3x2816, .f32⟩ : BufTy).Contents (Elt Ideal)) (x3 : (⟨S1x2816, .f32⟩ : BufTy).Contents (Elt Ideal))

/-- The cotangent times the value is a real number everywhere. -/
def Real : Prop := ∀ (q : Fin 2816) (r : Fin 2048),
  (ch x0 x1 x2 x3 q).A r.val * (ch x0 x1 x2 x3 q).V r.val ≠ ⊤ ∧ (ch x0 x1 x2 x3 q).A r.val * (ch x0 x1 x2 x3 q).V r.val ≠ ⊥

variable (hx : Real x0 x1 x2 x3)
include hx

theorem db_at (q : Fin 2816) : val_main_v29 (F := Ideal) x0 x1 x2 x3 (ix2 0 q) = (ch x0 x1 x2 x3 q).sb 2048 := by
  rw [val_main_v29_apply, val_main_v28_apply]
  refine col_sum _ zero_f32 _ _ fun k => Eq.trans (congrArg _ (funext fun a => Fin.ext ?_)) (dgc_at x0 x1 x2 x3 k q (hx q k))
  match a with
  | ⟨0, _⟩ => rfl
  | ⟨1, _⟩ => show 0 * 2816 + q.val = q.val; omega

theorem s2_at (q : Fin 2816) : val_main_v32 (F := Ideal) x0 x1 x2 x3 (ix2 0 q) = (ch x0 x1 x2 x3 q).s2 2048 := by
  rw [val_main_v32_apply, val_main_v31_apply]
  refine col_sum _ zero_f32 _ _ fun k => ?_
  have e : idx_main_v31 (idx_main_v32 (ix2 0 q)) k = ix2 k q := funext fun a => Fin.ext (by
    match a with
    | ⟨0, _⟩ => rfl
    | ⟨1, _⟩ => show 0 * 2816 + q.val = q.val; omega)
  rw [e, val_main_v30_apply, p2_at x0 x1 x2 x3, dgc_at x0 x1 x2 x3 k q (hx q k)]
  rfl

theorem s1_at (q : Fin 2816) : val_main_v39 (F := Ideal) x0 x1 x2 x3 (ix2 0 q) = (ch x0 x1 x2 x3 q).s1 2048 := by
  rw [val_main_v39_apply, val_main_v38_apply]
  refine col_sum _ zero_f32 _ _ fun k => ?_
  have e : idx_main_v38 (idx_main_v39 (ix2 0 q)) k = ix2 k q := funext fun a => Fin.ext (by
    match a with
    | ⟨0, _⟩ => rfl
    | ⟨1, _⟩ => show 0 * 2816 + q.val = q.val; omega)
  rw [e, val_main_v37_apply, p1_at x0 x1 x2 x3, dgc_at x0 x1 x2 x3 k q (hx q k)]
  rfl

theorem s0_at (q : Fin 2816) : val_main_v48 (F := Ideal) x0 x1 x2 x3 (ix2 0 q) = (ch x0 x1 x2 x3 q).s0 2048 := by
  rw [val_main_v48_apply, val_main_v47_apply]
  refine col_sum _ zero_f32 _ _ fun k => ?_
  have e : idx_main_v47 (idx_main_v48 (ix2 0 q)) k = ix2 k q := funext fun a => Fin.ext (by
    match a with
    | ⟨0, _⟩ => rfl
    | ⟨1, _⟩ => show 0 * 2816 + q.val = q.val; omega)
  rw [e, val_main_v46_apply, p0_at x0 x1 x2 x3, dgc_at x0 x1 x2 x3 k q (hx q k)]
  rfl

/-- One sum laid in its own row of the taps' gradient. -/
theorem tap2_at (p : Fin 3) (q : Fin 2816) :
    val_main_v35 (F := Ideal) x0 x1 x2 x3 (ix2 p q) = if 2 ≤ p.val ∧ p.val - 2 < 1 then (ch x0 x1 x2 x3 q).s2 2048 else 0 :=
  pad_rows 2 0 _ _ pads_S1x2816_S3x2816_200_000 h_S_ p q (fun _ => (ch x0 x1 x2 x3 q).s2 2048)
    (fun i => by obtain rfl : i = 0 := Subsingleton.elim _ _; exact s2_at x0 x1 x2 x3 hx q) (fun _ => zero_f32)
theorem tap1_at (p : Fin 3) (q : Fin 2816) :
    val_main_v42 (F := Ideal) x0 x1 x2 x3 (ix2 p q) = if 1 ≤ p.val ∧ p.val - 1 < 1 then (ch x0 x1 x2 x3 q).s1 2048 else 0 :=
  pad_rows 1 1 _ _ pads_S1x2816_S3x2816_110_000 h_S_ p q (fun _ => (ch x0 x1 x2 x3 q).s1 2048)
    (fun i => by obtain rfl : i = 0 := Subsingleton.elim _ _; exact s1_at x0 x1 x2 x3 hx q) (fun _ => zero_f32)
theorem tap0_at (p : Fin 3) (q : Fin 2816) :
    val_main_v51 (F := Ideal) x0 x1 x2 x3 (ix2 p q) = if 0 ≤ p.val ∧ p.val - 0 < 1 then (ch x0 x1 x2 x3 q).s0 2048 else 0 :=
  pad_rows 0 2 _ _ pads_S1x2816_S3x2816_020_000 h_S_ p q (fun _ => (ch x0 x1 x2 x3 q).s0 2048)
    (fun i => by obtain rfl : i = 0 := Subsingleton.elim _ _; exact s0_at x0 x1 x2 x3 hx q) (fun _ => zero_f32)

theorem dw_at (p : Fin 3) (q : Fin 2816) : val_main_v52 (F := Ideal) x0 x1 x2 x3 (ix2 p q) = dwOf (ch x0 x1 x2 x3) (ix2 p q) := by
  rw [val_main_v52_apply, val_main_v43_apply, tap2_at x0 x1 x2 x3 hx, tap1_at x0 x1 x2 x3 hx, tap0_at x0 x1 x2 x3 hx, dwOf_at]
  show (_ + _ : EReal) + _ = _
  match p with
  | ⟨0, _⟩ => simp
  | ⟨1, _⟩ => simp
  | ⟨2, _⟩ => simp

/-- The three products, each under its own rows of zeros. -/
theorem g2_at (r : Fin 2050) (q : Fin 2816) :
    val_main_v36 (F := Ideal) x0 x1 x2 x3 (ix2 r q)
      = if 2 ≤ r.val ∧ r.val - 2 < 2048 then (ch x0 x1 x2 x3 q).dgc (r.val - 2) * (ch x0 x1 x2 x3 q).w2 else 0 :=
  pad_rows 2 0 _ _ pads_S2048x2816_S2050x2816_200_000 h_S_ r q (fun n => (ch x0 x1 x2 x3 q).dgc n * (ch x0 x1 x2 x3 q).w2)
    (fun i => by rw [val_main_v34_apply, dgc_at x0 x1 x2 x3 i q (hx q i), w2c_at]; rfl) (fun _ => zero_f32)
theorem g1_at (r : Fin 2050) (q : Fin 2816) :
    val_main_v44 (F := Ideal) x0 x1 x2 x3 (ix2 r q)
      = if 1 ≤ r.val ∧ r.val - 1 < 2048 then (ch x0 x1 x2 x3 q).dgc (r.val - 1) * (ch x0 x1 x2 x3 q).w1 else 0 :=
  pad_rows 1 1 _ _ pads_S2048x2816_S2050x2816_110_000 h_S_ r q (fun n => (ch x0 x1 x2 x3 q).dgc n * (ch x0 x1 x2 x3 q).w1)
    (fun i => by rw [val_main_v41_apply, dgc_at x0 x1 x2 x3 i q (hx q i), w1c_at]; rfl) (fun _ => zero_f32)
theorem g0_at (r : Fin 2050) (q : Fin 2816) :
    val_main_v53 (F := Ideal) x0 x1 x2 x3 (ix2 r q)
      = if 0 ≤ r.val ∧ r.val - 0 < 2048 then (ch x0 x1 x2 x3 q).dgc (r.val - 0) * (ch x0 x1 x2 x3 q).w0 else 0 :=
  pad_rows 0 2 _ _ pads_S2048x2816_S2050x2816_020_000 h_S_ r q (fun n => (ch x0 x1 x2 x3 q).dgc n * (ch x0 x1 x2 x3 q).w0)
    (fun i => by rw [val_main_v50_apply, dgc_at x0 x1 x2 x3 i q (hx q i), w0c_at]; rfl) (fun _ => zero_f32)

/-- The gate's gradient. -/
theorem dgate_at (r : Fin 2048) (q : Fin 2816) :
    val_main_v56 (F := Ideal) x0 x1 x2 x3 (ix2 r q) = (ch x0 x1 x2 x3 q).dgate r.val := by
  have hr := r.isLt
  have e : idx_main_v56 (ix2 r q) = ix2 (⟨2 + r.val, by omega⟩ : Fin 2050) q :=
    funext fun a => Fin.ext (by match a with | ⟨0, _⟩ => rfl | ⟨1, _⟩ => rfl)
  rw [val_main_v56_apply, e, val_main_v54_apply, val_main_v45_apply, g2_at x0 x1 x2 x3 hx, g1_at x0 x1 x2 x3 hx, g0_at x0 x1 x2 x3 hx]
  unfold Col.dgate Col.D
  show (_ + _ : EReal) + _ = _
  rw [if_pos hr, if_pos (show 2 ≤ 2 + r.val ∧ 2 + r.val - 2 < 2048 by omega),
    show 2 + r.val - 2 = r.val by omega, show 2 + r.val - 1 = r.val + 1 by omega, show 2 + r.val - 0 = r.val + 2 by omega,
    add_right_comm]
  refine congrArg₂ (· + ·) (congrArg₂ (· + ·) rfl ?_) ?_
  · by_cases c : r.val + 2 < 2048
    · rw [if_pos c, if_pos ⟨by show _ ≤ 2 + r.val; omega, c⟩]
    · rw [if_neg c, if_neg (fun d => c d.2), zero_mul]
  · by_cases c : r.val + 1 < 2048
    · rw [if_pos c, if_pos ⟨by show _ ≤ 2 + r.val; omega, c⟩]
    · rw [if_neg c, if_neg (fun d => c d.2), zero_mul]

theorem dup_at (p : Fin 2) (r : Fin 2048) (q : Fin 2816) :
    val_main_v60 (F := Ideal) x0 x1 x2 x3 (ix3 p r q) = dupOf (ch x0 x1 x2 x3) (ix3 p r q) := by
  refine (val_main_v60_apply x0 x1 x2 x3 _).trans ?_
  show val_main_v59 (F := Ideal) x0 x1 x2 x3 (ix3 p r q) = _
  rw [dupOf_at]
  unfold val_main_v59
  by_cases h : p.val = 1
  · rw [if_pos h]
    refine (concatenate_pair_apply_right (t := S2x2048x2816) (s₁ := S1x2048x2816) (s₂ := S1x2048x2816) 0 _ _ _ (ix3 p r q)
      rfl rfl (ix3 0 r q) ?_ ?_).trans ?_
    · intro b hb
      match b, hb with
      | ⟨0, _⟩, hb => exact absurd rfl hb
      | ⟨1, _⟩, _ => rfl
      | ⟨2, _⟩, _ => rfl
    · show 0 + 1 = p.val
      omega
    · rw [val_main_v58_apply]
      exact (congrArg _ (funext fun a => Fin.ext (by match a with | ⟨0, _⟩ => rfl | ⟨1, _⟩ => rfl))).trans (dval_at x0 x1 x2 x3 r q)
  · rw [if_neg h]
    refine (concatenate_pair_apply_left (t := S2x2048x2816) (s₁ := S1x2048x2816) (s₂ := S1x2048x2816) 0 _ _ _ (ix3 p r q)
      rfl (ix3 0 r q) ?_).trans ?_
    · intro b
      match b with
      | ⟨0, _⟩ => show 0 = p.val; have := p.isLt; omega
      | ⟨1, _⟩ => rfl
      | ⟨2, _⟩ => rfl
    · rw [val_main_v57_apply]
      exact (congrArg _ (funext fun a => Fin.ext (by match a with | ⟨0, _⟩ => rfl | ⟨1, _⟩ => rfl))).trans (dgate_at x0 x1 x2 x3 hx r q)

/-- The three results whole. -/
theorem dup_eq : val_main_v60 (F := Ideal) x0 x1 x2 x3 = dupOf (ch x0 x1 x2 x3) := by
  funext j
  obtain ⟨p, r, q, rfl⟩ : ∃ (p : Fin 2) (r : Fin 2048) (q : Fin 2816), j = ix3 p r q := ⟨j 0, j 1, j 2, eq_ix3 j⟩
  exact dup_at x0 x1 x2 x3 hx p r q
theorem dw_eq : val_main_v52 (F := Ideal) x0 x1 x2 x3 = dwOf (ch x0 x1 x2 x3) := by
  funext j
  obtain ⟨p, q, rfl⟩ : ∃ (p : Fin 3) (q : Fin 2816), j = ix2 p q := ⟨j 0, j 1, eq_ix2 j⟩
  exact dw_at x0 x1 x2 x3 hx p q
theorem db_eq : val_main_v29 (F := Ideal) x0 x1 x2 x3 = dbOf (ch x0 x1 x2 x3) := by
  funext j
  obtain ⟨p, q, rfl⟩ : ∃ (p : Fin 1) (q : Fin 2816), j = ix2 p q := ⟨j 0, j 1, eq_ix2 j⟩
  obtain rfl : p = 0 := Subsingleton.elim _ _
  exact db_at x0 x1 x2 x3 hx q

end Cert.FfnRef

end
-- ==== Proof.Equal.lean ====
/- The claim of equal results: the precondition read back, then both runs side by side. -/
module

public import proofs.«01_k».proof.Defs
public import proofs.«01_k».proof.Proof.Array
public import proofs.«01_k».proof.Proof.Frames
public import proofs.«01_k».proof.Proof.RefSums
public import Idealize.ShloMosaic.Lib.ReduceAll

@[expose] public section

set_option maxRecDepth 16384

noncomputable section

namespace Cert.Ffn

open Idealize.ShloMosaic Idealize.ShloMosaic.TcCoe Idealize.ShloMosaic.ValueIdx Idealize.SL.Sem
open Cert.Scalars

/-- What the precondition's own operations ask of their shapes. -/
instance pre_facts : Cert.Pre_finite.Facts where
  bitsLt_bf16_f32 := by decide
  slices_S2048x5632_S2048x2816_0_0 := by decide
  slices_S2048x5632_S2048x2816_0_2816 := by decide
  bcast_S_S2048x2816 := by decide
  reducesTo_S2048x2816_S_d0_1 := by decide
  h_S_ := by decide

theorem both_one : ∀ a b : BitVec 1, IntOp.andi a b = 1#1 → a = 1#1 ∧ b = 1#1 := by decide

instance one_index : Subsingleton Cert.Pre_finite.S_.Idx := ⟨fun i j => funext fun a => a.elim0⟩

/-- A comparison that came out 1 bounds the value. -/
theorem below_of_one (x : EReal)
    (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  refine real_of_abs_lt x ?_
  have e : BitVec.ofBool (decide (max x (-x) < Ideal.ofBits .f32 0x7F800000#32)) = 1#1 := h
  rw [inf_f32] at e
  by_contra c
  rw [decide_eq_false c] at e
  exact absurd e (by decide)

/-- The precondition says that the value half and the incoming gradient hold real numbers. -/
theorem real_of_pre (a0 : Cert.Pre_finite.S2048x5632.Idx → EReal) (a1 : Cert.Pre_finite.S2048x2816.Idx → EReal)
    (a2 : Cert.Pre_finite.S3x2816.Idx → EReal) (a3 : Cert.Pre_finite.S1x2816.Idx → EReal)
    (h : Cert.Pre_finite.fn (F := Ideal) a0 a1 a2 a3 = fun _ => 1#1) : Cert.FfnRef.Real a0 a1 a2 a3 := by
  have e := both_one _ _ (congrFun h ix0)
  have value : ∀ (r : Fin 2048) (q : Fin 2816), a0 (ix2 r (⟨2816 + q.val, by have := q.isLt; omega⟩ : Fin 5632)) ≠ ⊤
      ∧ a0 (ix2 r (⟨2816 + q.val, by have := q.isLt; omega⟩ : Fin 5632)) ≠ ⊥ := fun r q => by
    have k := below_of_one _ (Host.reduce_andi_all _ _ _ _ _ e.1 (ix2 r q))
    have i : (fun x : Cert.Pre_finite.S2048x5632.Idx → EReal => extractStridedSlice Cert.Pre_finite.S2048x2816 ![0, 2816] x
        pre_facts.slices_S2048x5632_S2048x2816_0_2816) a0 (ix2 r q)
        = a0 (ix2 r (⟨2816 + q.val, by have := q.isLt; omega⟩ : Fin 5632)) :=
      extractStridedSlice_apply ![0, 2816] a0 _ (ix2 r q) _
        (fun a => by match a with | ⟨0, _⟩ => exact (Nat.zero_add _).symm | ⟨1, _⟩ => rfl)
    rw [← i]
    exact k
  have cotangent : ∀ (r : Fin 2048) (q : Fin 2816), a1 (ix2 r q) ≠ ⊤ ∧ a1 (ix2 r q) ≠ ⊥ := fun r q => below_of_one (a1 (ix2 r q)) (Host.reduce_andi_all _ _ _ _ _ e.2 (ix2 r q))
  intro q r
  have hA : (argCol a0 a1 a2 a3 q).A r.val = a1 (ix2 r q) := colOf_lt a1 q r.val r.isLt
  have hV : (argCol a0 a1 a2 a3 q).V r.val = a0 (ix2 r (⟨2816 + q.val, by have := q.isLt; omega⟩ : Fin 5632)) := colOf_lt a0 _ r.val r.isLt
  show (argCol a0 a1 a2 a3 q).A r.val * (argCol a0 a1 a2 a3 q).V r.val ≠ ⊤ ∧ (argCol a0 a1 a2 a3 q).A r.val * (argCol a0 a1 a2 a3 q).V r.val ≠ ⊥
  rw [hA, hV]
  exact mul_real _ _ (cotangent r q) (value r q)

/-- The two programs end with equal results where the precondition holds. -/
theorem equal : Cert.algebraic_KernelIdeal_ReferenceIdeal_pre_finite (hKernelIdeal := Cert.KernelIdeal.Gen.facts)
    (hReferenceIdeal := Cert.ReferenceIdeal.Gen.facts) (hPre_finite := pre_facts) := by
  intro m g m' g' hp hm
  refine ⟨fun c => dupOf (chan m c), fun c => dwOf (chan m c), fun c => dbOf (chan m c), ?_, ?_⟩
  · refine (θ_run _ _ _).mono (fun r h c => ?_) (θ_run_and (run_named (F := Ideal) m g) (quiet (F := Ideal) m g))
    have h0 := h.1 c
    exact ⟨h0.1.trans (arr5 m c), h0.2.1.trans (arr6 m c), h0.2.2.trans (arr7 m c), h.2.1 c⟩
  · refine (θ_run _ _ _).mono (fun r h c => ?_) (Cert.ReferenceIdeal.Value.run (F := Ideal) m' g')
    have h0 := h c
    obtain ⟨e0, e1, e2, e3⟩ := hm c
    have hx := real_of_pre _ _ _ _ (hp c)
    refine ⟨h0.1.trans ?_, h0.2.1.trans ?_, h0.2.2.1.trans ?_, h0.2.2.2⟩
    · rw [Cert.ReferenceIdeal.Read.val_main_v60_eq, e0, e1, e2, e3]
      exact Cert.FfnRef.dup_eq _ _ _ _ hx
    · rw [Cert.ReferenceIdeal.Read.val_main_v52_eq, e0, e1, e2, e3]
      exact Cert.FfnRef.dw_eq _ _ _ _ hx
    · rw [Cert.ReferenceIdeal.Read.val_main_v29_eq, e0, e1, e2, e3]
      exact Cert.FfnRef.db_eq _ _ _ _ hx

end Cert.Ffn

end
-- ==== Proof.GwUp.lean ====
/- The gradient of the up projection's weight. -/
module

public import proofs.«01_k».proof.Defs
public import proofs.«01_k».proof.Proof.Gen.Kernel2Ideal.Value
public import proofs.«01_k».proof.Proof.Gen.Kernel2.Frame
public import proofs.«01_k».proof.Proof.Gen.Reference2Ideal.Read
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.GwUp

open Cert.Kernel2Ideal Cert.Kernel2Ideal.Gen
open Idealize.ShloMosaic Idealize.ShloMosaic.TcCoe Idealize.SL.Sem
open Idealize.ShloMosaic.Pipeline (Dat Cfg Window)

/-- Column `n` of the incoming gradient's two planes side by side. -/
def beside (a : S2x2048x2816.Idx → EReal) (k : Fin 2048) (n : Fin 5632) : EReal :=
  a (ix3 (⟨n.val / 2816, by have := n.isLt; omega⟩ : Fin 2) k (⟨n.val % 2816, by omega⟩ : Fin 2816))

/-- The gradient, element by element. -/
def G (a : S2x2048x2816.Idx → EReal) (h : S2048x1024.Idx → EReal) : S5632x1024.Idx → EReal := fun i =>
  ∑ k : Fin 2048, beside a k (i 0) * h (ix2 k (i 1))

theorem pay_at (v : Vec Ideal S1x2048x1408 .bf16) (w : Vec Ideal S2048x1024 .bf16) (r : Fin 1408) (c : Fin 1024) :
    k0_pay1 v w (ix2 r c) = ∑ k : Fin 2048, v (ix3 0 k r) * w (ix2 k c) := by
  unfold k0_pay1
  pointwise

theorem index0 : ∀ t : Fin grid0.N, win0_0.index t = ![t.val / 2, 0, t.val % 2] := by decide +kernel
theorem index1 : ∀ t : Fin grid0.N, win0_1.index t = ![0, 0] := by decide +kernel
theorem index2 : ∀ t : Fin grid0.N, win0_2.index t = ![t.val, 0] := by decide +kernel
theorem covers2 : win0_2.Covers := by decide +kernel
theorem points : grid0.N = 4 := by decide +kernel

variable (m : (ℓ : Loc nD τ sig) → Buf (Elt Ideal) ℓ)

/-- The first operand's block at point `t`: lanes of half `t % 2` of plane `t / 2`. -/
theorem block0 (c : Dev nD) (t : Fin cfg0.N) (k : Fin 2048) (r : Fin 1408) (n : Fin 5632) (hn : n.val = 1408 * t.val + r.val) :
    iblk m c 0 t (ix3 0 k r) = beside (m ((c : Thread nD τ).loc main_arg0)) k n := by
  unfold beside
  blk_ext [iblk, V, index0 t]

/-- The second operand's block is the whole operand. -/
theorem block1 (c : Dev nD) (t : Fin cfg0.N) (k : Fin 2048) (q : Fin 1024) :
    iblk m c 1 t (ix2 k q) = m ((c : Thread nD τ).loc main_arg1) (ix2 k q) := by
  blk_ext [iblk, V, index1 t]

theorem arr (c : Dev nD) : (dats m 0 c).arrAt 2 cfg0.N = G (m ((c : Thread nD τ).loc main_arg0)) (m ((c : Thread nD τ).loc main_arg1)) := by
  refine (dats m 0 c).arrAt_eq_of_covers 2 _ covers2 fun t _ y => ?_
  blk_simp
  rw [after0_2]
  frame_out
  obtain ⟨r, q, rfl⟩ : ∃ (r : Fin 1408) (q : Fin 1024), y = ix2 r q := ⟨y 0, y 1, eq_ix2 y⟩
  have e : ((View.whole main_v0).slice (win0_2.rect t)).emb (ix2 r q)
      = ix2 (⟨1408 * t.val + r.val, by have h := lt_of_lt_of_eq t.isLt points; have := r.isLt; omega⟩ : Fin 5632) q := by
    blk_ext [index2 t]
  refine (pay_at _ _ r q).trans (Eq.trans (Finset.sum_congr rfl fun k _ => ?_) (congrArg (G _ _) e).symm)
  exact congrArg₂ (· * ·) (block0 m c t k r _ rfl) (block1 m c t k q)

end Cert.GwUp

namespace Cert.GwUp.Ref

open Cert.Reference2Ideal Cert.Reference2Ideal.Gen Cert.Reference2Ideal.Read
open Idealize.ShloMosaic Idealize.ShloMosaic.TcCoe Idealize.SL.Sem

/-- The reference joins the two planes before it multiplies. -/
theorem val_eq (a : S2x2048x2816.Idx → EReal) (h : S2048x1024.Idx → EReal) : val_main_v10 (F := Ideal) a h = G a h := by
  funext i
  unfold G beside
  unfold val_main_v10 val_main_v9 val_main_v8 val_main_v7 val_main_v6 val_main_v5 val_main_v4 val_main_v3 val_main_v2 val_main_v1 val_main_v0
  pointwise
  refine Finset.sum_congr rfl fun k _ => congrArg (· * _) ?_
  have hi : (i 0).val < 5632 := (i 0).isLt
  split
  all_goals exact congrArg a (funext fun x => Fin.ext (by fin_cases x <;> simp <;> omega))

end Cert.GwUp.Ref

namespace Cert.GwUp

open Cert.Kernel2Ideal Cert.Kernel2Ideal.Gen
open Idealize.ShloMosaic Idealize.ShloMosaic.TcCoe Idealize.SL.Sem

theorem frame : Cert.quiescent_Kernel2 (hKernel2 := Cert.Kernel2.Gen.facts) := fun m g _ => Cert.Kernel2.Gen.frame m g
theorem frame_ideal : Cert.quiescent_Kernel2Ideal (hKernel2Ideal := facts) := fun m g _ => Gen.frame m g
theorem frame_ref : Cert.quiescent_Reference2Ideal (hReference2Ideal := Cert.Reference2Ideal.Gen.facts) :=
  fun m g _ => (θ_run Cert.Reference2Ideal.defs _ _).mono
    (fun r h => ⟨fun c => (h c).2, sem_eq_zero_of_no_sems (by decide) r.2⟩) (Cert.Reference2Ideal.Value.run (F := Ideal) m g)

theorem equal : Cert.algebraic_Kernel2Ideal_Reference2Ideal (hKernel2Ideal := facts) (hReference2Ideal := Cert.Reference2Ideal.Gen.facts) := by
  intro m g m' g' _ hm
  refine ⟨fun c => G (m ((c : Thread nD τ).loc main_arg0)) (m ((c : Thread nD τ).loc main_arg1)), ?_, ?_⟩
  · exact (θ_run _ _ _).mono (fun r h c => ⟨(h c).1.trans (arr m c), (h c).2⟩) (Value.run_blocks (F := Ideal) m g)
  · refine (θ_run _ _ _).mono (fun r h c => ⟨(h c).1.trans ?_, (h c).2⟩) (Cert.Reference2Ideal.Value.run (F := Ideal) m' g')
    rw [Cert.Reference2Ideal.Read.val_main_v10_eq, (hm c).1, (hm c).2]
    exact Ref.val_eq _ _

end Cert.GwUp

end
-- ==== Proof.Products.lean ====
/- Matrix products element by element, in the three orientations the calls use. -/
module

public import Idealize.ShloMosaic.Lib.Pointwise
public import Idealize.ShloMosaic.PureOps.Ideal

@[expose] public section

noncomputable section

namespace Cert.Products

open Idealize.ShloMosaic

variable {K M N : ℕ}

/-- `aᵀ b`: what a weight's gradient is of its input and the gradient of its output. -/
def tn (a : (⟨2, ![K, M]⟩ : Shape).Idx → EReal) (b : (⟨2, ![K, N]⟩ : Shape).Idx → EReal) : (⟨2, ![M, N]⟩ : Shape).Idx → EReal :=
  fun i => ∑ k : Fin K, a (ix2 k (i 0)) * b (ix2 k (i 1))

/-- `a bᵀ`: a product with a weight kept transposed. -/
def nt (a : (⟨2, ![M, K]⟩ : Shape).Idx → EReal) (b : (⟨2, ![N, K]⟩ : Shape).Idx → EReal) : (⟨2, ![M, N]⟩ : Shape).Idx → EReal :=
  fun i => ∑ k : Fin K, a (ix2 (i 0) k) * b (ix2 (i 1) k)

/-- `x + a b`. -/
def res (a : (⟨2, ![M, K]⟩ : Shape).Idx → EReal) (b : (⟨2, ![K, N]⟩ : Shape).Idx → EReal) (x : (⟨2, ![M, N]⟩ : Shape).Idx → EReal) :
    (⟨2, ![M, N]⟩ : Shape).Idx → EReal :=
  fun i => x i + ∑ k : Fin K, a (ix2 (i 0) k) * b (ix2 k (i 1))

variable {m n : ℕ}

/-- A tile of a product is the product of a column block and a column block; -/
theorem tn_tile (a' : (⟨2, ![K, m]⟩ : Shape).Idx → EReal) (b' : (⟨2, ![K, n]⟩ : Shape).Idx → EReal)
    (a : (⟨2, ![K, M]⟩ : Shape).Idx → EReal) (b : (⟨2, ![K, N]⟩ : Shape).Idx → EReal) (r : Fin m) (q : Fin n) (i : (⟨2, ![M, N]⟩ : Shape).Idx)
    (ha : ∀ k : Fin K, a' (ix2 k r) = a (ix2 k (i 0))) (hb : ∀ k : Fin K, b' (ix2 k q) = b (ix2 k (i 1))) :
    tn a' b' (ix2 r q) = tn a b i :=
  Finset.sum_congr rfl fun k _ => congrArg₂ (· * ·) (ha k) (hb k)

/-- of two row blocks; -/
theorem nt_tile (a' : (⟨2, ![m, K]⟩ : Shape).Idx → EReal) (b' : (⟨2, ![n, K]⟩ : Shape).Idx → EReal)
    (a : (⟨2, ![M, K]⟩ : Shape).Idx → EReal) (b : (⟨2, ![N, K]⟩ : Shape).Idx → EReal) (r : Fin m) (q : Fin n) (i : (⟨2, ![M, N]⟩ : Shape).Idx)
    (ha : ∀ k : Fin K, a' (ix2 r k) = a (ix2 (i 0) k)) (hb : ∀ k : Fin K, b' (ix2 q k) = b (ix2 (i 1) k)) :
    nt a' b' (ix2 r q) = nt a b i :=
  Finset.sum_congr rfl fun k _ => congrArg₂ (· * ·) (ha k) (hb k)

/-- of a row block and a column block. -/
theorem res_tile (a' : (⟨2, ![m, K]⟩ : Shape).Idx → EReal) (b' : (⟨2, ![K, n]⟩ : Shape).Idx → EReal) (x' : (⟨2, ![m, n]⟩ : Shape).Idx → EReal)
    (a : (⟨2, ![M, K]⟩ : Shape).Idx → EReal) (b : (⟨2, ![K, N]⟩ : Shape).Idx → EReal) (x : (⟨2, ![M, N]⟩ : Shape).Idx → EReal)
    (r : Fin m) (q : Fin n) (i : (⟨2, ![M, N]⟩ : Shape).Idx)
    (ha : ∀ k : Fin K, a' (ix2 r k) = a (ix2 (i 0) k)) (hb : ∀ k : Fin K, b' (ix2 k q) = b (ix2 k (i 1))) (hx : x' (ix2 r q) = x i) :
    res a' b' x' (ix2 r q) = res a b x i :=
  congrArg₂ (· + ·) hx (Finset.sum_congr rfl fun k _ => congrArg₂ (· * ·) (ha k) (hb k))

end Cert.Products

end
-- ==== Proof.GwDown.lean ====
/- The gradient of the down projection's weight. -/
module

public import proofs.«01_k».proof.Defs
public import proofs.«01_k».proof.Proof.Gen.Kernel3Ideal.Value
public import proofs.«01_k».proof.Proof.Gen.Kernel3.Frame
public import proofs.«01_k».proof.Proof.Gen.Reference3Ideal.Read
public import proofs.«01_k».proof.Proof.Gen.Reference3Ideal.Run
public import proofs.«01_k».proof.Proof.Products
public import Idealize.ShloMosaic.Lib.Pipeline.ValueKit

@[expose] public section

set_option maxRecDepth 16384

noncomputable section

namespace Cert.GwDown

open Cert.Kernel3Ideal Cert.Kernel3Ideal.Gen Cert.Products
open Idealize.ShloMosaic Idealize.ShloMosaic.TcCoe Idealize.SL.Sem
open Idealize.ShloMosaic.Pipeline (Dat Cfg Window)

theorem pay_eq (v : Vec Ideal S2048x1408 .bf16) (w : Vec Ideal S2048x1024 .bf16) : k0_pay1 v w = tn v w := by
  funext i
  unfold k0_pay1 tn
  pointwise

theorem index0 : ∀ t : Fin grid0.N, win0_0.index t = ![0, t.val] := by decide +kernel
theorem index1 : ∀ t : Fin grid0.N, win0_1.index t = ![0, 0] := by decide +kernel
theorem index2 : ∀ t : Fin grid0.N, win0_2.index t = ![t.val, 0] := by decide +kernel
theorem covers2 : win0_2.Covers := by decide +kernel

theorem arr (m : (ℓ : Loc nD τ sig) → Buf (Elt Ideal) ℓ) (c : Dev nD) :
    (dats m 0 c).arrAt 2 cfg0.N = tn (m ((c : Thread nD τ).loc main_arg0)) (m ((c : Thread nD τ).loc main_arg1)) := by
  refine (dats m 0 c).arrAt_eq_of_covers 2 _ covers2 fun t _ y => ?_
  blk_simp
  rw [after0_2]
  frame_out
  obtain ⟨r, q, rfl⟩ : ∃ (r : Fin 1408) (q : Fin 1024), y = ix2 r q := ⟨y 0, y 1, eq_ix2 y⟩
  rw [pay_eq]
  refine tn_tile _ _ _ _ r q _ (fun k => ?_) fun k => ?_
  · blk_ext [iblk, V, index0 t, index2 t]
  · blk_ext [iblk, V, index1 t, index2 t]

/-- The reference's product, its factors in the other order. -/
theorem ref (a : Cert.Reference3Ideal.S2048x2816.Idx → EReal) (b : Cert.Reference3Ideal.S2048x1024.Idx → EReal) :
    Cert.Reference3Ideal.Read.val_main_v4 (F := Ideal) a b = tn a b := by
  funext i
  unfold Cert.Reference3Ideal.Read.val_main_v4 Cert.Reference3Ideal.Read.val_main_v3 Cert.Reference3Ideal.Read.val_main_v2
    Cert.Reference3Ideal.Read.val_main_v1 Cert.Reference3Ideal.Read.val_main_v0 tn
  pointwise
  exact Finset.sum_congr rfl fun k _ => mul_comm _ _

theorem frame : Cert.quiescent_Kernel3 (hKernel3 := Cert.Kernel3.Gen.facts) := fun m g _ => Cert.Kernel3.Gen.frame m g
theorem frame_ideal : Cert.quiescent_Kernel3Ideal (hKernel3Ideal := facts) := fun m g _ => Gen.frame m g
theorem frame_ref : Cert.quiescent_Reference3Ideal (hReference3Ideal := Cert.Reference3Ideal.Gen.facts) :=
  fun m g _ => (θ_run Cert.Reference3Ideal.defs _ _).mono
    (fun r h => ⟨fun c => (h c).2, sem_eq_zero_of_no_sems (by decide) r.2⟩) (Cert.Reference3Ideal.Value.run (F := Ideal) m g)

theorem equal : Cert.algebraic_Kernel3Ideal_Reference3Ideal (hKernel3Ideal := facts) (hReference3Ideal := Cert.Reference3Ideal.Gen.facts) := by
  intro m g m' g' _ hm
  refine ⟨fun c => tn (m ((c : Thread nD τ).loc main_arg0)) (m ((c : Thread nD τ).loc main_arg1)), ?_, ?_⟩
  · exact (θ_run _ _ _).mono (fun r h c => ⟨(h c).1.trans (arr m c), (h c).2⟩) (Value.run_blocks (F := Ideal) m g)
  · refine (θ_run _ _ _).mono (fun r h c => ⟨(h c).1.trans ?_, (h c).2⟩) (Cert.Reference3Ideal.Value.run (F := Ideal) m' g')
    rw [Cert.Reference3Ideal.Read.val_main_v4_eq, (hm c).1, (hm c).2]
    exact ref _ _

end Cert.GwDown

end
-- ==== Proof.GwIn.lean ====
/- The gradient of the input projection's weight. -/
module

public import proofs.«01_k».proof.Defs
public import proofs.«01_k».proof.Proof.Gen.Kernel4Ideal.Value
public import proofs.«01_k».proof.Proof.Gen.Kernel4.Frame
public import proofs.«01_k».proof.Proof.Gen.Reference4Ideal.Read
public import proofs.«01_k».proof.Proof.Gen.Reference4Ideal.Run
public import proofs.«01_k».proof.Proof.Products
public import Idealize.ShloMosaic.Lib.Pipeline.ValueKit

@[expose] public section

set_option maxRecDepth 16384

noncomputable section

namespace Cert.GwIn

open Cert.Kernel4Ideal Cert.Kernel4Ideal.Gen Cert.Products
open Idealize.ShloMosaic Idealize.ShloMosaic.TcCoe Idealize.SL.Sem
open Idealize.ShloMosaic.Pipeline (Dat Cfg Window)

theorem pay_eq (v : Vec Ideal S2048x1280 .bf16) (w : Vec Ideal S2048x1024 .bf16) : k0_pay1 v w = tn v w := by
  funext i
  unfold k0_pay1 tn
  pointwise

theorem index0 : ∀ t : Fin grid0.N, win0_0.index t = ![0, t.val] := by decide +kernel
theorem index1 : ∀ t : Fin grid0.N, win0_1.index t = ![0, 0] := by decide +kernel
theorem index2 : ∀ t : Fin grid0.N, win0_2.index t = ![t.val, 0] := by decide +kernel
theorem covers2 : win0_2.Covers := by decide +kernel

theorem arr (m : (ℓ : Loc nD τ sig) → Buf (Elt Ideal) ℓ) (c : Dev nD) :
    (dats m 0 c).arrAt 2 cfg0.N = tn (m ((c : Thread nD τ).loc main_arg0)) (m ((c : Thread nD τ).loc main_arg1)) := by
  refine (dats m 0 c).arrAt_eq_of_covers 2 _ covers2 fun t _ y => ?_
  blk_simp
  rw [after0_2]
  frame_out
  obtain ⟨r, q, rfl⟩ : ∃ (r : Fin 1280) (q : Fin 1024), y = ix2 r q := ⟨y 0, y 1, eq_ix2 y⟩
  rw [pay_eq]
  refine tn_tile _ _ _ _ r q _ (fun k => ?_) fun k => ?_
  · blk_ext [iblk, V, index0 t, index2 t]
  · blk_ext [iblk, V, index1 t, index2 t]

/-- The reference's product, turned over twice. -/
theorem ref (a : Cert.Reference4Ideal.S2048x2560.Idx → EReal) (b : Cert.Reference4Ideal.S2048x1024.Idx → EReal) :
    Cert.Reference4Ideal.Read.val_main_v5 (F := Ideal) a b = tn a b := by
  funext i
  unfold Cert.Reference4Ideal.Read.val_main_v5 Cert.Reference4Ideal.Read.val_main_v4 Cert.Reference4Ideal.Read.val_main_v3 Cert.Reference4Ideal.Read.val_main_v2
    Cert.Reference4Ideal.Read.val_main_v1 Cert.Reference4Ideal.Read.val_main_v0 tn
  pointwise

theorem frame : Cert.quiescent_Kernel4 (hKernel4 := Cert.Kernel4.Gen.facts) := fun m g _ => Cert.Kernel4.Gen.frame m g
theorem frame_ideal : Cert.quiescent_Kernel4Ideal (hKernel4Ideal := facts) := fun m g _ => Gen.frame m g
theorem frame_ref : Cert.quiescent_Reference4Ideal (hReference4Ideal := Cert.Reference4Ideal.Gen.facts) :=
  fun m g _ => (θ_run Cert.Reference4Ideal.defs _ _).mono
    (fun r h => ⟨fun c => (h c).2, sem_eq_zero_of_no_sems (by decide) r.2⟩) (Cert.Reference4Ideal.Value.run (F := Ideal) m g)

theorem equal : Cert.algebraic_Kernel4Ideal_Reference4Ideal (hKernel4Ideal := facts) (hReference4Ideal := Cert.Reference4Ideal.Gen.facts) := by
  intro m g m' g' _ hm
  refine ⟨fun c => tn (m ((c : Thread nD τ).loc main_arg0)) (m ((c : Thread nD τ).loc main_arg1)), ?_, ?_⟩
  · exact (θ_run _ _ _).mono (fun r h c => ⟨(h c).1.trans (arr m c), (h c).2⟩) (Value.run_blocks (F := Ideal) m g)
  · refine (θ_run _ _ _).mono (fun r h c => ⟨(h c).1.trans ?_, (h c).2⟩) (Cert.Reference4Ideal.Value.run (F := Ideal) m' g')
    rw [Cert.Reference4Ideal.Read.val_main_v5_eq, (hm c).1, (hm c).2]
    exact ref _ _

end Cert.GwIn

end
-- ==== Proof.GwOut.lean ====
/- The gradient of the output projection's weight, one tile of it. -/
module

public import proofs.«01_k».proof.Defs
public import proofs.«01_k».proof.Proof.Gen.Kernel5Ideal.Value
public import proofs.«01_k».proof.Proof.Gen.Kernel5.Frame
public import proofs.«01_k».proof.Proof.Gen.Reference5Ideal.Read
public import proofs.«01_k».proof.Proof.Gen.Reference5Ideal.Run
public import proofs.«01_k».proof.Proof.Products
public import Idealize.ShloMosaic.Lib.Pipeline.ValueKit

@[expose] public section

set_option maxRecDepth 16384

noncomputable section

namespace Cert.GwOut

open Cert.Kernel5Ideal Cert.Kernel5Ideal.Gen Cert.Products
open Idealize.ShloMosaic Idealize.ShloMosaic.TcCoe Idealize.SL.Sem
open Idealize.ShloMosaic.Pipeline (Dat Cfg Window)

theorem pay_eq (v : Vec Ideal S2048x1024 .bf16) (w : Vec Ideal S2048x1024 .bf16) : k0_pay1 v w = tn v w := by
  funext i
  unfold k0_pay1 tn
  pointwise

theorem index0 : ∀ t : Fin grid0.N, win0_0.index t = ![0, 0] := by decide +kernel
theorem index1 : ∀ t : Fin grid0.N, win0_1.index t = ![0, 0] := by decide +kernel
theorem index2 : ∀ t : Fin grid0.N, win0_2.index t = ![0, 0] := by decide +kernel
theorem covers2 : win0_2.Covers := by decide +kernel

theorem arr (m : (ℓ : Loc nD τ sig) → Buf (Elt Ideal) ℓ) (c : Dev nD) :
    (dats m 0 c).arrAt 2 cfg0.N = tn (m ((c : Thread nD τ).loc main_arg0)) (m ((c : Thread nD τ).loc main_arg1)) := by
  refine (dats m 0 c).arrAt_eq_of_covers 2 _ covers2 fun t _ y => ?_
  blk_simp
  rw [after0_2]
  frame_out
  obtain ⟨r, q, rfl⟩ : ∃ (r : Fin 1024) (q : Fin 1024), y = ix2 r q := ⟨y 0, y 1, eq_ix2 y⟩
  rw [pay_eq]
  refine tn_tile _ _ _ _ r q _ (fun k => ?_) fun k => ?_
  · blk_ext [iblk, V, index0 t, index2 t]
  · blk_ext [iblk, V, index1 t, index2 t]

/-- The reference's product, its factors in the other order. -/
theorem ref (a : Cert.Reference5Ideal.S2048x1024.Idx → EReal) (b : Cert.Reference5Ideal.S2048x1024.Idx → EReal) :
    Cert.Reference5Ideal.Read.val_main_v4 (F := Ideal) a b = tn a b := by
  funext i
  unfold Cert.Reference5Ideal.Read.val_main_v4 Cert.Reference5Ideal.Read.val_main_v3 Cert.Reference5Ideal.Read.val_main_v2
    Cert.Reference5Ideal.Read.val_main_v1 Cert.Reference5Ideal.Read.val_main_v0 tn
  pointwise
  exact Finset.sum_congr rfl fun k _ => mul_comm _ _

theorem frame : Cert.quiescent_Kernel5 (hKernel5 := Cert.Kernel5.Gen.facts) := fun m g _ => Cert.Kernel5.Gen.frame m g
theorem frame_ideal : Cert.quiescent_Kernel5Ideal (hKernel5Ideal := facts) := fun m g _ => Gen.frame m g
theorem frame_ref : Cert.quiescent_Reference5Ideal (hReference5Ideal := Cert.Reference5Ideal.Gen.facts) :=
  fun m g _ => (θ_run Cert.Reference5Ideal.defs _ _).mono
    (fun r h => ⟨fun c => (h c).2, sem_eq_zero_of_no_sems (by decide) r.2⟩) (Cert.Reference5Ideal.Value.run (F := Ideal) m g)

theorem equal : Cert.algebraic_Kernel5Ideal_Reference5Ideal (hKernel5Ideal := facts) (hReference5Ideal := Cert.Reference5Ideal.Gen.facts) := by
  intro m g m' g' _ hm
  refine ⟨fun c => tn (m ((c : Thread nD τ).loc main_arg0)) (m ((c : Thread nD τ).loc main_arg1)), ?_, ?_⟩
  · exact (θ_run _ _ _).mono (fun r h c => ⟨(h c).1.trans (arr m c), (h c).2⟩) (Value.run_blocks (F := Ideal) m g)
  · refine (θ_run _ _ _).mono (fun r h c => ⟨(h c).1.trans ?_, (h c).2⟩) (Cert.Reference5Ideal.Value.run (F := Ideal) m' g')
    rw [Cert.Reference5Ideal.Read.val_main_v4_eq, (hm c).1, (hm c).2]
    exact ref _ _

end Cert.GwOut

end
-- ==== Proof.DAct.lean ====
/- The gradient of the down projection's input. -/
module

public import proofs.«01_k».proof.Defs
public import proofs.«01_k».proof.Proof.Gen.Kernel6Ideal.Value
public import proofs.«01_k».proof.Proof.Gen.Kernel6.Frame
public import proofs.«01_k».proof.Proof.Gen.Reference6Ideal.Read
public import proofs.«01_k».proof.Proof.Gen.Reference6Ideal.Run
public import proofs.«01_k».proof.Proof.Products
public import Idealize.ShloMosaic.Lib.Pipeline.ValueKit

@[expose] public section

set_option maxRecDepth 16384

noncomputable section

namespace Cert.DAct

open Cert.Kernel6Ideal Cert.Kernel6Ideal.Gen Cert.Products
open Idealize.ShloMosaic Idealize.ShloMosaic.TcCoe Idealize.SL.Sem
open Idealize.ShloMosaic.Pipeline (Dat Cfg Window)

theorem pay_eq (v : Vec Ideal S1024x1024 .bf16) (w : Vec Ideal S1408x1024 .bf16) : k0_pay1 v w = nt v w := by
  funext i
  unfold k0_pay1 nt
  pointwise

theorem index0 : ∀ t : Fin grid0.N, win0_0.index t = ![t.val / 2, 0] := by decide +kernel
theorem index1 : ∀ t : Fin grid0.N, win0_1.index t = ![t.val % 2, 0] := by decide +kernel
theorem index2 : ∀ t : Fin grid0.N, win0_2.index t = ![t.val / 2, t.val % 2] := by decide +kernel
theorem covers2 : win0_2.Covers := by decide +kernel

theorem arr (m : (ℓ : Loc nD τ sig) → Buf (Elt Ideal) ℓ) (c : Dev nD) :
    (dats m 0 c).arrAt 2 cfg0.N = nt (m ((c : Thread nD τ).loc main_arg0)) (m ((c : Thread nD τ).loc main_arg1)) := by
  refine (dats m 0 c).arrAt_eq_of_covers 2 _ covers2 fun t _ y => ?_
  blk_simp
  rw [after0_2]
  frame_out
  obtain ⟨r, q, rfl⟩ : ∃ (r : Fin 1024) (q : Fin 1408), y = ix2 r q := ⟨y 0, y 1, eq_ix2 y⟩
  rw [pay_eq]
  refine nt_tile _ _ _ _ r q _ (fun k => ?_) fun k => ?_
  · blk_ext [iblk, V, index0 t, index2 t]
  · blk_ext [iblk, V, index1 t, index2 t]

/-- The reference's product. -/
theorem ref (a : Cert.Reference6Ideal.S2048x1024.Idx → EReal) (b : Cert.Reference6Ideal.S2816x1024.Idx → EReal) :
    Cert.Reference6Ideal.Read.val_main_v3 (F := Ideal) a b = nt a b := by
  funext i
  unfold Cert.Reference6Ideal.Read.val_main_v3 Cert.Reference6Ideal.Read.val_main_v2 Cert.Reference6Ideal.Read.val_main_v1
    Cert.Reference6Ideal.Read.val_main_v0 nt
  pointwise

theorem frame : Cert.quiescent_Kernel6 (hKernel6 := Cert.Kernel6.Gen.facts) := fun m g _ => Cert.Kernel6.Gen.frame m g
theorem frame_ideal : Cert.quiescent_Kernel6Ideal (hKernel6Ideal := facts) := fun m g _ => Gen.frame m g
theorem frame_ref : Cert.quiescent_Reference6Ideal (hReference6Ideal := Cert.Reference6Ideal.Gen.facts) :=
  fun m g _ => (θ_run Cert.Reference6Ideal.defs _ _).mono
    (fun r h => ⟨fun c => (h c).2, sem_eq_zero_of_no_sems (by decide) r.2⟩) (Cert.Reference6Ideal.Value.run (F := Ideal) m g)

theorem equal : Cert.algebraic_Kernel6Ideal_Reference6Ideal (hKernel6Ideal := facts) (hReference6Ideal := Cert.Reference6Ideal.Gen.facts) := by
  intro m g m' g' _ hm
  refine ⟨fun c => nt (m ((c : Thread nD τ).loc main_arg0)) (m ((c : Thread nD τ).loc main_arg1)), ?_, ?_⟩
  · exact (θ_run _ _ _).mono (fun r h c => ⟨(h c).1.trans (arr m c), (h c).2⟩) (Value.run_blocks (F := Ideal) m g)
  · refine (θ_run _ _ _).mono (fun r h c => ⟨(h c).1.trans ?_, (h c).2⟩) (Cert.Reference6Ideal.Value.run (F := Ideal) m' g')
    rw [Cert.Reference6Ideal.Read.val_main_v3_eq, (hm c).1, (hm c).2]
    exact ref _ _

end Cert.DAct

end
-- ==== Proof.DCat.lean ====
/- The gradient of the output projection's input. -/
module

public import proofs.«01_k».proof.Defs
public import proofs.«01_k».proof.Proof.Gen.Kernel7Ideal.Value
public import proofs.«01_k».proof.Proof.Gen.Kernel7.Frame
public import proofs.«01_k».proof.Proof.Gen.Reference7Ideal.Read
public import proofs.«01_k».proof.Proof.Gen.Reference7Ideal.Run
public import proofs.«01_k».proof.Proof.Products
public import Idealize.ShloMosaic.Lib.Pipeline.ValueKit

@[expose] public section

set_option maxRecDepth 16384

noncomputable section

namespace Cert.DCat

open Cert.Kernel7Ideal Cert.Kernel7Ideal.Gen Cert.Products
open Idealize.ShloMosaic Idealize.ShloMosaic.TcCoe Idealize.SL.Sem
open Idealize.ShloMosaic.Pipeline (Dat Cfg Window)

theorem pay_eq (v : Vec Ideal S1024x1024 .bf16) (w : Vec Ideal S1024x1024 .bf16) : k0_pay1 v w = nt v w := by
  funext i
  unfold k0_pay1 nt
  pointwise

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem covers2 : win0_2.Covers := by decide +kernel

theorem arr (m : (ℓ : Loc nD τ sig) → Buf (Elt Ideal) ℓ) (c : Dev nD) :
    (dats m 0 c).arrAt 2 cfg0.N = nt (m ((c : Thread nD τ).loc main_arg0)) (m ((c : Thread nD τ).loc main_arg1)) := by
  refine (dats m 0 c).arrAt_eq_of_covers 2 _ covers2 fun t _ y => ?_
  blk_simp
  rw [after0_2]
  frame_out
  obtain ⟨r, q, rfl⟩ : ∃ (r : Fin 1024) (q : Fin 1024), y = ix2 r q := ⟨y 0, y 1, eq_ix2 y⟩
  rw [pay_eq]
  refine nt_tile _ _ _ _ r q _ (fun k => ?_) fun k => ?_
  · blk_ext [iblk, V, index0 t, index2 t]
  · blk_ext [iblk, V, index1 t, index2 t]

/-- The reference's product. -/
theorem ref (a : Cert.Reference7Ideal.S2048x1024.Idx → EReal) (b : Cert.Reference7Ideal.S1024x1024.Idx → EReal) :
    Cert.Reference7Ideal.Read.val_main_v2 (F := Ideal) a b = nt a b := by
  funext i
  unfold Cert.Reference7Ideal.Read.val_main_v2 Cert.Reference7Ideal.Read.val_main_v1
    Cert.Reference7Ideal.Read.val_main_v0 nt
  pointwise

theorem frame : Cert.quiescent_Kernel7 (hKernel7 := Cert.Kernel7.Gen.facts) := fun m g _ => Cert.Kernel7.Gen.frame m g
theorem frame_ideal : Cert.quiescent_Kernel7Ideal (hKernel7Ideal := facts) := fun m g _ => Gen.frame m g
theorem frame_ref : Cert.quiescent_Reference7Ideal (hReference7Ideal := Cert.Reference7Ideal.Gen.facts) :=
  fun m g _ => (θ_run Cert.Reference7Ideal.defs _ _).mono
    (fun r h => ⟨fun c => (h c).2, sem_eq_zero_of_no_sems (by decide) r.2⟩) (Cert.Reference7Ideal.Value.run (F := Ideal) m g)

theorem equal : Cert.algebraic_Kernel7Ideal_Reference7Ideal (hKernel7Ideal := facts) (hReference7Ideal := Cert.Reference7Ideal.Gen.facts) := by
  intro m g m' g' _ hm
  refine ⟨fun c => nt (m ((c : Thread nD τ).loc main_arg0)) (m ((c : Thread nD τ).loc main_arg1)), ?_, ?_⟩
  · exact (θ_run _ _ _).mono (fun r h c => ⟨(h c).1.trans (arr m c), (h c).2⟩) (Value.run_blocks (F := Ideal) m g)
  · refine (θ_run _ _ _).mono (fun r h c => ⟨(h c).1.trans ?_, (h c).2⟩) (Cert.Reference7Ideal.Value.run (F := Ideal) m' g')
    rw [Cert.Reference7Ideal.Read.val_main_v2_eq, (hm c).1, (hm c).2]
    exact ref _ _

end Cert.DCat

end
-- ==== Proof.FwdOut.lean ====
/- The output projection added to the residual. -/
module

public import proofs.«01_k».proof.Defs
public import proofs.«01_k».proof.Proof.Gen.Kernel8Ideal.Value
public import proofs.«01_k».proof.Proof.Gen.Kernel8.Frame
public import proofs.«01_k».proof.Proof.Gen.Reference8Ideal.Read
public import proofs.«01_k».proof.Proof.Gen.Reference8Ideal.Run
public import proofs.«01_k».proof.Proof.Products
public import Idealize.ShloMosaic.Lib.Pipeline.ValueKit

@[expose] public section

set_option maxRecDepth 16384

noncomputable section

namespace Cert.FwdOut

open Cert.Kernel8Ideal Cert.Kernel8Ideal.Gen Cert.Products
open Idealize.ShloMosaic Idealize.ShloMosaic.TcCoe Idealize.SL.Sem
open Idealize.ShloMosaic.Pipeline (Dat Cfg Window)

theorem pay_eq (x : Vec Ideal S1024x512 .f32) (a : Vec Ideal S1024x1024 .bf16) (b : Vec Ideal S1024x512 .bf16) : k0_pay1 x a b = res a b x := by
  funext i
  unfold k0_pay1 res
  pointwise

theorem index0 : ∀ t : Fin grid0.N, win0_0.index t = ![t.val / 2, 0] := by decide +kernel
theorem index1 : ∀ t : Fin grid0.N, win0_1.index t = ![0, t.val % 2] := by decide +kernel
theorem index2 : ∀ t : Fin grid0.N, win0_2.index t = ![t.val / 2, t.val % 2] := by decide +kernel
theorem index3 : ∀ t : Fin grid0.N, win0_3.index t = ![t.val / 2, t.val % 2] := by decide +kernel
theorem covers3 : win0_3.Covers := by decide +kernel

theorem arr (m : (ℓ : Loc nD τ sig) → Buf (Elt Ideal) ℓ) (c : Dev nD) :
    (dats m 0 c).arrAt 3 cfg0.N = res (m ((c : Thread nD τ).loc main_arg0)) (m ((c : Thread nD τ).loc main_arg1)) (m ((c : Thread nD τ).loc main_arg2)) := by
  refine (dats m 0 c).arrAt_eq_of_covers 3 _ covers3 fun t _ y => ?_
  blk_simp
  rw [after0_3]
  frame_out
  obtain ⟨r, q, rfl⟩ : ∃ (r : Fin 1024) (q : Fin 512), y = ix2 r q := ⟨y 0, y 1, eq_ix2 y⟩
  rw [pay_eq]
  refine res_tile _ _ _ _ _ _ r q _ (fun k => ?_) (fun k => ?_) ?_
  · blk_ext [iblk, V, index0 t, index3 t]
  · blk_ext [iblk, V, index1 t, index3 t]
  · blk_ext [iblk, V, index2 t, index3 t]

/-- The reference's product and sum. -/
theorem ref (a : Cert.Reference8Ideal.S2048x1024.Idx → EReal) (b : Cert.Reference8Ideal.S1024x1024.Idx → EReal)
    (x : Cert.Reference8Ideal.S2048x1024.Idx → EReal) :
    Cert.Reference8Ideal.Read.val_main_v3 (F := Ideal) a b x = res a b x := by
  funext i
  unfold Cert.Reference8Ideal.Read.val_main_v3 Cert.Reference8Ideal.Read.val_main_v2 Cert.Reference8Ideal.Read.val_main_v1
    Cert.Reference8Ideal.Read.val_main_v0 res
  pointwise

theorem frame : Cert.quiescent_Kernel8 (hKernel8 := Cert.Kernel8.Gen.facts) := fun m g _ => Cert.Kernel8.Gen.frame m g
theorem frame_ideal : Cert.quiescent_Kernel8Ideal (hKernel8Ideal := facts) := fun m g _ => Gen.frame m g
theorem frame_ref : Cert.quiescent_Reference8Ideal (hReference8Ideal := Cert.Reference8Ideal.Gen.facts) :=
  fun m g _ => (θ_run Cert.Reference8Ideal.defs _ _).mono
    (fun r h => ⟨fun c => (h c).2, sem_eq_zero_of_no_sems (by decide) r.2⟩) (Cert.Reference8Ideal.Value.run (F := Ideal) m g)

theorem equal : Cert.algebraic_Kernel8Ideal_Reference8Ideal (hKernel8Ideal := facts) (hReference8Ideal := Cert.Reference8Ideal.Gen.facts) := by
  intro m g m' g' _ hm
  refine ⟨fun c => res (m ((c : Thread nD τ).loc main_arg0)) (m ((c : Thread nD τ).loc main_arg1)) (m ((c : Thread nD τ).loc main_arg2)), ?_, ?_⟩
  · exact (θ_run _ _ _).mono (fun r h c => ⟨(h c).1.trans (arr m c), (h c).2⟩) (Value.run_blocks (F := Ideal) m g)
  · refine (θ_run _ _ _).mono (fun r h c => ⟨(h c).1.trans ?_, (h c).2⟩) (Cert.Reference8Ideal.Value.run (F := Ideal) m' g')
    rw [Cert.Reference8Ideal.Read.val_main_v3_eq, (hm c).1, (hm c).2.1, (hm c).2.2]
    exact ref _ _ _

end Cert.FwdOut

end
-- ==== Proof.FwdDown.lean ====
/- The down projection added to the residual. -/
module

public import proofs.«01_k».proof.Defs
public import proofs.«01_k».proof.Proof.Gen.Kernel9Ideal.Value
public import proofs.«01_k».proof.Proof.Gen.Kernel9.Frame
public import proofs.«01_k».proof.Proof.Gen.Reference9Ideal.Read
public import proofs.«01_k».proof.Proof.Gen.Reference9Ideal.Run
public import proofs.«01_k».proof.Proof.Products
public import Idealize.ShloMosaic.Lib.Pipeline.ValueKit

@[expose] public section

set_option maxRecDepth 16384

noncomputable section

namespace Cert.FwdDown

open Cert.Kernel9Ideal Cert.Kernel9Ideal.Gen Cert.Products
open Idealize.ShloMosaic Idealize.ShloMosaic.TcCoe Idealize.SL.Sem
open Idealize.ShloMosaic.Pipeline (Dat Cfg Window)

theorem pay_eq (x : Vec Ideal S1024x512 .f32) (a : Vec Ideal S1024x2816 .bf16) (b : Vec Ideal S2816x512 .bf16) : k0_pay1 x a b = res a b x := by
  funext i
  unfold k0_pay1 res
  pointwise

theorem index0 : ∀ t : Fin grid0.N, win0_0.index t = ![t.val / 2, 0] := by decide +kernel
theorem index1 : ∀ t : Fin grid0.N, win0_1.index t = ![0, t.val % 2] := by decide +kernel
theorem index2 : ∀ t : Fin grid0.N, win0_2.index t = ![t.val / 2, t.val % 2] := by decide +kernel
theorem index3 : ∀ t : Fin grid0.N, win0_3.index t = ![t.val / 2, t.val % 2] := by decide +kernel
theorem covers3 : win0_3.Covers := by decide +kernel

theorem arr (m : (ℓ : Loc nD τ sig) → Buf (Elt Ideal) ℓ) (c : Dev nD) :
    (dats m 0 c).arrAt 3 cfg0.N = res (m ((c : Thread nD τ).loc main_arg0)) (m ((c : Thread nD τ).loc main_arg1)) (m ((c : Thread nD τ).loc main_arg2)) := by
  refine (dats m 0 c).arrAt_eq_of_covers 3 _ covers3 fun t _ y => ?_
  blk_simp
  rw [after0_3]
  frame_out
  obtain ⟨r, q, rfl⟩ : ∃ (r : Fin 1024) (q : Fin 512), y = ix2 r q := ⟨y 0, y 1, eq_ix2 y⟩
  rw [pay_eq]
  refine res_tile _ _ _ _ _ _ r q _ (fun k => ?_) (fun k => ?_) ?_
  · blk_ext [iblk, V, index0 t, index3 t]
  · blk_ext [iblk, V, index1 t, index3 t]
  · blk_ext [iblk, V, index2 t, index3 t]

/-- The reference's product and sum. -/
theorem ref (a : Cert.Reference9Ideal.S2048x2816.Idx → EReal) (b : Cert.Reference9Ideal.S2816x1024.Idx → EReal)
    (x : Cert.Reference9Ideal.S2048x1024.Idx → EReal) :
    Cert.Reference9Ideal.Read.val_main_v3 (F := Ideal) a b x = res a b x := by
  funext i
  unfold Cert.Reference9Ideal.Read.val_main_v3 Cert.Reference9Ideal.Read.val_main_v2 Cert.Reference9Ideal.Read.val_main_v1
    Cert.Reference9Ideal.Read.val_main_v0 res
  pointwise

theorem frame : Cert.quiescent_Kernel9 (hKernel9 := Cert.Kernel9.Gen.facts) := fun m g _ => Cert.Kernel9.Gen.frame m g
theorem frame_ideal : Cert.quiescent_Kernel9Ideal (hKernel9Ideal := facts) := fun m g _ => Gen.frame m g
theorem frame_ref : Cert.quiescent_Reference9Ideal (hReference9Ideal := Cert.Reference9Ideal.Gen.facts) :=
  fun m g _ => (θ_run Cert.Reference9Ideal.defs _ _).mono
    (fun r h => ⟨fun c => (h c).2, sem_eq_zero_of_no_sems (by decide) r.2⟩) (Cert.Reference9Ideal.Value.run (F := Ideal) m g)

theorem equal : Cert.algebraic_Kernel9Ideal_Reference9Ideal (hKernel9Ideal := facts) (hReference9Ideal := Cert.Reference9Ideal.Gen.facts) := by
  intro m g m' g' _ hm
  refine ⟨fun c => res (m ((c : Thread nD τ).loc main_arg0)) (m ((c : Thread nD τ).loc main_arg1)) (m ((c : Thread nD τ).loc main_arg2)), ?_, ?_⟩
  · exact (θ_run _ _ _).mono (fun r h c => ⟨(h c).1.trans (arr m c), (h c).2⟩) (Value.run_blocks (F := Ideal) m g)
  · refine (θ_run _ _ _).mono (fun r h c => ⟨(h c).1.trans ?_, (h c).2⟩) (Cert.Reference9Ideal.Value.run (F := Ideal) m' g')
    rw [Cert.Reference9Ideal.Read.val_main_v3_eq, (hm c).1, (hm c).2.1, (hm c).2.2]
    exact ref _ _ _

end Cert.FwdDown

end
-- ==== Proof.NormGrad.lean ====
/- The gradient of a row's root-mean-square norm on the extended reals: the kernel's form, which divides the
   inner product with the normalised row, and the form differentiation gives, which goes through the derivative
   of the reciprocal square root twice. They agree at every row, the infinite ones included. -/
module

public import Idealize.ShloMosaic.PureOps
public import Idealize.ShloMosaic.PureOps.Ideal.Laws
public import Idealize.ShloMosaic.Lib.IdealHost

@[expose] public section

noncomputable section

namespace Cert.NormGrad

open Idealize.ShloMosaic

/-- The row's length, the number added to the mean square, and the exponent's factor, as the programs write them. -/
def len : EReal := Ideal.ofBits .f32 0x44800000#32
def eps : EReal := Ideal.ofBits .f32 0x358637BD#32
def mhalf : EReal := Ideal.ofBits .f32 0xBF000000#32

theorem len_eq : len = ((1024 : ℝ) : EReal) := by
  unfold len; simp [Ideal.ofBits, Ideal.ieee]; rw [← EReal.coe_mul]; norm_num
theorem mhalf_eq : mhalf = ((-(1 / 2) : ℝ) : EReal) := by
  unfold mhalf; simp [Ideal.ofBits, Ideal.ieee]; rw [← EReal.coe_mul]; norm_num
theorem eps_eq : ∃ e : ℝ, 0 < e ∧ eps = (e : EReal) := by
  unfold eps; simp [Ideal.ofBits, Ideal.ieee]
  exact ⟨8796093 * (2 ^ 43)⁻¹, by positivity, (EReal.coe_mul _ _).symm⟩

/-- The mean square of a row plus the small number, and the reciprocal of its root. -/
def ms (x : Fin 1024 → EReal) : EReal := Ideal.div (∑ k, x k * x k) len + eps
def rr (x : Fin 1024 → EReal) : EReal := Ideal.rsqrt (ms x)

/-- The row's gradient in the kernel's form. -/
def dk (x u : Fin 1024 → EReal) (res : EReal) (j : Fin 1024) : EReal :=
  res + rr x * (u j - x j * rr x * Ideal.div (∑ k, u k * (x k * rr x)) len)

/-- The gradient of the mean square in the form differentiation gives. -/
def dms (x u : Fin 1024 → EReal) : EReal :=
  Ideal.div ((∑ k, x k * u k) * (mhalf * Ideal.div (rr x) (ms x))) len

/-- The row's gradient in the form differentiation gives. -/
def dr (x u : Fin 1024 → EReal) (res : EReal) (j : Fin 1024) : EReal :=
  res + u j * rr x + x j * dms x u + dms x u * x j

theorem div_coe (x : EReal) (y : ℝ) (hy : y ≠ 0) : Ideal.div x (y : EReal) = x * ((y⁻¹ : ℝ) : EReal) := by
  unfold Ideal.div
  rw [if_neg (by exact_mod_cast hy), EReal.coe_inv]

theorem sum_mul_real {ι : Type} (s : Finset ι) (f : ι → EReal) (r : ℝ) (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A real multiple added to itself is the multiple by the double, whatever is multiplied. -/
theorem mul_add_self (t : EReal) (a : ℝ) : t * (a : EReal) + t * (a : EReal) = t * ((2 * a : ℝ) : EReal) := by
  induction t with
  | coe t => norm_cast; ring
  | top =>
    rcases lt_trichotomy a 0 with h | rfl | h
    · rw [EReal.top_mul_coe_of_neg h, EReal.top_mul_coe_of_neg (by linarith)]; rfl
    · simp
    · rw [EReal.top_mul_coe_of_pos h, EReal.top_mul_coe_of_pos (by linarith)]; rfl
  | bot =>
    rcases lt_trichotomy a 0 with h | rfl | h
    · rw [EReal.bot_mul_coe_of_neg h, EReal.bot_mul_coe_of_neg (by linarith)]; rfl
    · simp
    · rw [EReal.bot_mul_coe_of_pos h, EReal.bot_mul_coe_of_pos (by linarith)]; rfl

theorem sq_nonneg' (x : EReal) : 0 ≤ x * x := by
  rcases le_total 0 x with h | h
  · exact mul_nonneg h h
  · rw [← neg_mul_neg]
    have : 0 ≤ -x := by rw [EReal.le_neg, neg_zero]; exact h
    exact mul_nonneg this this

/-- A row whose squares have a finite sum is a row of real numbers; else the sum is infinite. -/
theorem row_cases (x : Fin 1024 → EReal) : (∑ k, x k * x k = ⊤) ∨ ∃ y : Fin 1024 → ℝ, x = fun k => (y k : EReal) := by
  by_cases h : ∀ k, x k ≠ ⊤ ∧ x k ≠ ⊥
  · right
    exact ⟨fun k => (x k).toReal, funext fun k => (EReal.coe_toReal (h k).1 (h k).2).symm⟩
  · left
    push Not at h
    obtain ⟨k, hk⟩ := h
    have hx : x k * x k = ⊤ := by
      by_cases h1 : x k = ⊤
      · rw [h1]; rfl
      · rw [hk h1]; rfl
    refine top_le_iff.1 (hx ▸ ?_)
    exact Finset.single_le_sum (f := fun k => x k * x k) (fun k _ => sq_nonneg' (x k)) (Finset.mem_univ k)

/-- The two forms agree. -/
theorem dk_eq_dr (x u : Fin 1024 → EReal) (res : EReal) (j : Fin 1024) : dk x u res j = dr x u res j := by
  obtain ⟨e, he, hE⟩ := eps_eq
  rcases row_cases x with h | ⟨y, rfl⟩
  · have hms : ms x = ⊤ := by
      unfold ms
      rw [h, len_eq, div_coe _ _ (by norm_num), EReal.top_mul_coe_of_pos (by norm_num), hE, EReal.top_add_coe]
    have hr : rr x = 0 := by unfold rr; rw [hms]; rfl
    have hd : dms x u = 0 := by
      unfold dms
      rw [hr, hms, len_eq, div_coe _ _ (by norm_num)]
      simp [Ideal.div]
    unfold dk dr
    rw [hr, hd]
    simp
  · set x : Fin 1024 → EReal := fun k => (y k : EReal) with hx
    have hsum : ∑ k, x k * x k = ((∑ k, y k * y k : ℝ) : EReal) := by
      rw [coe_sum]; exact Finset.sum_congr rfl fun k _ => (EReal.coe_mul _ _).symm
    have hpos : 0 < (∑ k, y k * y k) * (1024 : ℝ)⁻¹ + e :=
      add_pos_of_nonneg_of_pos (mul_nonneg (Finset.sum_nonneg fun k _ => mul_self_nonneg _) (by norm_num)) he
    obtain ⟨v, hv, hms⟩ : ∃ v : ℝ, 0 < v ∧ ms x = (v : EReal) := by
      refine ⟨_, hpos, ?_⟩
      unfold ms
      rw [hsum, len_eq, div_coe _ _ (by norm_num), hE]
      rw [← EReal.coe_mul, ← EReal.coe_add]
    have hs : Real.sqrt v * Real.sqrt v = v := Real.mul_self_sqrt hv.le
    have hs0 : 0 < Real.sqrt v := Real.sqrt_pos.2 hv
    obtain ⟨r, hr0, hr2, hr⟩ : ∃ r : ℝ, 0 < r ∧ r * r = v⁻¹ ∧ rr x = (r : EReal) := by
      refine ⟨(Real.sqrt v)⁻¹, inv_pos.2 hs0, ?_, ?_⟩
      · rw [← mul_inv, hs]
      · unfold rr; rw [hms]
        show (if v < 0 then (⊥ : EReal) else if v = 0 then ⊤ else _) = _
        rw [if_neg (not_lt.2 hv.le), if_neg hv.ne']
    have hK : ∑ k, u k * (x k * rr x) = (∑ k, x k * u k) * (r : EReal) := by
      rw [hr, ← sum_mul_real _ _ r hr0.le]
      refine Finset.sum_congr rfl fun k _ => ?_
      rw [← mul_assoc, mul_comm (u k)]
    unfold dk dr dms
    rw [hK, hr, hms, len_eq, mhalf_eq, div_coe _ _ (by norm_num), div_coe _ _ (by norm_num), div_coe _ _ hv.ne']
    generalize (∑ k, x k * u k) = T
    generalize u j = w
    show res + (r : EReal) * (w - (y j : EReal) * r * (T * r * ((1024 : ℝ)⁻¹ : ℝ)))
      = res + w * r + (y j : EReal) * (T * (((-(1 / 2) : ℝ) : EReal) * (r * (v⁻¹ : ℝ))) * ((1024 : ℝ)⁻¹ : ℝ))
        + T * (((-(1 / 2) : ℝ) : EReal) * (r * (v⁻¹ : ℝ))) * ((1024 : ℝ)⁻¹ : ℝ) * (y j : EReal)
    have e1 : (y j : EReal) * r * (T * r * ((1024 : ℝ)⁻¹ : ℝ)) = T * ((y j * r * r * (1024 : ℝ)⁻¹ : ℝ) : EReal) := by
      simp only [EReal.coe_mul]; ac_rfl
    have e2 : (y j : EReal) * (T * (((-(1 / 2) : ℝ) : EReal) * (r * (v⁻¹ : ℝ))) * ((1024 : ℝ)⁻¹ : ℝ))
        = T * ((y j * (-(1 / 2) * (r * v⁻¹)) * (1024 : ℝ)⁻¹ : ℝ) : EReal) := by
      simp only [EReal.coe_mul]; ac_rfl
    have e3 : T * (((-(1 / 2) : ℝ) : EReal) * (r * (v⁻¹ : ℝ))) * ((1024 : ℝ)⁻¹ : ℝ) * (y j : EReal)
        = T * ((y j * (-(1 / 2) * (r * v⁻¹)) * (1024 : ℝ)⁻¹ : ℝ) : EReal) := by
      simp only [EReal.coe_mul]; ac_rfl
    rw [e1, e2, e3, add_assoc (res + w * r), mul_add_self, sub_eq_add_neg,
      EReal.left_distrib_of_nonneg_of_ne_top (by exact_mod_cast hr0.le) (EReal.coe_ne_top r), ← mul_neg, ← EReal.coe_neg,
      mul_left_comm, ← EReal.coe_mul, mul_comm (r : EReal) w, add_assoc]
    refine congrArg (res + ·) (congrArg (w * (r : EReal) + ·) (congrArg (T * ·) (congrArg Real.toEReal ?_)))
    rw [← hr2]; ring

end Cert.NormGrad

end
-- ==== Proof.NormSweep.lean ====
/- The block sweep of the norm's gradient: eight passes of 128 rows, each of which stores the rows' gradients
   twice (as they are and rounded) and adds the rows' share of the weight's gradient to a carried row. The blocks
   and the carried row that a whole sweep leaves, as functions of the blocks it reads. -/
module

public import proofs.«01_k».proof.Proof.Gen.Kernel11Ideal.Skeleton
public import proofs.«01_k».proof.Proof.NormGrad
public import Idealize.ShloMosaic.Lib.Pointwise
public import Idealize.ShloMosaic.Lib.Pipeline.ValueKit
public import Idealize.ShloMosaic.Lib.WholeRead

@[expose] public section
set_option maxRecDepth 16384
noncomputable section

namespace Cert.NormGrad
open Cert.Kernel11Ideal Cert.Kernel11Ideal.Gen
open Idealize.ShloMosaic Idealize.ShloMosaic.TcCoe Idealize.ShloMosaic.Tactic

/-- A load from a whole buffer reads what fills it. -/
theorem load_unread {sig : RefSig} {κ : Kind} {sp : Space} {s : Shape} {e : EltTy} {v : Memref sig κ sp s e} (h : v.IsWhole)
    (X : s.Idx → Elt Ideal e) (B : LoadRect s) : View.readAt (Elt Ideal) v.view B (h.unread X) = fun x => X (B.idx x) :=
  funext fun x => h.readAt_unread X B x

theorem pay5_apply (v : FVec Ideal S128x1024 .f32) (p : Fin 128) :
    k0_pay5 (F := Ideal) v (ix2 p 0) = rr fun k => v (ix2 p k) := by
  unfold k0_pay5
  pointwise
  rfl

theorem pay6_apply (v : FVec Ideal S128x1024 .f32) (p : Fin 128) (q : Fin 1024) :
    k0_pay6 (F := Ideal) v (ix2 p q) = v (ix2 p q) * rr fun k => v (ix2 p k) := by
  unfold k0_pay6
  pointwise
  exact congrArg _ (pay5_apply v p)

/-- A pass's gradient rows, -/
theorem pay7_apply (d x : FVec Ideal S128x1024 .f32) (g : FVec Ideal S1x1024 .f32) (res : FVec Ideal S128x1024 .f32)
    (p : Fin 128) (q : Fin 1024) :
    k0_pay7 (F := Ideal) d x g res (ix2 p q)
      = dk (fun k => x (ix2 p k)) (fun k => d (ix2 p k) * g (ix2 0 k)) (res (ix2 p q)) q := by
  unfold k0_pay7
  pointwise
  simp only [pay6_apply]
  rw [pay5_apply]
  rfl

/-- and the row it carries on. -/
theorem pay9_apply (a : FVec Ideal S1x1024 .f32) (d x : FVec Ideal S128x1024 .f32) (q : Fin 1024) :
    k0_pay9 (F := Ideal) a d x (ix2 0 q) = a (ix2 0 q) + ∑ p : Fin 128, d (ix2 p q) * (x (ix2 p q) * rr fun k => x (ix2 p k)) := by
  unfold k0_pay9
  pointwise
  simp only [pay6_apply]

theorem pay4_apply (q : Fin 1024) : k0_pay4 (F := Ideal) (ix2 0 q) = 0 := by
  unfold k0_pay4
  pointwise

theorem trips1 : k0_t1_loop.trips = 8 := by decide +kernel
theorem off1_eq : ∀ k : Fin k0_t1_loop.trips, k0_off1 k = ![128 * k.val, 0] := by decide +kernel
theorem lt8 (k : Fin k0_t1_loop.trips) : k.val < 8 := Nat.lt_of_lt_of_le k.isLt trips1.le
theorem inb1 (k : Fin k0_t1_loop.trips) : ∀ a, k0_off1 k a + S128x1024.size a ≤ S1024x1024.size a := by
  have := lt8 k
  rw [off1_eq]; intro a
  fin_cases a
  · show 128 * k.val + 128 ≤ 1024; omega
  · show 0 + 1024 ≤ 1024; omega

/-- The rows a pass reads and writes. -/
abbrev rk (k : Fin k0_t1_loop.trips) : Rect S1024x1024 := Rect.unit (s := S1024x1024) (k0_off1 k) S128x1024.size (inb1 k)

/-- Row `p` of pass `k` in the block. -/
def row (k : Fin k0_t1_loop.trips) (p : Fin 128) : Fin 1024 := ⟨128 * k.val + p.val, by have := lt8 k; have := p.isLt; omega⟩

theorem rk_emb (k : Fin k0_t1_loop.trips) (p : Fin 128) (q : Fin 1024) : (rk k).emb (ix2 p q) = ix2 (row k p) q := by
  have e : ∀ a, ((rk k).emb (ix2 p q) a).val = k0_off1 k a + 1 * (ix2 p q a).val := fun _ => rfl
  funext a; apply Fin.ext
  refine (e a).trans ?_
  rw [off1_eq]
  fin_cases a
  · show 128 * k.val + 1 * p.val = 128 * k.val + p.val; omega
  · show 0 + 1 * q.val = q.val; omega

section
variable (A X R : S1024x1024.Idx → EReal) (g : S1x1024.Idx → EReal)

/-- What the gradient's blocks are to hold, -/
def dxG : S1024x1024.Idx → EReal := fun y =>
  dk (fun k => X (ix2 (y 0) k)) (fun k => A (ix2 (y 0) k) * g (ix2 0 k)) (R y) (y 1)

/-- and one row's share of the weight's gradient. -/
def share (q : Fin 1024) (i : Fin 1024) : EReal := A (ix2 i q) * (X (ix2 i q) * rr fun k => X (ix2 i k))

/-- A pass's reads. -/
abbrev rows (Y : S1024x1024.Idx → EReal) (k : Fin k0_t1_loop.trips) : S128x1024.Idx → EReal := fun x => Y ((rk k).emb x)

abbrev St : Type := FVec Ideal S1x1024 .f32 × List (View.Piece (Elt Ideal) S1024x1024 .f32) × List (View.Piece (Elt Ideal) S1024x1024 .bf16)

/-- A state sequence of the sweep. -/
structure Sweep (st : ℕ → St) : Prop where
  zero : st 0 = (k0_pay4 (F := Ideal), [], [])
  succ : ∀ k : Fin k0_t1_loop.trips, st (k.val + 1)
    = (k0_pay9 (F := Ideal) (st k.val).1 (rows A k) (rows X k),
        ⟨rk k, k0_pay7 (F := Ideal) (rows A k) (rows X k) g (rows R k)⟩ :: (st k.val).2.1,
        ⟨rk k, k0_pay8 (F := Ideal) (rows A k) (rows X k) g (rows R k)⟩ :: (st k.val).2.2)

variable {A X R g} {st : ℕ → St} (h : Sweep A X R g st)
include h

theorem pay7_rows (k : Fin k0_t1_loop.trips) (y : S128x1024.Idx) :
    k0_pay7 (F := Ideal) (rows A k) (rows X k) g (rows R k) y = dxG A X R g ((rk k).emb y) := by
  obtain ⟨p, q, rfl⟩ : ∃ (p : Fin 128) (q : Fin 1024), y = ix2 p q := ⟨y 0, y 1, eq_ix2 y⟩
  rw [pay7_apply]
  simp only [rows, rk_emb]
  rfl

theorem Sweep.pieces : ∀ n, n ≤ 8 →
    (∀ p ∈ (st n).2.1, ∀ y : p.1.shape.Idx, p.2 y = dxG A X R g (p.1.emb y))
    ∧ (∀ p ∈ (st n).2.2, ∀ y : p.1.shape.Idx, p.2 y = dxG A X R g (p.1.emb y))
    ∧ (∀ y : S1024x1024.Idx, (y 0).val < 128 * n → (∃ p ∈ (st n).2.1, y ∈ p.1.set) ∧ ∃ p ∈ (st n).2.2, y ∈ p.1.set)
  | 0, _ => by
    rw [h.zero]
    exact ⟨fun p hp => absurd hp List.not_mem_nil, fun p hp => absurd hp List.not_mem_nil, fun y hy => absurd hy (by omega)⟩
  | n + 1, hn => by
    obtain ⟨h1, h2, h3⟩ := Sweep.pieces n (by omega)
    have e := h.succ ⟨n, by rw [trips1]; omega⟩
    dsimp only at e
    rw [e]
    refine ⟨fun p hp => ?_, fun p hp => ?_, fun y hy => ?_⟩
    · rcases List.mem_cons.1 hp with rfl | hp
      · exact pay7_rows h _
      · exact h1 p hp
    · rcases List.mem_cons.1 hp with rfl | hp
      · exact pay7_rows h _
      · exact h2 p hp
    · by_cases hlt : (y 0).val < 128 * n
      · obtain ⟨⟨p, hp, hm⟩, ⟨p', hp', hm'⟩⟩ := h3 y hlt
        exact ⟨⟨p, List.mem_cons_of_mem _ hp, hm⟩, ⟨p', List.mem_cons_of_mem _ hp', hm'⟩⟩
      · have hm : y ∈ (rk ⟨n, by rw [trips1]; omega⟩).set := by
          obtain ⟨y0, y1, rfl⟩ : ∃ (y0 y1 : Fin 1024), y = ix2 y0 y1 := ⟨y 0, y 1, eq_ix2 y⟩
          replace hlt : ¬ y0.val < 128 * n := hlt
          replace hy : y0.val < 128 * (n + 1) := hy
          have : ix2 y0 y1 = (rk ⟨n, by rw [trips1]; omega⟩).emb (ix2 (⟨y0.val - 128 * n, by omega⟩ : Fin 128) y1) := by
            rw [rk_emb]
            refine congrArg (fun a => ix2 a y1) (Fin.ext ?_)
            show y0.val = 128 * n + (y0.val - 128 * n); omega
          rw [this]
          rw [← Rect.map_emb_univ]; exact Finset.mem_map_of_mem _ (Finset.mem_univ _)
        exact ⟨⟨_, List.mem_cons_self, hm⟩, ⟨_, List.mem_cons_self, hm⟩⟩

/-- The gradient's block after a whole sweep, -/
theorem Sweep.dx : View.canon (Val := Elt Ideal) (st 8).2.1 = dxG A X R g := by
  obtain ⟨h1, -, h3⟩ := h.pieces 8 le_rfl
  exact funext fun y => View.canon_apply_of_pieces _ _ h1 y (h3 y (y 0).isLt).1

/-- its rounded copy, -/
theorem Sweep.dxb : View.canon (Val := Elt Ideal) (st 8).2.2 = dxG A X R g := by
  obtain ⟨-, h2, h3⟩ := h.pieces 8 le_rfl
  exact funext fun y => View.canon_apply_of_pieces _ _ h2 y (h3 y (y 0).isLt).2

theorem Sweep.carried (q : Fin 1024) : ∀ n, n ≤ 8 → (st n).1 (ix2 0 q)
    = ∑ i ∈ Finset.range (128 * n), if hi : i < 1024 then share A X q ⟨i, hi⟩ else 0
  | 0, _ => by rw [h.zero]; exact (pay4_apply q).trans rfl
  | n + 1, hn => by
    have e := h.succ ⟨n, by rw [trips1]; omega⟩
    dsimp only at e
    rw [e]
    dsimp only
    rw [pay9_apply, Sweep.carried q n (by omega), show 128 * (n + 1) = 128 * n + 128 from rfl, Finset.sum_range_add,
      Finset.sum_range (n := 128)]
    refine congrArg _ (Finset.sum_congr rfl fun p _ => ?_)
    rw [dif_pos (by have := p.isLt; omega)]
    simp only [rows, rk_emb]
    rfl

/-- and the carried row: the sum of the rows' shares. -/
theorem Sweep.dg (q : Fin 1024) : (st 8).1 (ix2 0 q) = ∑ i : Fin 1024, share A X q i := by
  rw [h.carried q 8 le_rfl, Finset.sum_range]
  exact Finset.sum_congr rfl fun i _ => dif_pos i.isLt
end

variable (P x res : (⟨2, ![2048, 1024]⟩ : Shape).Idx → EReal) (g : (⟨2, ![1, 1024]⟩ : Shape).Idx → EReal)

/-- The whole gradient of the norm's input, from the gradient `P` of its output and what else flows into it; -/
def gradX : (⟨2, ![2048, 1024]⟩ : Shape).Idx → EReal := fun i =>
  dk (fun k => x (ix2 (i 0) k)) (fun k => P (ix2 (i 0) k) * g (ix2 0 k)) (res i) (i 1)

/-- and of its weight. -/
def gradG : (⟨2, ![1, 1024]⟩ : Shape).Idx → EReal := fun i =>
  ∑ r : Fin 2048, P (ix2 r (i 1)) * (x (ix2 r (i 1)) * rr fun k => x (ix2 r k))

/-- A sweep's block is a block of the gradient; -/
theorem dxG_tile (A X R : S1024x1024.Idx → EReal) (g' : S1x1024.Idx → EReal) (p q : Fin 1024) (r : Fin 2048)
    (hA : ∀ k, A (ix2 p k) = P (ix2 r k)) (hX : ∀ k, X (ix2 p k) = x (ix2 r k)) (hg : ∀ k, g' (ix2 0 k) = g (ix2 0 k))
    (hR : R (ix2 p q) = res (ix2 r q)) : dxG A X R g' (ix2 p q) = gradX P x res g (ix2 r q) := by
  show dk (fun k => X (ix2 p k)) (fun k => A (ix2 p k) * g' (ix2 0 k)) (R (ix2 p q)) q
    = dk (fun k => x (ix2 r k)) (fun k => P (ix2 r k) * g (ix2 0 k)) (res (ix2 r q)) q
  simp only [hA, hX, hg, hR]

/-- and two sweeps' carried rows add up to the weight's gradient. -/
theorem shares (A₀ X₀ A₁ X₁ : S1024x1024.Idx → EReal) (q : Fin 1024)
    (h₀ : ∀ p k : Fin 1024, A₀ (ix2 p k) = P (ix2 (Fin.castAdd 1024 p : Fin (1024 + 1024)) k) ∧ X₀ (ix2 p k) = x (ix2 (Fin.castAdd 1024 p : Fin (1024 + 1024)) k))
    (h₁ : ∀ p k : Fin 1024, A₁ (ix2 p k) = P (ix2 (Fin.natAdd 1024 p : Fin (1024 + 1024)) k) ∧ X₁ (ix2 p k) = x (ix2 (Fin.natAdd 1024 p : Fin (1024 + 1024)) k)) :
    ∑ i, share A₀ X₀ q i + ∑ i, share A₁ X₁ q i = gradG P x (ix2 0 q) := by
  refine Eq.trans ?_ (Fin.sum_univ_add (a := 1024) (b := 1024)
    (fun r : Fin (1024 + 1024) => P (ix2 r q) * (x (ix2 r q) * rr fun k => x (ix2 r k)))).symm
  unfold share
  simp only [(h₀ _ _).1, (h₀ _ _).2, (h₁ _ _).1, (h₁ _ _).2]

end Cert.NormGrad
end
-- ==== Proof.BwdUp.lean ====
/- The gradient through the feed-forward's norm: the product with the up projection's weight, accumulated over
   the quarters of its contraction, then the norm's gradient in one sweep of each half of the rows. -/
module

public import proofs.«01_k».proof.Defs
public import proofs.«01_k».proof.Proof.Gen.Kernel10Ideal.Value
public import proofs.«01_k».proof.Proof.Gen.Kernel10.Frame
public import proofs.«01_k».proof.Proof.Gen.Reference10Ideal.Read
public import proofs.«01_k».proof.Proof.Gen.Reference10Ideal.Run
public import proofs.«01_k».proof.Proof.NormSweep
public import Idealize.ShloMosaic.Lib.Pipeline.ReadBack
public import Idealize.ShloMosaic.Lib.WholeRead

@[expose] public section
set_option maxRecDepth 16384
noncomputable section

namespace Cert.BwdUp
open Cert.Kernel10Ideal Cert.Kernel10Ideal.Gen Cert.NormGrad
open Idealize.ShloMosaic Idealize.ShloMosaic.TcCoe Idealize.ShloMosaic.Tactic

/-- A load from the scratch reads what fills it. -/
theorem load_scratch (X : S1024x1024.Idx → Elt Ideal .f32) (B : LoadRect S1024x1024) :
    View.readAt (Elt Ideal) (View.whole cc0_scratch0) B ((Memref.isWhole_whole cc0_scratch0).unread X) = fun x => X (B.idx x) :=
  funext fun x => (Memref.isWhole_whole cc0_scratch0).readAt_unread X B x

variable (m : (ℓ : Loc nD τ sig) → Buf (Elt Ideal) ℓ) (c : Dev nD)

/-- The point before. -/
def pred (t : Fin cfg0.N) : Fin cfg0.N := ⟨t.val - 1, Nat.lt_of_le_of_lt (Nat.sub_le _ _) t.isLt⟩

/-- The product's block: the first quarter of the contraction, then the others added to it. -/
def dh (t : Fin cfg0.N) : S1024x1024.Idx → EReal :=
  k0_pay3 (F := Ideal) (iblk m c 0 t) (iblk m c 1 t) (k0_pay3 (iblk m c 0 (pred t)) (iblk m c 1 (pred t))
    (k0_pay3 (iblk m c 0 (pred (pred t))) (iblk m c 1 (pred (pred t)))
      (k0_pay2 (iblk m c 0 (pred (pred (pred t)))) (iblk m c 1 (pred (pred (pred t)))))))

/-- The sweep's states at point `t`. -/
def sweep (t : Fin cfg0.N) (h3 : k0_cond3 (grid0.coords t) = 1#1) : ℕ → St :=
  st_k0_t1 (F := Ideal) Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _) h3
    ((hs0_2 t).unread (iblk m c 2 t)) ((hs0_3 t).unread (iblk m c 3 t)) ((hs0_4 t).unread (iblk m c 4 t))
    ((Memref.isWhole_whole cc0_scratch0).unread (dh m c t)) k0_pay4

theorem sweep_is (t : Fin cfg0.N) (h3 : k0_cond3 (grid0.coords t) = 1#1) :
    Sweep (dh m c t) (iblk m c 2 t) (iblk m c 4 t) (iblk m c 3 t) (sweep m c t h3) where
  zero := rfl
  succ k := by
    unfold sweep
    rw [st_k0_t1_succ]
    unfold tripR_k0_t1 tripL_k0_t1 trip_k0_t1
    dsimp only
    have e3 : View.readAt (Elt Ideal) (ms0_3 t).view (Rect.unit (s := S1x1024) ![0, 0] S1x1024.size inb_S1x1024_S1x1024_0_0).toLoadRect
        ((hs0_3 t).unread (iblk m c 3 t)) = iblk m c 3 t := by
      rw [load_unread]
      funext x
      refine congrArg (iblk m c 3 t) (funext fun a => Fin.ext ?_)
      fin_cases a
      · show 0 + 1 * (x 0).val = (x 0).val; omega
      · show 0 + 1 * (x 1).val = (x 1).val; omega
    rw [e3, load_unread, load_unread, load_scratch]
    rfl

/-- The scratch after a group's first point, -/
theorem acc_first (s : Fin cfg0.N) (h : s.val % 4 = 0) :
    (outsAt0 m c s.val s.isLt).2.2.2 = k0_pay2 (iblk m c 0 s) (iblk m c 1 s) := by
  rw [outsAt0_A m c s h (by omega) (by omega)]
  frame_out

/-- after one of its next two, -/
theorem acc_next (s : Fin cfg0.N) (h : 1 ≤ s.val % 4) (h' : ¬s.val % 4 = 3) :
    (outsAt0 m c s.val s.isLt).2.2.2
      = k0_pay3 (iblk m c 0 s) (iblk m c 1 s) (outsAt0 m c (pred s).val (pred s).isLt).2.2.2 := by
  rw [outsAt0_B m c s (by omega) h h']
  frame_out
  simp only [read_unread_whole]
  rfl

/-- and so before its last. -/
theorem acc_eq (t : Fin cfg0.N) (h1 : t.val % 4 = 3) :
    (outsAt0 m c (t.val - 1) (Nat.lt_of_le_of_lt (Nat.sub_le _ _) t.isLt)).2.2.2
      = k0_pay3 (iblk m c 0 (pred t)) (iblk m c 1 (pred t)) (k0_pay3 (iblk m c 0 (pred (pred t))) (iblk m c 1 (pred (pred t)))
        (k0_pay2 (iblk m c 0 (pred (pred (pred t)))) (iblk m c 1 (pred (pred (pred t)))))) := by
  have e1 : (pred t).val = t.val - 1 := rfl
  have e2 : (pred (pred t)).val = t.val - 1 - 1 := rfl
  have e3 : (pred (pred (pred t))).val = t.val - 1 - 1 - 1 := rfl
  rw [← acc_first m c _ (by omega), ← acc_next m c _ (by omega) (by omega), ← acc_next m c _ (by omega) (by omega)]
  rfl

theorem scratch_eq (L : S1024x1024.Idx → EReal) (inb) :
    (View.whole cc0_scratch0).writes (Elt Ideal) (View.whole cc0_scratch0).junk [⟨Rect.unit ![0, 0] ![1024, 1024] inb, L⟩]
      = (Memref.isWhole_whole cc0_scratch0).unread L := by
  refine Memref.IsWhole.eq_unread (Memref.isWhole_whole cc0_scratch0) ?_
  exact (View.read_writes_junk_eq_canon _ _).trans (View.canon_unit_zero (by decide) _ _)

theorem trips1' : Scf.trips 0#32 (Scalar.addi 0#32 8#32) 1#32 = 8 := by decide +kernel

/-- The first result's block, -/
theorem dxB (t : Fin cfg0.N) (h1 : t.val % 4 = 3) :
    (outsAt0 m c t.val t.isLt).1 = dxG (dh m c t) (iblk m c 2 t) (iblk m c 4 t) (iblk m c 3 t) := by
  by_cases h3 : t.val < 4
  · rw [outsAt0_C m c t (by omega) (by omega) h1 h3 (by omega)]
    frame_out
    simp only [read_unread_whole]
    rw [acc_eq m c t h1, scratch_eq, trips1']
    exact (sweep_is m c t _).dx
  · rw [outsAt0_D m c t (by omega) (by omega) h1 h3 (by omega)]
    frame_out
    simp only [read_unread_whole]
    rw [acc_eq m c t h1, scratch_eq, trips1']
    exact (sweep_is m c t _).dx

/-- its rounded copy's, -/
theorem dxbB (t : Fin cfg0.N) (h1 : t.val % 4 = 3) :
    (outsAt0 m c t.val t.isLt).2.1 = dxG (dh m c t) (iblk m c 2 t) (iblk m c 4 t) (iblk m c 3 t) := by
  by_cases h3 : t.val < 4
  · rw [outsAt0_C m c t (by omega) (by omega) h1 h3 (by omega)]
    frame_out
    simp only [read_unread_whole]
    rw [acc_eq m c t h1, scratch_eq, trips1']
    exact (sweep_is m c t _).dxb
  · rw [outsAt0_D m c t (by omega) (by omega) h1 h3 (by omega)]
    frame_out
    simp only [read_unread_whole]
    rw [acc_eq m c t h1, scratch_eq, trips1']
    exact (sweep_is m c t _).dxb

/-- and the weight's gradient: the first sweep's row, -/
theorem dg_first (t : Fin cfg0.N) (h1 : t.val = 3) (q : Fin 1024) :
    (outsAt0 m c t.val t.isLt).2.2.1 (ix2 0 q) = ∑ i : Fin 1024, share (dh m c t) (iblk m c 2 t) q i := by
  rw [outsAt0_C m c t (by omega) (by omega) (by omega) (by omega) (by omega)]
  frame_out
  simp only [read_unread_whole]
  rw [acc_eq m c t (by omega), scratch_eq, trips1']
  exact (sweep_is m c t _).dg q

/-- kept until -/
theorem dg_keep (t : Fin cfg0.N) (h : ¬t.val % 4 = 3) :
    (outsAt0 m c t.val t.isLt).2.2.1
      = (outsAt0 m c (t.val - 1) (Nat.lt_of_le_of_lt (Nat.sub_le _ _) t.isLt)).2.2.1 := by
  by_cases h0 : t.val % 4 = 0
  · rw [outsAt0_A m c t h0 (by omega) h]
    unfold out0_A_7
    frame_out
  · rw [outsAt0_B m c t h0 (by omega) h]
    unfold out0_B_7
    frame_out

/-- the second sweep's is added. -/
theorem dg_last (t : Fin cfg0.N) (h1 : t.val = 7) (q : Fin 1024) :
    (outsAt0 m c t.val t.isLt).2.2.1 (ix2 0 q)
      = (outsAt0 m c (t.val - 1) (Nat.lt_of_le_of_lt (Nat.sub_le _ _) t.isLt)).2.2.1 (ix2 0 q) + ∑ i : Fin 1024, share (dh m c t) (iblk m c 2 t) q i := by
  rw [outsAt0_D m c t (by omega) (by omega) (by omega) (by omega) (by omega)]
  frame_out
  simp only [read_unread_whole]
  rw [acc_eq m c t (by omega), scratch_eq, trips1']
  unfold k0_pay10
  pointwise
  exact congrArg _ ((sweep_is m c t _).dg q)

theorem index0 : ∀ t : Fin grid0.N, win0_0.index t = ![t.val % 4 / 2, t.val / 4, t.val % 4 % 2] := by decide +kernel
theorem index1 : ∀ t : Fin grid0.N, win0_1.index t = ![t.val % 4, 0] := by decide +kernel
theorem index2 : ∀ t : Fin grid0.N, win0_2.index t = ![t.val / 4, 0] := by decide +kernel
theorem index3 : ∀ t : Fin grid0.N, win0_3.index t = ![0, 0] := by decide +kernel
theorem index4 : ∀ t : Fin grid0.N, win0_4.index t = ![t.val / 4, 0] := by decide +kernel
theorem index5 : ∀ t : Fin grid0.N, win0_5.index t = ![t.val / 4, 0] := by decide +kernel
theorem index6 : ∀ t : Fin grid0.N, win0_6.index t = ![t.val / 4, 0] := by decide +kernel
theorem index7 : ∀ t : Fin grid0.N, win0_7.index t = ![0, 0] := by decide +kernel
theorem covers5 : win0_5.Covers := by decide +kernel
theorem covers6 : win0_6.Covers := by decide +kernel
theorem covers7 : win0_7.Covers := by decide +kernel
theorem points : grid0.N = 8 := by decide +kernel

/-- Column `n` of the incoming gradient's two planes side by side. -/
def beside (a : S2x2048x2816.Idx → EReal) (k : Fin 2048) (n : Fin 5632) : EReal :=
  a (ix3 (⟨n.val / 2816, by have := n.isLt; omega⟩ : Fin 2) k (⟨n.val % 2816, by omega⟩ : Fin 2816))

/-- One product of the contraction. -/
def term (a : S2x2048x2816.Idx → EReal) (w : S5632x1024.Idx → EReal) (r : Fin 2048) (q : Fin 1024) (n : Fin 5632) : EReal :=
  beside a r n * w (ix2 n q)

/-- The gradient of the norm's output. -/
def G (a : S2x2048x2816.Idx → EReal) (w : S5632x1024.Idx → EReal) : S2048x1024.Idx → EReal := fun i =>
  ∑ k : Fin 5632, term a w (i 0) (i 1) k

/-- Place `k` of quarter `j` of the contraction, -/
def place (j : Fin 4) (k : Fin 1408) : Fin 5632 := ⟨1408 * j.val + k.val, by have := j.isLt; have := k.isLt; omega⟩

/-- and a sum by its quarters. -/
theorem quarters (f : Fin 5632 → EReal) :
    ∑ k, f k = ((∑ k, f (place 0 k) + ∑ k, f (place 1 k)) + ∑ k, f (place 2 k)) + ∑ k, f (place 3 k) := by
  have h2 := Fin.sum_univ_add (a := 1408) (b := 1408) fun k => f (⟨k.val, by have := k.isLt; omega⟩)
  have h3 := Fin.sum_univ_add (a := 2816) (b := 1408) fun k => f (⟨k.val, by have := k.isLt; omega⟩)
  have h4 := Fin.sum_univ_add (a := 4224) (b := 1408) f
  refine h4.trans (congrArg₂ (· + ·) (h3.trans (congrArg₂ (· + ·) (h2.trans (congrArg₂ (· + ·) ?_ ?_)) ?_)) ?_)
  all_goals
    refine Finset.sum_congr rfl fun k _ => congrArg f (Fin.ext ?_)
    simp [place] <;> omega

/-- That gradient, of this call's arguments. -/
abbrev P : S2048x1024.Idx → EReal := G (m ((c : Thread nD τ).loc main_arg0)) (m ((c : Thread nD τ).loc main_arg1))

theorem block0 (t : Fin cfg0.N) (p : Fin 1024) (k : Fin 1408) (r : Fin 2048) (n : Fin 5632)
    (hr : r.val = 1024 * (t.val / 4) + p.val) (hn : n.val = 1408 * (t.val % 4) + k.val) :
    iblk m c 0 t (ix3 0 p k) = beside (m ((c : Thread nD τ).loc main_arg0)) r n := by
  unfold beside
  blk_ext [iblk, V, index0 t]

theorem block1 (t : Fin cfg0.N) (k : Fin 1408) (q : Fin 1024) (n : Fin 5632) (hn : n.val = 1408 * (t.val % 4) + k.val) :
    iblk m c 1 t (ix2 k q) = m ((c : Thread nD τ).loc main_arg1) (ix2 n q) := by
  blk_ext [iblk, V, index1 t]

theorem block2 (t : Fin cfg0.N) (p q : Fin 1024) (r : Fin 2048) (hr : r.val = 1024 * (t.val / 4) + p.val) :
    iblk m c 2 t (ix2 p q) = m ((c : Thread nD τ).loc main_arg2) (ix2 r q) := by
  blk_ext [iblk, V, index2 t]

theorem block3 (t : Fin cfg0.N) (q : Fin 1024) : iblk m c 3 t (ix2 0 q) = m ((c : Thread nD τ).loc main_arg3) (ix2 0 q) := by
  blk_ext [iblk, V, index3 t]

theorem block4 (t : Fin cfg0.N) (p q : Fin 1024) (r : Fin 2048) (hr : r.val = 1024 * (t.val / 4) + p.val) :
    iblk m c 4 t (ix2 p q) = m ((c : Thread nD τ).loc main_arg4) (ix2 r q) := by
  blk_ext [iblk, V, index4 t]

/-- A product's block. -/
theorem mm_apply (v : Vec Ideal S1x1024x1408 .bf16) (w : Vec Ideal S1408x1024 .bf16) (p q : Fin 1024) :
    k0_pay1 (F := Ideal) v w (ix2 p q) = ∑ k : Fin 1408, v (ix3 0 p k) * w (ix2 k q) := by
  unfold k0_pay1
  pointwise

theorem part (s : Fin cfg0.N) (j : Fin 4) (hj : s.val % 4 = j.val) (p q : Fin 1024) (r : Fin 2048) (hr : r.val = 1024 * (s.val / 4) + p.val) :
    k0_pay1 (F := Ideal) (iblk m c 0 s) (iblk m c 1 s) (ix2 p q)
      = ∑ k, term (m ((c : Thread nD τ).loc main_arg0)) (m ((c : Thread nD τ).loc main_arg1)) r q (place j k) := by
  rw [mm_apply]
  have hn (k : Fin 1408) : (place j k).val = 1408 * (s.val % 4) + k.val := by rw [hj]; rfl
  exact Finset.sum_congr rfl fun k _ => congrArg₂ (· * ·) (block0 m c s p k r _ hr (hn k)) (block1 m c s k q _ (hn k))

theorem dh_apply (t : Fin cfg0.N) (h1 : t.val % 4 = 3) (p q : Fin 1024) (r : Fin 2048) (hr : r.val = 1024 * (t.val / 4) + p.val) :
    dh m c t (ix2 p q) = P m c (ix2 r q) := by
  have e1 : (pred t).val = t.val - 1 := rfl
  have e2 : (pred (pred t)).val = t.val - 1 - 1 := rfl
  have e3 : (pred (pred (pred t))).val = t.val - 1 - 1 - 1 := rfl
  have h2 : (pred t).val % 4 = 2 := by omega
  have h3 : (pred (pred t)).val % 4 = 1 := by omega
  have h4 : (pred (pred (pred t))).val % 4 = 0 := by omega
  have r2 : r.val = 1024 * ((pred t).val / 4) + p.val := by omega
  have r3 : r.val = 1024 * ((pred (pred t)).val / 4) + p.val := by omega
  have r4 : r.val = 1024 * ((pred (pred (pred t))).val / 4) + p.val := by omega
  have s2 := part m c (pred t) 2 h2 p q r r2
  have s3 := part m c (pred (pred t)) 1 h3 p q r r3
  have s4 := part m c (pred (pred (pred t))) 0 h4 p q r r4
  unfold dh k0_pay3 k0_pay2
  pointwise
  exact (congrArg₂ (· + ·) (congrArg₂ (· + ·) (congrArg₂ (· + ·) s4 s3) s2) (part m c t 3 h1 p q r hr)).trans
    (quarters (term (m ((c : Thread nD τ).loc main_arg0)) (m ((c : Thread nD τ).loc main_arg1)) r q)).symm

/-- The whole gradient of the norm's input, -/
abbrev GX : S2048x1024.Idx → EReal :=
  gradX (P m c) (m ((c : Thread nD τ).loc main_arg2)) (m ((c : Thread nD τ).loc main_arg4)) (m ((c : Thread nD τ).loc main_arg3))

theorem tile (t : Fin cfg0.N) (h1 : t.val % 4 = 3) (p q : Fin 1024) (r : Fin 2048) (hr : r.val = 1024 * (t.val / 4) + p.val) :
    dxG (dh m c t) (iblk m c 2 t) (iblk m c 4 t) (iblk m c 3 t) (ix2 p q) = GX m c (ix2 r q) :=
  dxG_tile _ _ _ _ _ _ _ _ p q r (fun k => dh_apply m c t h1 p k r hr) (fun k => block2 m c t p k r hr) (fun k => block3 m c t k)
    (block4 m c t p q r hr)

def rowAt (t : Fin cfg0.N) (p : Fin 1024) : Fin 2048 :=
  ⟨1024 * (t.val / 4) + p.val, by have h := lt_of_lt_of_eq t.isLt points; have := p.isLt; omega⟩

theorem arr5 : (dats m 0 c).arrAt 5 cfg0.N = GX m c := by
  refine (dats m 0 c).arrAt_eq_of_covers 5 _ covers5 fun t ht y => ?_
  blk_simp
  rw [after0_5, dxB m c t ((flush0_5 t).1 ht)]
  obtain ⟨p, q, rfl⟩ : ∃ (p q : Fin 1024), y = ix2 p q := ⟨y 0, y 1, eq_ix2 y⟩
  have e : ((View.whole main_v0_0).slice (win0_5.rect t)).emb (ix2 p q) = ix2 (rowAt t p) q := by
    unfold rowAt
    blk_ext [index5 t]
  exact (tile m c t ((flush0_5 t).1 ht) p q _ rfl).trans (congrArg (GX m c) e).symm

theorem arr6 : (dats m 0 c).arrAt 6 cfg0.N = GX m c := by
  refine (dats m 0 c).arrAt_eq_of_covers 6 _ covers6 fun t ht y => ?_
  blk_simp
  rw [after0_6, dxbB m c t ((flush0_6 t).1 ht)]
  obtain ⟨p, q, rfl⟩ : ∃ (p q : Fin 1024), y = ix2 p q := ⟨y 0, y 1, eq_ix2 y⟩
  have e : ((View.whole main_v0_1).slice (win0_6.rect t)).emb (ix2 p q) = ix2 (rowAt t p) q := by
    unfold rowAt
    blk_ext [index6 t]
  exact (tile m c t ((flush0_6 t).1 ht) p q _ rfl).trans (congrArg (GX m c) e).symm

/-- and of its weight. -/
abbrev GG : S1x1024.Idx → EReal := gradG (P m c) (m ((c : Thread nD τ).loc main_arg2))

theorem dgB (t : Fin cfg0.N) (ht : t.val = 7) (q : Fin 1024) : (outsAt0 m c t.val t.isLt).2.2.1 (ix2 0 q) = GG m c (ix2 0 q) := by
  rw [dg_last m c t ht q]
  have v1 : (pred t).val = t.val - 1 := rfl
  have v2 : (pred (pred t)).val = t.val - 1 - 1 := rfl
  have v3 : (pred (pred (pred t))).val = t.val - 1 - 1 - 1 := rfl
  have v4 : (pred (pred (pred (pred t)))).val = t.val - 1 - 1 - 1 - 1 := rfl
  have e : (outsAt0 m c (t.val - 1) (Nat.lt_of_le_of_lt (Nat.sub_le _ _) t.isLt)).2.2.1 (ix2 0 q)
      = ∑ i : Fin 1024, share (dh m c (pred (pred (pred (pred t))))) (iblk m c 2 (pred (pred (pred (pred t))))) q i :=
    (congrFun ((dg_keep m c (pred t) (by omega)).trans ((dg_keep m c (pred (pred t)) (by omega)).trans
      (dg_keep m c (pred (pred (pred t))) (by omega)))) _).trans (dg_first m c (pred (pred (pred (pred t)))) (by omega) q)
  rw [e]
  refine shares _ _ _ _ _ _ q (fun p k => ⟨dh_apply m c _ (by omega) p k _ ?_, block2 m c _ p k _ ?_⟩)
    (fun p k => ⟨dh_apply m c _ (by omega) p k _ ?_, block2 m c _ p k _ ?_⟩)
  · show p.val = _; omega
  · show p.val = _; omega
  · show 1024 + p.val = _; omega
  · show 1024 + p.val = _; omega

theorem arr7 : (dats m 0 c).arrAt 7 cfg0.N = GG m c := by
  refine (dats m 0 c).arrAt_eq_of_covers 7 _ covers7 fun t ht y => ?_
  blk_simp
  rw [after0_7]
  obtain ⟨p, q, rfl⟩ : ∃ (p : Fin 1) (q : Fin 1024), y = ix2 p q := ⟨y 0, y 1, eq_ix2 y⟩
  obtain rfl : p = 0 := Subsingleton.elim _ _
  have e : ((View.whole main_v0_2).slice (win0_7.rect t)).emb (ix2 0 q) = ix2 0 q := by
    blk_ext [index7 t]
  have h3 : t.val = 7 := by have h := lt_of_lt_of_eq t.isLt points; have := (flush0_7 t).1 ht; omega
  exact (dgB m c t h3 q).trans (congrArg (GG m c) e).symm

end Cert.BwdUp

namespace Cert.BwdUp.Ref

open Cert.Reference10Ideal Cert.Reference10Ideal.Gen Cert.Reference10Ideal.Read Cert.NormGrad
open Idealize.ShloMosaic Idealize.ShloMosaic.TcCoe Idealize.SL.Sem

variable (a : S2x2048x2816.Idx → EReal) (w : S5632x1024.Idx → EReal) (x : S2048x1024.Idx → EReal) (g : S1x1024.Idx → EReal) (d : S2048x1024.Idx → EReal)

theorem cst_eq (j) : val_main_cst (F := Ideal) j = 0 := Ideal.ofBits_zero_f32
theorem cst3_eq (j) : val_main_cst_3 (F := Ideal) j = 0 := Ideal.ofBits_zero_f32
theorem cst4_eq (j) : val_main_cst_4 (F := Ideal) j = 0 := Ideal.ofBits_zero_f32
theorem cst6_eq (j) : val_main_cst_6 (F := Ideal) j = 0 := Ideal.ofBits_zero_f32

/-- The mean square of a row. -/
theorem ms_eq (r : Fin 2048) (z : Fin 1) : val_main_v13 (F := Ideal) x (ix2 r z) = ms fun k => x (ix2 r k) := by
  unfold val_main_v13 val_main_v12 val_main_v11 val_main_v10 val_main_v9 val_main_v8 val_main_v7
  pointwise
  rw [cst_eq, zero_add]
  rfl

/-- The two planes joined. -/
theorem join_eq (r : Fin 2048) (n : Fin 5632) : val_main_v5 (F := Ideal) a (ix2 r n) = beside a r n := by
  unfold beside
  unfold val_main_v5 val_main_v4 val_main_v3 val_main_v2 val_main_v1 val_main_v0
  pointwise
  have hi : n.val < 5632 := n.isLt
  split
  all_goals exact congrArg a (funext fun x => Fin.ext (by fin_cases x <;> simp <;> omega))

/-- The gradient of the norm's output. -/
theorem prod_eq (r : Fin 2048) (q : Fin 1024) : val_main_v24 (F := Ideal) a w (ix2 r q) = G a w (ix2 r q) := by
  unfold val_main_v24 val_main_v22 val_main_v6
  pointwise
  simp only [join_eq]
  rfl

/-- The gradient of the norm's input: differentiation's form. -/
theorem dx_eq (i : S2048x1024.Idx) : val_main_v44 (F := Ideal) a w x g d i = gradX (G a w) x d g i := by
  obtain ⟨r, q, rfl⟩ : ∃ (r : Fin 2048) (q : Fin 1024), i = ix2 r q := ⟨i 0, i 1, eq_ix2 i⟩
  refine Eq.trans ?_ (dk_eq_dr _ _ _ _).symm
  unfold val_main_v44 val_main_v43 val_main_v42 val_main_v41 val_main_v40 val_main_v39 val_main_v38 val_main_v37
    val_main_v36 val_main_v35 val_main_v34 val_main_v33 val_main_v32 val_main_v31 val_main_v30 val_main_v29 val_main_v28
    val_main_v17 val_main_v16 val_main_v15 val_main_v14
  pointwise
  simp only [Fin.sum_univ_one, cst4_eq, cst6_eq, zero_add, ms_eq, prod_eq]
  rfl

/-- The gradient of the norm's weight. -/
theorem dg_eq (i : S1x1024.Idx) : val_main_v27 (F := Ideal) a w x i = gradG (G a w) x i := by
  obtain ⟨r, q, rfl⟩ : ∃ (r : Fin 1) (q : Fin 1024), i = ix2 r q := ⟨i 0, i 1, eq_ix2 i⟩
  unfold val_main_v27 val_main_v26 val_main_v25 val_main_v19 val_main_v18 val_main_v14
  pointwise
  simp only [cst3_eq, zero_add, ms_eq, prod_eq]
  exact Finset.sum_congr rfl fun k _ => mul_comm _ _

end Cert.BwdUp.Ref

namespace Cert.BwdUp

open Cert.Kernel10Ideal Cert.Kernel10Ideal.Gen
open Idealize.ShloMosaic Idealize.ShloMosaic.TcCoe Idealize.SL.Sem

theorem frame : Cert.quiescent_Kernel10 (hKernel10 := Cert.Kernel10.Gen.facts) := fun m g _ => Cert.Kernel10.Gen.frame m g
theorem frame_ideal : Cert.quiescent_Kernel10Ideal (hKernel10Ideal := facts) := fun m g _ => Gen.frame m g
theorem frame_ref : Cert.quiescent_Reference10Ideal (hReference10Ideal := Cert.Reference10Ideal.Gen.facts) :=
  fun m g _ => (θ_run Cert.Reference10Ideal.defs _ _).mono
    (fun r h => ⟨fun c => (h c).2.2.2, sem_eq_zero_of_no_sems (by decide) r.2⟩) (Cert.Reference10Ideal.Value.run (F := Ideal) m g)

theorem equal : Cert.algebraic_Kernel10Ideal_Reference10Ideal (hKernel10Ideal := facts) (hReference10Ideal := Cert.Reference10Ideal.Gen.facts) := by
  intro m g m' g' _ hm
  refine ⟨fun c => GX m c, fun c => GX m c, fun c => GG m c, ?_, ?_⟩
  · exact (θ_run _ _ _).mono (fun r h c => ⟨(h c).1.trans (arr5 m c), (h c).2.1.trans (arr6 m c), (h c).2.2.1.trans (arr7 m c), (h c).2.2.2⟩)
      (Value.run_blocks (F := Ideal) m g)
  · refine (θ_run _ _ _).mono (fun r h c => ⟨(h c).1.trans ?_, (h c).2.1.trans ?_, (h c).2.2.1.trans ?_, (h c).2.2.2⟩)
      (Cert.Reference10Ideal.Value.run (F := Ideal) m' g')
    · rw [Cert.Reference10Ideal.Read.val_main_v44_eq, (hm c).1, (hm c).2.1, (hm c).2.2.1, (hm c).2.2.2.1, (hm c).2.2.2.2]
      exact funext fun i => Ref.dx_eq _ _ _ _ _ i
    · rw [Cert.Reference10Ideal.Read.val_main_v45_eq, (hm c).1, (hm c).2.1, (hm c).2.2.1, (hm c).2.2.2.1, (hm c).2.2.2.2]
      exact funext fun i => Ref.dx_eq _ _ _ _ _ i
    · rw [Cert.Reference10Ideal.Read.val_main_v27_eq, (hm c).1, (hm c).2.1, (hm c).2.2.1]
      exact funext fun i => Ref.dg_eq _ _ _ i

end Cert.BwdUp

end
-- ==== Proof.BwdIn.lean ====
/- The gradient through the attention's norm: the product with the input projection's weight, accumulated over
   the halves of its contraction, then the norm's gradient in one sweep of each half of the rows. -/
module

public import proofs.«01_k».proof.Defs
public import proofs.«01_k».proof.Proof.Gen.Kernel11Ideal.Value
public import proofs.«01_k».proof.Proof.Gen.Kernel11.Frame
public import proofs.«01_k».proof.Proof.Gen.Reference11Ideal.Read
public import proofs.«01_k».proof.Proof.Gen.Reference11Ideal.Run
public import proofs.«01_k».proof.Proof.NormSweep
public import Idealize.ShloMosaic.Lib.Pipeline.ReadBack
public import Idealize.ShloMosaic.Lib.WholeRead

@[expose] public section
set_option maxRecDepth 16384
noncomputable section

namespace Cert.BwdIn
open Cert.Kernel11Ideal Cert.Kernel11Ideal.Gen Cert.NormGrad
open Idealize.ShloMosaic Idealize.ShloMosaic.TcCoe Idealize.ShloMosaic.Tactic

/-- A load from the scratch reads what fills it. -/
theorem load_scratch (X : S1024x1024.Idx → Elt Ideal .f32) (B : LoadRect S1024x1024) :
    View.readAt (Elt Ideal) (View.whole cc0_scratch0) B ((Memref.isWhole_whole cc0_scratch0).unread X) = fun x => X (B.idx x) :=
  funext fun x => (Memref.isWhole_whole cc0_scratch0).readAt_unread X B x

variable (m : (ℓ : Loc nD τ sig) → Buf (Elt Ideal) ℓ) (c : Dev nD)

/-- The point before. -/
def pred (t : Fin cfg0.N) : Fin cfg0.N := ⟨t.val - 1, Nat.lt_of_le_of_lt (Nat.sub_le _ _) t.isLt⟩

/-- The product's block: the first half of the contraction, then the second added to it. -/
def dh (t : Fin cfg0.N) : S1024x1024.Idx → EReal :=
  k0_pay3 (F := Ideal) (iblk m c 0 t) (iblk m c 1 t) (k0_pay2 (iblk m c 0 (pred t)) (iblk m c 1 (pred t)))

/-- The sweep's states at point `t`. -/
def sweep (t : Fin cfg0.N) (h3 : k0_cond3 (grid0.coords t) = 1#1) : ℕ → St :=
  st_k0_t1 (F := Ideal) Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _) h3
    ((hs0_2 t).unread (iblk m c 2 t)) ((hs0_3 t).unread (iblk m c 3 t)) ((hs0_4 t).unread (iblk m c 4 t))
    ((Memref.isWhole_whole cc0_scratch0).unread (dh m c t)) k0_pay4

theorem sweep_is (t : Fin cfg0.N) (h3 : k0_cond3 (grid0.coords t) = 1#1) :
    Sweep (dh m c t) (iblk m c 2 t) (iblk m c 4 t) (iblk m c 3 t) (sweep m c t h3) where
  zero := rfl
  succ k := by
    unfold sweep
    rw [st_k0_t1_succ]
    unfold tripR_k0_t1 tripL_k0_t1 trip_k0_t1
    dsimp only
    have e3 : View.readAt (Elt Ideal) (ms0_3 t).view (Rect.unit (s := S1x1024) ![0, 0] S1x1024.size inb_S1x1024_S1x1024_0_0).toLoadRect
        ((hs0_3 t).unread (iblk m c 3 t)) = iblk m c 3 t := by
      rw [load_unread]
      funext x
      refine congrArg (iblk m c 3 t) (funext fun a => Fin.ext ?_)
      fin_cases a
      · show 0 + 1 * (x 0).val = (x 0).val; omega
      · show 0 + 1 * (x 1).val = (x 1).val; omega
    rw [e3, load_unread, load_unread, load_scratch]
    rfl

/-- The scratch holds the first half's product. -/
theorem acc_eq (t : Fin cfg0.N) (h1 : t.val % 2 = 1) :
    (outsAt0 m c (t.val - 1) (Nat.lt_of_le_of_lt (Nat.sub_le _ _) t.isLt)).2.2.2 = k0_pay2 (iblk m c 0 (pred t)) (iblk m c 1 (pred t)) := by
  have h0 : (pred t).val % 2 = 0 := by unfold pred; simp only; omega
  show (outsAt0 m c (pred t).val (pred t).isLt).2.2.2 = _
  rw [outsAt0_A m c (pred t) h0 (by omega) (by omega)]
  frame_out

theorem scratch_eq (L : S1024x1024.Idx → EReal) (inb) :
    (View.whole cc0_scratch0).writes (Elt Ideal) (View.whole cc0_scratch0).junk [⟨Rect.unit ![0, 0] ![1024, 1024] inb, L⟩]
      = (Memref.isWhole_whole cc0_scratch0).unread L := by
  refine Memref.IsWhole.eq_unread (Memref.isWhole_whole cc0_scratch0) ?_
  exact (View.read_writes_junk_eq_canon _ _).trans (View.canon_unit_zero (by decide) _ _)

theorem trips1' : Scf.trips 0#32 (Scalar.addi 0#32 8#32) 1#32 = 8 := by decide +kernel

/-- The first result's block, -/
theorem dxB (t : Fin cfg0.N) (h1 : t.val % 2 = 1) :
    (outsAt0 m c t.val t.isLt).1 = dxG (dh m c t) (iblk m c 2 t) (iblk m c 4 t) (iblk m c 3 t) := by
  by_cases h3 : t.val < 2
  · rw [outsAt0_B m c t (by omega) h1 h1 h3 (by omega)]
    frame_out
    simp only [read_unread_whole]
    rw [acc_eq m c t h1, scratch_eq, trips1']
    exact (sweep_is m c t _).dx
  · rw [outsAt0_C m c t (by omega) h1 h1 h3 (by omega)]
    frame_out
    simp only [read_unread_whole]
    rw [acc_eq m c t h1, scratch_eq, trips1']
    exact (sweep_is m c t _).dx

/-- its rounded copy's, -/
theorem dxbB (t : Fin cfg0.N) (h1 : t.val % 2 = 1) :
    (outsAt0 m c t.val t.isLt).2.1 = dxG (dh m c t) (iblk m c 2 t) (iblk m c 4 t) (iblk m c 3 t) := by
  by_cases h3 : t.val < 2
  · rw [outsAt0_B m c t (by omega) h1 h1 h3 (by omega)]
    frame_out
    simp only [read_unread_whole]
    rw [acc_eq m c t h1, scratch_eq, trips1']
    exact (sweep_is m c t _).dxb
  · rw [outsAt0_C m c t (by omega) h1 h1 h3 (by omega)]
    frame_out
    simp only [read_unread_whole]
    rw [acc_eq m c t h1, scratch_eq, trips1']
    exact (sweep_is m c t _).dxb

/-- and the weight's gradient: the first sweep's row, kept, and the second's added. -/
theorem dg1 (t : Fin cfg0.N) (h1 : t.val = 1) (q : Fin 1024) :
    (outsAt0 m c t.val t.isLt).2.2.1 (ix2 0 q) = ∑ i : Fin 1024, share (dh m c t) (iblk m c 2 t) q i := by
  rw [outsAt0_B m c t (by omega) (by omega) (by omega) (by omega) (by omega)]
  frame_out
  simp only [read_unread_whole]
  rw [acc_eq m c t (by omega), scratch_eq, trips1']
  exact (sweep_is m c t _).dg q

theorem dg3 (t : Fin cfg0.N) (h1 : t.val = 3) (q : Fin 1024) :
    (outsAt0 m c t.val t.isLt).2.2.1 (ix2 0 q)
      = (outsAt0 m c (t.val - 1) (Nat.lt_of_le_of_lt (Nat.sub_le _ _) t.isLt)).2.2.1 (ix2 0 q) + ∑ i : Fin 1024, share (dh m c t) (iblk m c 2 t) q i := by
  rw [outsAt0_C m c t (by omega) (by omega) (by omega) (by omega) (by omega)]
  frame_out
  simp only [read_unread_whole]
  rw [acc_eq m c t (by omega), scratch_eq, trips1']
  unfold k0_pay10
  pointwise
  exact congrArg _ ((sweep_is m c t _).dg q)

theorem dg2 (t : Fin cfg0.N) (h1 : t.val = 2) :
    (outsAt0 m c t.val t.isLt).2.2.1
      = (outsAt0 m c (t.val - 1) (Nat.lt_of_le_of_lt (Nat.sub_le _ _) t.isLt)).2.2.1 := by
  rw [outsAt0_A m c t (by omega) (by omega) (by omega)]
  unfold out0_A_7
  frame_out

theorem index0 : ∀ t : Fin grid0.N, win0_0.index t = ![t.val / 2, t.val % 2] := by decide +kernel
theorem index1 : ∀ t : Fin grid0.N, win0_1.index t = ![t.val % 2, 0] := by decide +kernel
theorem index2 : ∀ t : Fin grid0.N, win0_2.index t = ![t.val / 2, 0] := by decide +kernel
theorem index3 : ∀ t : Fin grid0.N, win0_3.index t = ![0, 0] := by decide +kernel
theorem index4 : ∀ t : Fin grid0.N, win0_4.index t = ![t.val / 2, 0] := by decide +kernel
theorem index5 : ∀ t : Fin grid0.N, win0_5.index t = ![t.val / 2, 0] := by decide +kernel
theorem index6 : ∀ t : Fin grid0.N, win0_6.index t = ![t.val / 2, 0] := by decide +kernel
theorem index7 : ∀ t : Fin grid0.N, win0_7.index t = ![0, 0] := by decide +kernel
theorem covers5 : win0_5.Covers := by decide +kernel
theorem covers6 : win0_6.Covers := by decide +kernel
theorem covers7 : win0_7.Covers := by decide +kernel
theorem points : grid0.N = 4 := by decide +kernel

/-- The gradient of the norm's output. -/
def G (a : S2048x2560.Idx → EReal) (w : S2560x1024.Idx → EReal) : S2048x1024.Idx → EReal := fun i =>
  ∑ k : Fin 2560, a (ix2 (i 0) k) * w (ix2 k (i 1))

/-- The contraction's two halves. -/
theorem G_split (a : S2048x2560.Idx → EReal) (w : S2560x1024.Idx → EReal) (r : Fin 2048) (q : Fin 1024) :
    G a w (ix2 r q) = ∑ k : Fin 1280, a (ix2 r (Fin.castAdd 1280 k)) * w (ix2 (Fin.castAdd 1280 k) q)
      + ∑ k : Fin 1280, a (ix2 r (Fin.natAdd 1280 k)) * w (ix2 (Fin.natAdd 1280 k) q) :=
  Fin.sum_univ_add (a := 1280) (b := 1280) fun k => a (ix2 r k) * w (ix2 k q)

/-- That gradient, of this call's arguments. -/
abbrev P : S2048x1024.Idx → EReal := G (m ((c : Thread nD τ).loc main_arg0)) (m ((c : Thread nD τ).loc main_arg1))

theorem block0 (t : Fin cfg0.N) (p : Fin 1024) (k : Fin 1280) (r : Fin 2048) (n : Fin 2560)
    (hr : r.val = 1024 * (t.val / 2) + p.val) (hn : n.val = 1280 * (t.val % 2) + k.val) :
    iblk m c 0 t (ix2 p k) = m ((c : Thread nD τ).loc main_arg0) (ix2 r n) := by
  blk_ext [iblk, V, index0 t]

theorem block1 (t : Fin cfg0.N) (k : Fin 1280) (q : Fin 1024) (n : Fin 2560) (hn : n.val = 1280 * (t.val % 2) + k.val) :
    iblk m c 1 t (ix2 k q) = m ((c : Thread nD τ).loc main_arg1) (ix2 n q) := by
  blk_ext [iblk, V, index1 t]

theorem block2 (t : Fin cfg0.N) (p q : Fin 1024) (r : Fin 2048) (hr : r.val = 1024 * (t.val / 2) + p.val) :
    iblk m c 2 t (ix2 p q) = m ((c : Thread nD τ).loc main_arg2) (ix2 r q) := by
  blk_ext [iblk, V, index2 t]

theorem block3 (t : Fin cfg0.N) (q : Fin 1024) : iblk m c 3 t (ix2 0 q) = m ((c : Thread nD τ).loc main_arg3) (ix2 0 q) := by
  blk_ext [iblk, V, index3 t]

theorem block4 (t : Fin cfg0.N) (p q : Fin 1024) (r : Fin 2048) (hr : r.val = 1024 * (t.val / 2) + p.val) :
    iblk m c 4 t (ix2 p q) = m ((c : Thread nD τ).loc main_arg4) (ix2 r q) := by
  blk_ext [iblk, V, index4 t]

/-- A product's block. -/
theorem mm_apply (v : Vec Ideal S1024x1280 .bf16) (w : Vec Ideal S1280x1024 .bf16) (p q : Fin 1024) :
    k0_pay1 (F := Ideal) v w (ix2 p q) = ∑ k : Fin 1280, v (ix2 p k) * w (ix2 k q) := by
  unfold k0_pay1
  pointwise

theorem dh_apply (t : Fin cfg0.N) (h1 : t.val % 2 = 1) (p q : Fin 1024) (r : Fin 2048) (hr : r.val = 1024 * (t.val / 2) + p.val) :
    dh m c t (ix2 p q) = P m c (ix2 r q) := by
  unfold dh k0_pay3 k0_pay2
  pointwise
  rw [mm_apply, mm_apply]
  refine Eq.trans ?_ (G_split _ _ r q).symm
  have hp : (pred t).val = t.val - 1 := rfl
  refine congrArg₂ (· + ·) (Finset.sum_congr rfl fun k _ => congrArg₂ (· * ·) (block0 m c _ p k _ _ ?_ ?_) (block1 m c _ k q _ ?_))
    (Finset.sum_congr rfl fun k _ => congrArg₂ (· * ·) (block0 m c _ p k _ _ hr ?_) (block1 m c _ k q _ ?_))
  · rw [hp, hr]; omega
  · show k.val = _; rw [hp]; omega
  · show k.val = _; rw [hp]; omega
  · show 1280 + k.val = _; omega
  · show 1280 + k.val = _; omega

/-- The whole gradient of the norm's input, -/
abbrev GX : S2048x1024.Idx → EReal :=
  gradX (P m c) (m ((c : Thread nD τ).loc main_arg2)) (m ((c : Thread nD τ).loc main_arg4)) (m ((c : Thread nD τ).loc main_arg3))

theorem tile (t : Fin cfg0.N) (h1 : t.val % 2 = 1) (p q : Fin 1024) (r : Fin 2048) (hr : r.val = 1024 * (t.val / 2) + p.val) :
    dxG (dh m c t) (iblk m c 2 t) (iblk m c 4 t) (iblk m c 3 t) (ix2 p q) = GX m c (ix2 r q) :=
  dxG_tile _ _ _ _ _ _ _ _ p q r (fun k => dh_apply m c t h1 p k r hr) (fun k => block2 m c t p k r hr) (fun k => block3 m c t k)
    (block4 m c t p q r hr)

def rowAt (t : Fin cfg0.N) (p : Fin 1024) : Fin 2048 :=
  ⟨1024 * (t.val / 2) + p.val, by have h := lt_of_lt_of_eq t.isLt points; have := p.isLt; omega⟩

theorem arr5 : (dats m 0 c).arrAt 5 cfg0.N = GX m c := by
  refine (dats m 0 c).arrAt_eq_of_covers 5 _ covers5 fun t ht y => ?_
  blk_simp
  rw [after0_5, dxB m c t ((flush0_5 t).1 ht)]
  obtain ⟨p, q, rfl⟩ : ∃ (p q : Fin 1024), y = ix2 p q := ⟨y 0, y 1, eq_ix2 y⟩
  have e : ((View.whole main_v0_0).slice (win0_5.rect t)).emb (ix2 p q) = ix2 (rowAt t p) q := by
    unfold rowAt
    blk_ext [index5 t]
  exact (tile m c t ((flush0_5 t).1 ht) p q _ rfl).trans (congrArg (GX m c) e).symm

theorem arr6 : (dats m 0 c).arrAt 6 cfg0.N = GX m c := by
  refine (dats m 0 c).arrAt_eq_of_covers 6 _ covers6 fun t ht y => ?_
  blk_simp
  rw [after0_6, dxbB m c t ((flush0_6 t).1 ht)]
  obtain ⟨p, q, rfl⟩ : ∃ (p q : Fin 1024), y = ix2 p q := ⟨y 0, y 1, eq_ix2 y⟩
  have e : ((View.whole main_v0_1).slice (win0_6.rect t)).emb (ix2 p q) = ix2 (rowAt t p) q := by
    unfold rowAt
    blk_ext [index6 t]
  exact (tile m c t ((flush0_6 t).1 ht) p q _ rfl).trans (congrArg (GX m c) e).symm

/-- and of its weight. -/
abbrev GG : S1x1024.Idx → EReal := gradG (P m c) (m ((c : Thread nD τ).loc main_arg2))

theorem dgB (t : Fin cfg0.N) (ht : t.val = 3) (q : Fin 1024) : (outsAt0 m c t.val t.isLt).2.2.1 (ix2 0 q) = GG m c (ix2 0 q) := by
  rw [dg3 m c t ht q]
  have e2 := dg2 m c (pred t) (by unfold pred; simp only; omega)
  have e1 := dg1 m c (pred (pred t)) (by unfold pred; simp only; omega) q
  have e : (outsAt0 m c (t.val - 1) (Nat.lt_of_le_of_lt (Nat.sub_le _ _) t.isLt)).2.2.1 (ix2 0 q)
      = ∑ i : Fin 1024, share (dh m c (pred (pred t))) (iblk m c 2 (pred (pred t))) q i :=
    (congrFun e2 _).trans e1
  rw [e]
  have hp : (pred (pred t)).val = t.val - 1 - 1 := rfl
  refine shares _ _ _ _ _ _ q (fun p k => ⟨dh_apply m c _ ?_ p k _ ?_, block2 m c _ p k _ ?_⟩)
    (fun p k => ⟨dh_apply m c _ ?_ p k _ ?_, block2 m c _ p k _ ?_⟩)
  · rw [hp]; omega
  · show p.val = _; rw [hp]; omega
  · show p.val = _; rw [hp]; omega
  · omega
  · show 1024 + p.val = _; omega
  · show 1024 + p.val = _; omega

theorem arr7 : (dats m 0 c).arrAt 7 cfg0.N = GG m c := by
  refine (dats m 0 c).arrAt_eq_of_covers 7 _ covers7 fun t ht y => ?_
  blk_simp
  rw [after0_7]
  obtain ⟨p, q, rfl⟩ : ∃ (p : Fin 1) (q : Fin 1024), y = ix2 p q := ⟨y 0, y 1, eq_ix2 y⟩
  obtain rfl : p = 0 := Subsingleton.elim _ _
  have e : ((View.whole main_v0_2).slice (win0_7.rect t)).emb (ix2 0 q) = ix2 0 q := by
    blk_ext [index7 t]
  have h3 : t.val = 3 := by have h := lt_of_lt_of_eq t.isLt points; have := (flush0_7 t).1 ht; omega
  exact (dgB m c t h3 q).trans (congrArg (GG m c) e).symm

end Cert.BwdIn

namespace Cert.BwdIn.Ref

open Cert.Reference11Ideal Cert.Reference11Ideal.Gen Cert.Reference11Ideal.Read Cert.NormGrad
open Idealize.ShloMosaic Idealize.ShloMosaic.TcCoe Idealize.SL.Sem

variable (a : S2048x2560.Idx → EReal) (w : S2560x1024.Idx → EReal) (x : S2048x1024.Idx → EReal) (g : S1x1024.Idx → EReal) (d : S2048x1024.Idx → EReal)

theorem cst_eq (j) : val_main_cst (F := Ideal) j = 0 := Ideal.ofBits_zero_f32
theorem cst3_eq (j) : val_main_cst_3 (F := Ideal) j = 0 := Ideal.ofBits_zero_f32
theorem cst4_eq (j) : val_main_cst_4 (F := Ideal) j = 0 := Ideal.ofBits_zero_f32
theorem cst6_eq (j) : val_main_cst_6 (F := Ideal) j = 0 := Ideal.ofBits_zero_f32

/-- The mean square of a row. -/
theorem v8_eq (r : Fin 2048) (z : Fin 1) : val_main_v8 (F := Ideal) x (ix2 r z) = ms fun k => x (ix2 r k) := by
  unfold val_main_v8 val_main_v7 val_main_v6 val_main_v5 val_main_v4 val_main_v3 val_main_v2
  pointwise
  rw [cst_eq, zero_add]
  rfl

/-- The gradient of the norm's input: differentiation's form. -/
theorem v39_eq (i : S2048x1024.Idx) : val_main_v39 (F := Ideal) a w x g d i = gradX (G a w) x d g i := by
  obtain ⟨r, q, rfl⟩ : ∃ (r : Fin 2048) (q : Fin 1024), i = ix2 r q := ⟨i 0, i 1, eq_ix2 i⟩
  refine Eq.trans ?_ (dk_eq_dr _ _ _ _).symm
  unfold val_main_v39 val_main_v38 val_main_v37 val_main_v36 val_main_v35 val_main_v34 val_main_v33 val_main_v32
    val_main_v31 val_main_v30 val_main_v29 val_main_v28 val_main_v27 val_main_v26 val_main_v25 val_main_v24 val_main_v23
    val_main_v19 val_main_v17 val_main_v12 val_main_v11 val_main_v10 val_main_v9 val_main_v1 val_main_v0
  pointwise
  simp only [Fin.sum_univ_one, cst4_eq, cst6_eq, zero_add, v8_eq]
  rfl

/-- The gradient of the norm's weight. -/
theorem v22_eq (i : S1x1024.Idx) : val_main_v22 (F := Ideal) a w x i = gradG (G a w) x i := by
  obtain ⟨r, q, rfl⟩ : ∃ (r : Fin 1) (q : Fin 1024), i = ix2 r q := ⟨i 0, i 1, eq_ix2 i⟩
  unfold val_main_v22 val_main_v21 val_main_v20 val_main_v19 val_main_v17 val_main_v14 val_main_v13 val_main_v9 val_main_v1 val_main_v0
  pointwise
  simp only [cst3_eq, zero_add, v8_eq]
  exact Finset.sum_congr rfl fun k _ => mul_comm _ _

end Cert.BwdIn.Ref

namespace Cert.BwdIn

open Cert.Kernel11Ideal Cert.Kernel11Ideal.Gen
open Idealize.ShloMosaic Idealize.ShloMosaic.TcCoe Idealize.SL.Sem

theorem frame : Cert.quiescent_Kernel11 (hKernel11 := Cert.Kernel11.Gen.facts) := fun m g _ => Cert.Kernel11.Gen.frame m g
theorem frame_ideal : Cert.quiescent_Kernel11Ideal (hKernel11Ideal := facts) := fun m g _ => Gen.frame m g
theorem frame_ref : Cert.quiescent_Reference11Ideal (hReference11Ideal := Cert.Reference11Ideal.Gen.facts) :=
  fun m g _ => (θ_run Cert.Reference11Ideal.defs _ _).mono
    (fun r h => ⟨fun c => (h c).2.2.2, sem_eq_zero_of_no_sems (by decide) r.2⟩) (Cert.Reference11Ideal.Value.run (F := Ideal) m g)

theorem equal : Cert.algebraic_Kernel11Ideal_Reference11Ideal (hKernel11Ideal := facts) (hReference11Ideal := Cert.Reference11Ideal.Gen.facts) := by
  intro m g m' g' _ hm
  refine ⟨fun c => GX m c, fun c => GX m c, fun c => GG m c, ?_, ?_⟩
  · exact (θ_run _ _ _).mono (fun r h c => ⟨(h c).1.trans (arr5 m c), (h c).2.1.trans (arr6 m c), (h c).2.2.1.trans (arr7 m c), (h c).2.2.2⟩)
      (Value.run_blocks (F := Ideal) m g)
  · refine (θ_run _ _ _).mono (fun r h c => ⟨(h c).1.trans ?_, (h c).2.1.trans ?_, (h c).2.2.1.trans ?_, (h c).2.2.2⟩)
      (Cert.Reference11Ideal.Value.run (F := Ideal) m' g')
    · rw [Cert.Reference11Ideal.Read.val_main_v39_eq, (hm c).1, (hm c).2.1, (hm c).2.2.1, (hm c).2.2.2.1, (hm c).2.2.2.2]
      exact funext fun i => Ref.v39_eq _ _ _ _ _ i
    · rw [Cert.Reference11Ideal.Read.val_main_v40_eq, (hm c).1, (hm c).2.1, (hm c).2.2.1, (hm c).2.2.2.1, (hm c).2.2.2.2]
      exact funext fun i => Ref.v39_eq _ _ _ _ _ i
    · rw [Cert.Reference11Ideal.Read.val_main_v22_eq, (hm c).1, (hm c).2.1, (hm c).2.2.1]
      exact funext fun i => Ref.v22_eq _ _ _ i

end Cert.BwdIn

end
-- ==== Proof.FwdInRun.lean ====
/- The call that normalises the rows of its input and multiplies them with a weight: its run, by hand. The first grid
   point normalises the whole input, 128 rows at a time, into a scratch and into the second result's block; every
   point multiplies the scratch with its block of the weight. The second result's block is written once and kept by
   the later points, the last of which has it copied out. -/
module

public import proofs.«01_k».proof.Proof.Gen.Kernel12
public import proofs.«01_k».proof.Proof.Gen.Kernel12Ideal.Frame
public import proofs.«01_k».proof.Proof.Gen.Kernel12Ideal.Loops
public import proofs.«01_k».proof.Proof.Gen.Kernel12Ideal.Skeleton
public import Idealize.ShloMosaic.Lib.Pointwise
public import Idealize.ShloMosaic.Lib.Pipeline.ValueKit
public import Idealize.ShloMosaic.Lib.WholeRead
public import Idealize.ShloMosaic.Lib.Claim
public import Idealize.ShloMosaic.Lib.Pipeline.Value

@[expose] public section

set_option maxRecDepth 16384

noncomputable section

namespace Cert.FwdIn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! ## The sixteen passes of the first point -/

theorem passes : k0_t1_loop.trips = 16 := by decide +kernel
theorem off_eq : ∀ k : Fin k0_t1_loop.trips, k0_off1 k = ![128 * k.val, 0] := by decide +kernel
theorem lt16 (k : Fin k0_t1_loop.trips) : k.val < 16 := Nat.lt_of_lt_of_le k.isLt passes.le
theorem inb (k : Fin k0_t1_loop.trips) : ∀ a, k0_off1 k a + S128x1024.size a ≤ S2048x1024.size a := by
  have := lt16 k
  rw [off_eq]; intro a
  fin_cases a
  · show 128 * k.val + 128 ≤ 2048; omega
  · show 0 + 1024 ≤ 1024; omega

/-- The rows of pass `k`. -/
abbrev band (k : Fin k0_t1_loop.trips) : Rect S2048x1024 := Rect.unit (s := S2048x1024) (k0_off1 k) S128x1024.size (inb k)

theorem band_emb (k : Fin k0_t1_loop.trips) (p : Fin 128) (q : Fin 1024) (r : Fin 2048) (hr : r.val = 128 * k.val + p.val) :
    (band k).emb (ix2 p q) = ix2 r q := by
  have e : ∀ a, ((band k).emb (ix2 p q) a).val = k0_off1 k a + 1 * (ix2 p q a).val := fun _ => rfl
  funext a; apply Fin.ext
  refine (e a).trans ?_
  rw [off_eq]
  fin_cases a
  · show 128 * k.val + 1 * p.val = r.val; omega
  · show 0 + 1 * q.val = q.val; omega

/-- What a pass reads. -/
abbrev rows (x : Vec F S2048x1024 .f32) (k : Fin k0_t1_loop.trips) : Vec F S128x1024 .f32 := fun z => x ((band k).emb z)

/-- The pass a row belongs to. -/
def passOf (r : Fin 2048) : Fin k0_t1_loop.trips := ⟨r.val / 128, by rw [passes]; have := r.isLt; omega⟩

/-- All passes' results, `f` a pass's, as one block. -/
def joined (f : Vec F S128x1024 .f32 → Vec F S1x1024 .f32 → FVec F S128x1024 .bf16) (x : Vec F S2048x1024 .f32)
    (g : Vec F S1x1024 .f32) : Vec F S2048x1024 .bf16 := fun y =>
  f (rows x (passOf (y 0))) g (ix2 ⟨(y 0).val % 128, Nat.mod_lt _ (by omega)⟩ (y 1))

theorem joined_band (f : Vec F S128x1024 .f32 → Vec F S1x1024 .f32 → FVec F S128x1024 .bf16) (x : Vec F S2048x1024 .f32)
    (g : Vec F S1x1024 .f32) (k : Fin k0_t1_loop.trips) (z : S128x1024.Idx) :
    f (rows x k) g z = joined f x g ((band k).emb z) := by
  obtain ⟨p, q, rfl⟩ : ∃ (p : Fin 128) (q : Fin 1024), z = ix2 p q := ⟨z 0, z 1, eq_ix2 z⟩
  have hk := lt16 k
  have hp := p.isLt
  rw [band_emb k p q ⟨128 * k.val + p.val, by omega⟩ rfl]
  have e1 : passOf ⟨128 * k.val + p.val, by omega⟩ = k := Fin.ext (by show (128 * k.val + p.val) / 128 = k.val; omega)
  have e2 : (⟨(128 * k.val + p.val) % 128, Nat.mod_lt _ (by omega)⟩ : Fin 128) = p := Fin.ext (by show (128 * k.val + p.val) % 128 = p.val; omega)
  show _ = f (rows x (passOf ⟨128 * k.val + p.val, by omega⟩)) g (ix2 ⟨(128 * k.val + p.val) % 128, Nat.mod_lt _ (by omega)⟩ q)
  rw [e1, e2]

/-- A list of pieces that passes before `n` leave. -/
structure Left (f : Vec F S128x1024 .f32 → Vec F S1x1024 .f32 → FVec F S128x1024 .bf16) (x : Vec F S2048x1024 .f32)
    (g : Vec F S1x1024 .f32) (n : ℕ) (L : List (View.Piece (Elt F) S2048x1024 .bf16)) : Prop where
  is : ∀ p ∈ L, ∀ y : p.1.shape.Idx, p.2 y = joined f x g (p.1.emb y)
  cover : ∀ y : S2048x1024.Idx, (y 0).val < 128 * n → ∃ p ∈ L, y ∈ p.1.set

section
variable {f : Vec F S128x1024 .f32 → Vec F S1x1024 .f32 → FVec F S128x1024 .bf16} {x : Vec F S2048x1024 .f32} {g : Vec F S1x1024 .f32}

theorem Left.nil : Left f x g 0 [] :=
  ⟨fun p hp => absurd hp List.not_mem_nil, fun y hy => absurd hy (by omega)⟩

theorem Left.cons {L : List (View.Piece (Elt F) S2048x1024 .bf16)} (k : Fin k0_t1_loop.trips) (h : Left f x g k.val L) :
    Left f x g (k.val + 1) (⟨band k, f (rows x k) g⟩ :: L) := by
  refine ⟨fun p hp => ?_, fun y hy => ?_⟩
  · rcases List.mem_cons.1 hp with rfl | hp
    · exact joined_band f x g k
    · exact h.is p hp
  · by_cases hlt : (y 0).val < 128 * k.val
    · obtain ⟨p, hp, hm⟩ := h.cover y hlt
      exact ⟨p, List.mem_cons_of_mem _ hp, hm⟩
    · refine ⟨_, List.mem_cons_self, ?_⟩
      obtain ⟨r, q, rfl⟩ : ∃ (r : Fin 2048) (q : Fin 1024), y = ix2 r q := ⟨y 0, y 1, eq_ix2 y⟩
      replace hlt : ¬ r.val < 128 * k.val := hlt
      replace hy : r.val < 128 * (k.val + 1) := hy
      have : ix2 r q = (band k).emb (ix2 (⟨r.val - 128 * k.val, by omega⟩ : Fin 128) q) :=
        (band_emb k _ q r (by show r.val = 128 * k.val + (r.val - 128 * k.val); omega)).symm
      rw [this, ← Rect.map_emb_univ]
      exact Finset.mem_map_of_mem _ (Finset.mem_univ _)

/-- After all passes a buffer holds the joined block, whatever it held before. -/
theorem Left.read {n : ℕ} (hn : n = 16) {L : List (View.Piece (Elt F) S2048x1024 .bf16)} (h : Left f x g n L) (b : Memref sig .tc .vmem S2048x1024 .bf16)
    (e : BufTy.Contents (Elt F) b.view.ty) : b.view.read (Elt F) (b.view.writes (Elt F) e L) = joined f x g := by
  have hc : ∀ y : S2048x1024.Idx, ∃ p ∈ L, y ∈ p.1.set := fun y => h.cover y (hn ▸ (y 0).isLt)
  refine (View.read_writes_of_cover b.view e b.view b.view.junk L hc).trans ((View.read_writes_junk_eq_canon _ _).trans ?_)
  exact funext fun y => View.canon_apply_of_pieces _ _ h.is y (hc y)
end

/-- The memory the body is given: three input blocks, two output blocks and the scratch. -/
structure Bufs where
  arg2 : Memref sig .tc .vmem S2048x1024 .f32
  harg2 : arg2.IsWhole
  arg3 : Memref sig .tc .vmem S1x1024 .f32
  harg3 : arg3.IsWhole
  arg4 : Memref sig .tc .vmem S512x1024 .bf16
  harg4 : arg4.IsWhole
  arg5 : Memref sig .tc .vmem S2048x512 .f32
  harg5 : arg5.IsWhole
  arg6 : Memref sig .tc .vmem S2048x1024 .bf16
  harg6 : arg6.IsWhole
  arg7 : Memref sig .tc .vmem S2048x1024 .bf16
  harg7 : arg7.IsWhole

/-- The two lists of pieces after `n` passes. -/
def lists (c : Dev nD) (i : grid0.Coords) (b : Bufs) (h1 : k0_cond1 i = 1#1) (x : Vec F S2048x1024 .f32) (g : Vec F S1x1024 .f32) (n : ℕ) :=
  pb_k0_t1 (F := F) Variants.none c none i b.arg2 b.harg2 b.arg3 b.harg3 b.arg4 b.harg4 b.arg5 b.harg5 b.arg6 b.harg6 b.arg7 b.harg7 h1
    (b.harg2.unread x) (b.harg3.unread g) n

/-- A load of a whole buffer reads what fills it. -/
theorem load_all {s : Shape} {e : EltTy} {v : Memref sig .tc .vmem s e} (h : v.IsWhole) (X : Vec F s e) (B : LoadRect s) :
    View.readAt (Elt F) v.view B (h.unread X) = fun z => X (B.idx z) := funext fun z => h.readAt_unread X B z

theorem lists_left (c : Dev nD) (i : grid0.Coords) (b : Bufs) (h1 : k0_cond1 i = 1#1) (x : Vec F S2048x1024 .f32) (g : Vec F S1x1024 .f32) :
    ∀ n, n ≤ 16 → Left k0_pay1 x g n (lists c i b h1 x g n).1 ∧ Left k0_pay2 x g n (lists c i b h1 x g n).2
  | 0, _ => ⟨Left.nil, Left.nil⟩
  | n + 1, hn => by
    obtain ⟨l1, l2⟩ := lists_left c i b h1 x g n (by omega)
    have hk : n < k0_t1_loop.trips := by rw [passes]; omega
    have e : lists c i b h1 x g (n + 1)
        = (⟨band ⟨n, hk⟩, k0_pay1 (rows x ⟨n, hk⟩) g⟩ :: (lists c i b h1 x g n).1,
           ⟨band ⟨n, hk⟩, k0_pay2 (rows x ⟨n, hk⟩) g⟩ :: (lists c i b h1 x g n).2) := by
      unfold lists
      refine (pb_k0_t1_succ (F := F) Variants.none c none i b.arg2 b.harg2 b.arg3 b.harg3 b.arg4 b.harg4 b.arg5 b.harg5 b.arg6 b.harg6 b.arg7 b.harg7 h1
        (b.harg2.unread x) (b.harg3.unread g) ⟨n, hk⟩).trans ?_
      unfold tripL_k0_t1 trip_k0_t1
      dsimp only
      have e3 : View.readAt (Elt F) b.arg3.view (Rect.unit (s := S1x1024) ![0, 0] S1x1024.size inb_S1x1024_S1x1024_0_0).toLoadRect
          (b.harg3.unread g) = g := by
        rw [load_all]
        funext z
        refine congrArg g (funext fun a => Fin.ext ?_)
        fin_cases a
        · show 0 + 1 * (z 0).val = (z 0).val; omega
        · show 0 + 1 * (z 1).val = (z 1).val; omega
      rw [e3, load_all]
      rfl
    rw [e]
    exact ⟨l1.cons ⟨n, hk⟩, l2.cons ⟨n, hk⟩⟩

/-! ## The body -/

theorem load_scratch_all {b : Memref sig .tc .vmem S2048x1024 .bf16} (h : b.IsWhole) (s : Vec F S2048x1024 .bf16) :
    View.readAt (Elt F) b.view (Rect.unit (s := S2048x1024) ![0, 0] S2048x1024.size inb_S2048x1024_S2048x1024_0_0).toLoadRect (h.unread s) = s := by
  rw [load_all]
  funext z
  refine congrArg s (funext fun a => Fin.ext ?_)
  fin_cases a
  · show 0 + 1 * (z 0).val = (z 0).val; omega
  · show 0 + 1 * (z 1).val = (z 1).val; omega

theorem load_weight_all {b : Memref sig .tc .vmem S512x1024 .bf16} (h : b.IsWhole) (s : Vec F S512x1024 .bf16) :
    View.readAt (Elt F) b.view (Rect.unit (s := S512x1024) ![0, 0] S512x1024.size inb_S512x1024_S512x1024_0_0).toLoadRect (h.unread s) = s := by
  rw [load_all]
  funext z
  refine congrArg s (funext fun a => Fin.ext ?_)
  fin_cases a
  · show 0 + 1 * (z 0).val = (z 0).val; omega
  · show 0 + 1 * (z 1).val = (z 1).val; omega

theorem read_product (b : Memref sig .tc .vmem S2048x512 .f32) (e : BufTy.Contents (Elt F) b.view.ty) (v : Vec F S2048x512 .f32) :
    b.view.read (Elt F) (b.view.writes (Elt F) e [⟨Rect.unit (s := S2048x512) ![0, 0] S2048x512.size inb_S2048x512_S2048x512_0_0, v⟩]) = v := by
  refine (View.read_writes_of_cover b.view e b.view b.view.junk _
    (View.cover_of_tiledL _ S2048x512.size (by sl_kernel_rfl))).trans ((View.read_writes_junk_eq_canon _ _).trans ?_)
  exact View.canon_unit_zero (by decide) _ _

set_option maxHeartbeats 1000000 in
/-- At a later point the body multiplies what the scratch holds. -/
theorem body_later (c : Dev nD) (i : grid0.Coords) (b : Bufs) (h1 : ¬ k0_cond1 i = 1#1) (s : Vec F S2048x1024 .bf16) (w : Vec F S512x1024 .bf16)
    (E : Set ℕ) (K : PUnit → sProp 𝕄) :
    iprop(owns (c : Thread nD τ) b.arg4 fullShare w ∗ (∃ d, owns (c : Thread nD τ) b.arg5 fullShare d) ∗ owns (c : Thread nD τ) b.arg7 fullShare s
        ∗ (iprop(owns (c : Thread nD τ) b.arg4 fullShare w ∗ owns (c : Thread nD τ) b.arg5 fullShare (k0_pay3 s w) ∗ owns (c : Thread nD τ) b.arg7 fullShare s) -∗ K ⟨⟩))
      ⊢ wp frame (wpE (defs₀ (F := F)) Variants.none c none) E
          (cc0_fwd_in (F := F) i b.arg2 b.harg2 b.arg3 b.harg3 b.arg4 b.harg4 b.arg5 b.harg5 b.arg6 b.harg6 b.arg7 b.harg7) K := by
  obtain ⟨arg2, harg2, arg3, harg3, arg4, harg4, arg5, harg5, arg6, harg6, arg7, harg7⟩ := b
  simp only [cc0_fwd_in_eq_skeleton]; unfold cc0_fwd_in_skel
  unfold owns
  iintro ⟨⟨%f4, %hf4, H4⟩, ⟨%d5, %f5, -, H5⟩, ⟨%f7, %hf7, H7⟩, Hk⟩
  obtain rfl := harg4.eq_unread hf4; obtain rfl := harg7.eq_unread hf7
  sl_exec (disch := sl_exact h1)
  sl_step
  iapply Hk
  isplitl [H4]
  · iexists _; isplitr; · ipureintro; exact harg4.read_unread _
    iexact H4
  isplitl [H5]
  · iexists _; isplitr; swap; · iexact H5
    ipureintro
    rw [load_scratch_all harg7, load_weight_all harg4]
    exact read_product _ _ _
  iexists _; isplitr; · ipureintro; exact harg7.read_unread _
  iexact H7

set_option maxHeartbeats 1000000 in
/-- At the first point it fills the scratch and the second result's block before. -/
theorem body_first (c : Dev nD) (i : grid0.Coords) (b : Bufs) (h1 : k0_cond1 i = 1#1) (x : Vec F S2048x1024 .f32) (g : Vec F S1x1024 .f32)
    (w : Vec F S512x1024 .bf16) (E : Set ℕ) (K : PUnit → sProp 𝕄) :
    iprop(owns (c : Thread nD τ) b.arg2 fullShare x ∗ owns (c : Thread nD τ) b.arg3 fullShare g ∗ owns (c : Thread nD τ) b.arg4 fullShare w
        ∗ (∃ d, owns (c : Thread nD τ) b.arg5 fullShare d) ∗ (∃ d, owns (c : Thread nD τ) b.arg6 fullShare d) ∗ (∃ d, owns (c : Thread nD τ) b.arg7 fullShare d)
        ∗ (iprop(owns (c : Thread nD τ) b.arg2 fullShare x ∗ owns (c : Thread nD τ) b.arg3 fullShare g ∗ owns (c : Thread nD τ) b.arg4 fullShare w
            ∗ owns (c : Thread nD τ) b.arg5 fullShare (k0_pay3 (joined k0_pay2 x g) w) ∗ owns (c : Thread nD τ) b.arg6 fullShare (joined k0_pay1 x g)
            ∗ owns (c : Thread nD τ) b.arg7 fullShare (joined k0_pay2 x g)) -∗ K ⟨⟩))
      ⊢ wp frame (wpE (defs₀ (F := F)) Variants.none c none) E
          (cc0_fwd_in (F := F) i b.arg2 b.harg2 b.arg3 b.harg3 b.arg4 b.harg4 b.arg5 b.harg5 b.arg6 b.harg6 b.arg7 b.harg7) K := by
  obtain ⟨l1, l2⟩ := lists_left c i b h1 x g (Scf.trips k0_t1_loop.lb k0_t1_loop.ub k0_t1_loop.st) passes.le
  unfold lists at l1 l2
  obtain ⟨arg2, harg2, arg3, harg3, arg4, harg4, arg5, harg5, arg6, harg6, arg7, harg7⟩ := b
  dsimp only at l1 l2
  simp only [cc0_fwd_in_eq_skeleton]; unfold cc0_fwd_in_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf2; obtain rfl := harg3.eq_unread hf3; obtain rfl := harg4.eq_unread hf4
  sl_exec (disch := sl_exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    unfold body_first.sl.v3
    rw [harg7.eq_unread (l2.read passes arg7 f7), load_scratch_all harg7, load_weight_all harg4]
    exact read_product _ _ _
  isplitl [H6]
  · iexists _; isplitr; swap; · iexact H6
    ipureintro
    exact l1.read passes arg6 f6
  iexists _; isplitr; swap; · iexact H7
  ipureintro
  exact l2.read passes arg7 f7

end Cert.FwdIn

end
-- ==== Proof.FwdInCall.lean ====
/- The whole call of the normalised product: between the points the scratch holds the normalised rows, the second
   result's block keeps them too, and the last point has it copied out. Both frames come from this one run. -/
module

public import proofs.«01_k».proof.Defs
public import proofs.«01_k».proof.Proof.FwdInRun
public import Idealize.ShloMosaic.Lib.Pipeline.TableIdle

@[expose] public section

set_option maxRecDepth 16384

noncomputable section

namespace Cert.FwdIn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! ## The points -/

theorem points : grid0.N = 5 := by decide +kernel
theorem at_first : ∀ t : Fin grid0.N, t.val = 0 → k0_cond1 (grid0.coords t) = 1#1 := by decide +kernel
theorem at_later : ∀ t : Fin grid0.N, t.val ≠ 0 → ¬ k0_cond1 (grid0.coords t) = 1#1 := by decide +kernel
theorem live4 : ∀ t : Fin cfg0.N, t.val = 0 → cfg0.idle 4 (grid0.coords t) = false := by decide +kernel
theorem idle4 : ∀ t : Fin cfg0.N, t.val ≠ 0 → cfg0.idle 4 (grid0.coords t) = true := by decide +kernel
theorem kept4 : ∀ t : Fin cfg0.N, t.val ≠ 0 → cfg0.fresh 4 t.val = false := by decide +kernel

/-- The first point. -/
def start : Fin cfg0.N := t0_0

variable (m : (ℓ : Loc nD τ sig) → Buf (Elt F) ℓ) (ρ : Dev nD → PrngReg)

abbrev stg0 (t : Fin cfg0.N) : Memref sig .tc .vmem S2048x1024 .f32 := win0_0.stage (cfg0.slots t 0)
abbrev stg1 (t : Fin cfg0.N) : Memref sig .tc .vmem S1x1024 .f32 := win0_1.stage (cfg0.slots t 1)
abbrev stg2 (t : Fin cfg0.N) : Memref sig .tc .vmem S512x1024 .bf16 := win0_2.stage (cfg0.slots t 2)
abbrev stg3 (t : Fin cfg0.N) : Memref sig .tc .vmem S2048x512 .f32 := win0_3.stage (cfg0.slots t 3)
abbrev stg4 (t : Fin cfg0.N) : Memref sig .tc .vmem S2048x1024 .bf16 := win0_4.stage (cfg0.slots t 4)
abbrev scratch : Memref sig .tc .vmem S2048x1024 .bf16 := Memref.whole cc0_scratch0

/-- The body's memory at point `t`. -/
def bufs (t : Fin cfg0.N) : Bufs := ⟨stg0 t, hstage0_0 ((cfg0.slots t 0).cast nbuf0_0), stg1 t, hstage0_1 ((cfg0.slots t 1).cast nbuf0_1), stg2 t, hstage0_2 ((cfg0.slots t 2).cast nbuf0_2), stg3 t, hstage0_3 ((cfg0.slots t 3).cast nbuf0_3), stg4 t, hstage0_4 ((cfg0.slots t 4).cast nbuf0_4), scratch, Memref.isWhole_whole _⟩

/-- What the first point stores into the second result's block, -/
def rowsB (c : Dev nD) : Vec F S2048x1024 .bf16 := joined k0_pay1 (iblk m c 0 start) (iblk m c 1 start)
/-- and into the scratch. -/
def rowsS (c : Dev nD) : Vec F S2048x1024 .bf16 := joined k0_pay2 (iblk m c 0 start) (iblk m c 1 start)

/-- Before the first point the scratch holds anything; -/
theorem phi_eq (c : Dev nD) :
    (Pipeline.ΦA spec0 c : sProp 𝕄) = iprop(iprop((∃ d, owns (c : Thread nD τ) scratch fullShare d)) ∗ (∃ r, prngReg c r)) := by
  unfold Pipeline.ΦA; rw [scopedRest0_eq]; simp only [scratch, owns_whole]; try rfl

/-- after it, the normalised rows. -/
def between (c : Dev nD) : sProp 𝕄 := iprop(owns (c : Thread nD τ) scratch fullShare (rowsS m c) ∗ (∃ r, prngReg c r))

/-- The proof data: input blocks stay, the product's block ends at the body's, the rows' block at the first point's. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (rowsS m c) (iblk m c 2 t)
    | ⟨4, _⟩ => rowsB m c
  Φ t := if t.val = 0 then Pipeline.ΦA spec0 c else between m c
  q _ := fullShare
  owed _ := 0

theorem dat_A (c : Dev nD) (w : Fin cfg0.W) : (dat m 0 c).A w = V m c (Pipeline.arrRef spec0 w) := by
  dsimp only [dat]

theorem after_0 (c : Dev nD) (t : Fin cfg0.N) : (dat m 0 c).after 0 t = iblk m c 0 t := by dsimp only [dat]
theorem after_1 (c : Dev nD) (t : Fin cfg0.N) : (dat m 0 c).after 1 t = iblk m c 1 t := by dsimp only [dat]
theorem after_2 (c : Dev nD) (t : Fin cfg0.N) : (dat m 0 c).after 2 t = iblk m c 2 t := by dsimp only [dat]
theorem after_3 (c : Dev nD) (t : Fin cfg0.N) : (dat m 0 c).after 3 t = k0_pay3 (rowsS m c) (iblk m c 2 t) := by dsimp only [dat]
theorem after_4 (c : Dev nD) (t : Fin cfg0.N) : (dat m 0 c).after 4 t = rowsB m c := by dsimp only [dat]

theorem before_0 (c : Dev nD) (t : Fin cfg0.N) (d) : (dat m 0 c).before 0 t d = iblk m c 0 t :=
  before0_0_of m (dat m 0 c) (dat_A m c 0) (after_0 m c) t d
theorem before_1 (c : Dev nD) (t : Fin cfg0.N) (d) : (dat m 0 c).before 1 t d = iblk m c 1 t :=
  before0_1_of m (dat m 0 c) (dat_A m c 1) (after_1 m c) t d
theorem before_2 (c : Dev nD) (t : Fin cfg0.N) (d) : (dat m 0 c).before 2 t d = iblk m c 2 t :=
  before0_2_of m (dat m 0 c) (dat_A m c 2) (after_2 m c) t d
/-- A later point finds the rows in the second result's block. -/
theorem before_4 (c : Dev nD) (t : Fin cfg0.N) (ht : t.val ≠ 0) (d) : (dat m 0 c).before 4 t d = rowsB m c := by
  rw [Dat.before_out_traj _ 4 rfl (fun _ _ => rfl) (fun s _ _ _ => (after_4 m c s).trans (after_4 m c _).symm) t.val t rfl d,
    if_neg (by rw [kept4 t ht]; exact Bool.false_ne_true)]
  exact after_4 m c _

theorem leaves_live (c : Dev nD) (w : Fin cfg0.W) (t : Fin cfg0.N) (h : cfg0.idle w (grid0.coords t) = false) :
    (dat m 0 c).leavesExact w t = owns (c : Thread nD τ) ((cfg0.win w).stage (cfg0.slots t w)) fullShare ((dat m 0 c).after w t) := by
  unfold Dat.leavesExact; rw [h]

/-- At a later point it is enough to hand the rows back. -/
theorem leaves_4 (c : Dev nD) (t : Fin cfg0.N) (ht : t.val ≠ 0) :
    owns (c : Thread nD τ) (stg4 t) fullShare (rowsB m c) ⊢ (dat m 0 c).leavesExact 4 t := by
  cases hf : (cfg0.win 4).flush t
  · rw [Dat.leavesExact_idle (dat m 0 c) 4 t (idle4 t ht) hf]
    iintro H
    iexists rowsB m c
    rw [before_4 m c t ht]
    iexact H
  · unfold Dat.leavesExact
    rw [show cfg0.idle 4 (cfg0.grid.coords t) = true from idle4 t ht, hf, after_4]

def atPre (c : Dev nD) (t : Fin cfg0.N) : sProp 𝕄 :=
  iprop((dat m 0 c).Φ t.castSucc ∗ (dat m 0 c).owesAt () t.castSucc ∗ (∃ d, owns (c : Thread nD τ) (stg0 t) fullShare ((dat m 0 c).before 0 t d))
    ∗ (∃ d, owns (c : Thread nD τ) (stg1 t) fullShare ((dat m 0 c).before 1 t d)) ∗ (∃ d, owns (c : Thread nD τ) (stg2 t) fullShare ((dat m 0 c).before 2 t d))
    ∗ (∃ d, owns (c : Thread nD τ) (stg3 t) fullShare ((dat m 0 c).before 3 t d)) ∗ (∃ d, owns (c : Thread nD τ) (stg4 t) fullShare ((dat m 0 c).before 4 t d)))

def atPost (c : Dev nD) (t : Fin cfg0.N) : sProp 𝕄 :=
  iprop((dat m 0 c).Φ t.succ ∗ (dat m 0 c).owesAt () t.succ ∗ (dat m 0 c).leavesExact 0 t ∗ (dat m 0 c).leavesExact 1 t ∗ (dat m 0 c).leavesExact 2 t
    ∗ (dat m 0 c).leavesExact 3 t ∗ (dat m 0 c).leavesExact 4 t)

theorem phi_after (c : Dev nD) (t : Fin (cfg0.N + 1)) (ht : t.val ≠ 0) : (dat m 0 c).Φ t = between m c := by
  dsimp only [dat]
  exact if_neg ht

theorem phi_first (c : Dev nD) (t : Fin cfg0.N) (ht : t.val = 0) : (dat m 0 c).Φ t.castSucc = Pipeline.ΦA spec0 c := by
  dsimp only [dat]
  exact if_pos ht

set_option maxHeartbeats 800000 in
/-- The body at any point. -/
theorem at_point (c : Dev nD) (t : Fin cfg0.N) :
    atPre m c t ⊢ wp frame (wpE (defs₀ (F := F)) Variants.none c none) Set.univ (bodyAt0 t) (fun _ => atPost m c t) := by
  unfold atPre atPost bodyAt0
  simp only [before_0, before_1, before_2]
  rw [show (dat m 0 c).owesAt () t.succ = (dat m 0 c).owesAt () t.castSucc from rfl, phi_after m c t.succ (by rw [Fin.val_succ]; omega),
    leaves_live m c 0 t rfl, leaves_live m c 1 t rfl, leaves_live m c 2 t rfl, leaves_live m c 3 t rfl, after_0, after_1, after_2, after_3]
  by_cases ht : t.val = 0
  · obtain rfl : t = start := Fin.ext ht
    rw [leaves_live m c 4 start (live4 start rfl), after_4, phi_first m c start rfl, phi_eq]
    unfold between
    iintro ⟨⟨HS, Hg⟩, Ho, ⟨%d0, H0⟩, ⟨%d1, H1⟩, ⟨%d2, H2⟩, ⟨%d3, H3⟩, ⟨%d4, H4⟩⟩
    iapply (body_first c (grid0.coords start) (bufs start) (at_first start rfl) (iblk m c 0 start) (iblk m c 1 start) (iblk m c 2 start) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    iexact H4
  · rw [phi_after m c t.castSucc ht]
    simp only [before_4 m c t ht]
    unfold between
    iintro ⟨⟨HS, Hg⟩, Ho, ⟨%d0, H0⟩, ⟨%d1, H1⟩, ⟨%d2, H2⟩, ⟨%d3, H3⟩, ⟨%d4, H4⟩⟩
    iapply (body_later c (grid0.coords t) (bufs t) (at_later t ht) (rowsS m c) (iblk m c 2 t) Set.univ _)
    isplitl [H2]; · iexact H2
    isplitl [H3]; · iexists _; iexact H3
    isplitl [HS]; · iexact HS
    iintro ⟨H2, H3, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    iapply (leaves_4 m c t ht)
    iexact H4

theorem row (t : Fin cfg0.N) :
    defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ := fun t => by
  rw [bigSep_W0, bigSep_W0, row]
  exact triple_restated (at_point m c t) rfl .rfl fun _ => .rfl

theorem entry (c : Dev nD) : Pipeline.ΦA spec0 c ⊢ (dat m 0 c).Φ 0 := by
  rw [show (dat m 0 c).Φ 0 = Pipeline.ΦA spec0 c from rfl]

/-- At the end the scratch's contents are forgotten. -/
theorem exit (c : Dev nD) : (dat m 0 c).Φ (Fin.last cfg0.N) ⊢ Pipeline.ΦA spec0 c := by
  rw [phi_after m c _ (by rw [Fin.val_last]; have : cfg0.N = 5 := points; omega), phi_eq]
  unfold between
  iintro ⟨HS, Hg⟩
  isplitl [HS]
  · iexists _; iexact HS
  iexact Hg

/-- The launch. -/
theorem run : θ_run defs (onTc (τ := τ) (main (F := F))) (s₀ m ρ) (fun r => (Pipeline.FramePost cfgs (dat m) 0 (V m)) r ∧ r.2.sem = fun _ => 0) :=
  Pipeline.θ_run_frame_track (Q' := _) cfgs (dat m) (0 : Fin 1) launch0 defs₀ Variants.none m ρ main
    (hbody := fun c => (obligation m c).loose) (hshare := fun c => (dat m 0 c).share_full fun _ => rfl)
    (howed := fun _ _ => rfl) (V := V m) (hmain := hmain m Variants.none) (hA := dat_A m) (hin := entry m) (hout := exit m)

/-- The frame: the arguments end unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dat m) (dat_A m) ((θ_run defs _ _).mono (fun _ h => h.1) (run m ρ)))
    ((θ_run defs _ _).mono (fun _ h => h.2) (run m ρ))

/-- The run with the two result arrays named. -/
theorem run_named : θ_run defs (onTc (τ := τ) (main (F := F))) ⟨m, fun _ => 0, ρ⟩ (fun r => ∀ c : Dev nD,
      r.2.mem ((c : Thread nD τ).loc main_v0_0) = (dat m 0 c).arrAt 3 cfg0.N
      ∧ r.2.mem ((c : Thread nD τ).loc main_v0_1) = (dat m 0 c).arrAt 4 cfg0.N) :=
  (θ_run defs _ _).mono (fun _ h c => ⟨(h.1 c).1 3, (h.1 c).1 4⟩) (run m ρ)

/-! ## The two frames -/

attribute [local instance] Cert.Kernel12.Gen.facts

/-- The body of the call is the same in both programs, -/
theorem bodies_eq : (Cert.Kernel12.defs₀ (F := F)) = (defs₀ (F := F)) := by
  refine congrArg Defs.onTc (funext fun l => funext fun a => ?_)
  match l, a with
  | 0, (t, s) => rfl

/-- and the procedures around it. -/
theorem defs_eq : (Cert.Kernel12.defs (F := F)) = (defs (F := F)) :=
  congrArg (Pipeline.defs Cert.Kernel12Ideal.pcfgs) bodies_eq

theorem frame_kernel : Cert.quiescent_Kernel12 (hKernel12 := Cert.Kernel12.Gen.facts) := by
  intro m g _
  have h := quiet (F := Bits) m g
  rw [← defs_eq] at h
  exact h

theorem frame_ideal : Cert.quiescent_Kernel12Ideal (hKernel12Ideal := facts) := fun m g _ => quiet (F := Ideal) m g

end Cert.FwdIn

end
-- ==== Proof.FwdIn.lean ====
/- The rows of the input, normalised and weighted, and their product with the projection's weight: what the call
   leaves and what the reference computes, both as sums over the whole arrays. -/
module

public import proofs.«01_k».proof.Proof.FwdInCall
public import proofs.«01_k».proof.Proof.NormGrad
public import proofs.«01_k».proof.Proof.Gen.Reference12Ideal.Run
public import proofs.«01_k».proof.Proof.Gen.Reference12Ideal.Read

@[expose] public section

set_option maxRecDepth 16384

noncomputable section

namespace Cert.FwdIn

open Cert.Kernel12Ideal Cert.Kernel12Ideal.Gen Cert.NormGrad
open Idealize.ShloMosaic Idealize.ShloMosaic.TcCoe Idealize.SL.Sem

/-- The normalised rows, -/
def hOf (x : (⟨2, ![2048, 1024]⟩ : Shape).Idx → EReal) (g : (⟨2, ![1, 1024]⟩ : Shape).Idx → EReal) :
    (⟨2, ![2048, 1024]⟩ : Shape).Idx → EReal := fun i => x i * (rr fun k => x (ix2 (i 0) k)) * g (ix2 0 (i 1))

/-- and their product with the weight. -/
def projOf (x : (⟨2, ![2048, 1024]⟩ : Shape).Idx → EReal) (g : (⟨2, ![1, 1024]⟩ : Shape).Idx → EReal)
    (w : (⟨2, ![2560, 1024]⟩ : Shape).Idx → EReal) : (⟨2, ![2048, 2560]⟩ : Shape).Idx → EReal := fun i =>
  ∑ k : Fin 1024, hOf x g (ix2 (i 0) k) * w (ix2 (i 1) k)

theorem pay1_apply (v : FVec Ideal S128x1024 .f32) (g : FVec Ideal S1x1024 .f32) (p : Fin 128) (q : Fin 1024) :
    k0_pay1 (F := Ideal) v g (ix2 p q) = v (ix2 p q) * (rr fun k => v (ix2 p k)) * g (ix2 0 q) := by
  unfold k0_pay1
  pointwise
  rfl

theorem pay2_apply (v : FVec Ideal S128x1024 .f32) (g : FVec Ideal S1x1024 .f32) (p : Fin 128) (q : Fin 1024) :
    k0_pay2 (F := Ideal) v g (ix2 p q) = v (ix2 p q) * (rr fun k => v (ix2 p k)) * g (ix2 0 q) := by
  unfold k0_pay2
  pointwise
  exact pay1_apply v g p q

theorem pay3_apply (s : FVec Ideal S2048x1024 .bf16) (w : FVec Ideal S512x1024 .bf16) (p : Fin 2048) (q : Fin 512) :
    k0_pay3 (F := Ideal) s w (ix2 p q) = ∑ k : Fin 1024, s (ix2 p k) * w (ix2 q k) := by
  unfold k0_pay3
  pointwise

/-- The passes together normalise every row. -/
theorem joined_eq (f : Vec Ideal S128x1024 .f32 → Vec Ideal S1x1024 .f32 → FVec Ideal S128x1024 .bf16)
    (hf : ∀ v g p q, f v g (ix2 p q) = v (ix2 p q) * (rr fun k => v (ix2 p k)) * g (ix2 0 q))
    (x : Vec Ideal S2048x1024 .f32) (g : Vec Ideal S1x1024 .f32) (i : S2048x1024.Idx) : joined f x g i = hOf x g i := by
  obtain ⟨r, q, rfl⟩ : ∃ (r : Fin 2048) (q : Fin 1024), i = ix2 r q := ⟨i 0, i 1, eq_ix2 i⟩
  have e : ∀ k : Fin 1024, (band (passOf r)).emb (ix2 ⟨r.val % 128, Nat.mod_lt _ (by omega)⟩ k) = ix2 r k := fun k =>
    band_emb _ _ k r (by show r.val = 128 * (r.val / 128) + r.val % 128; omega)
  refine (hf _ _ _ _).trans ?_
  simp only [rows]
  show x ((band (passOf r)).emb (ix2 ⟨r.val % 128, _⟩ q)) * (rr fun k => x ((band (passOf r)).emb (ix2 ⟨r.val % 128, _⟩ k))) * g (ix2 0 q) = _
  simp only [e]
  rfl

variable (m : (ℓ : Loc nD τ sig) → Buf (Elt Ideal) ℓ) (c : Dev nD)

theorem index0 : ∀ t : Fin grid0.N, win0_0.index t = ![0, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![0, t.val] := by decide +kernel
theorem index4 : ∀ t : Fin grid0.N, win0_4.index t = ![0, 0] := by decide +kernel
theorem covers3 : win0_3.Covers := by decide +kernel
theorem covers4 : win0_4.Covers := by decide +kernel

theorem block0 (t : Fin cfg0.N) : iblk m c 0 t = m ((c : Thread nD τ).loc main_arg0) := by
  funext y
  obtain ⟨p, q, rfl⟩ : ∃ (p : Fin 2048) (q : Fin 1024), y = ix2 p q := ⟨y 0, y 1, eq_ix2 y⟩
  blk_ext [iblk, V, index0 t]

theorem block1 (t : Fin cfg0.N) : iblk m c 1 t = m ((c : Thread nD τ).loc main_arg1) := by
  funext y
  obtain ⟨p, q, rfl⟩ : ∃ (p : Fin 1) (q : Fin 1024), y = ix2 p q := ⟨y 0, y 1, eq_ix2 y⟩
  blk_ext [iblk, V, index1 t]

theorem block2 (t : Fin cfg0.N) (q : Fin 512) (k : Fin 1024) (n : Fin 2560) (hn : n.val = 512 * t.val + q.val) :
    iblk m c 2 t (ix2 q k) = m ((c : Thread nD τ).loc main_arg2) (ix2 n k) := by
  blk_ext [iblk, V, index2 t]

/-- The normalised rows of this call's arguments, -/
abbrev H : S2048x1024.Idx → EReal := hOf (m ((c : Thread nD τ).loc main_arg0)) (m ((c : Thread nD τ).loc main_arg1))
/-- and their product. -/
abbrev P : S2048x2560.Idx → EReal :=
  projOf (m ((c : Thread nD τ).loc main_arg0)) (m ((c : Thread nD τ).loc main_arg1)) (m ((c : Thread nD τ).loc main_arg2))

theorem rowsB_eq : rowsB m c = H m c := by
  unfold rowsB
  rw [block0, block1]
  exact funext fun i => joined_eq _ pay1_apply _ _ i

theorem rowsS_eq : rowsS m c = H m c := by
  unfold rowsS
  rw [block0, block1]
  exact funext fun i => joined_eq _ pay2_apply _ _ i

theorem arr3 : (dat m 0 c).arrAt 3 cfg0.N = P m c := by
  refine (dat m 0 c).arrAt_eq_of_covers 3 _ covers3 fun t _ y => ?_
  blk_simp
  rw [after_3, rowsS_eq]
  obtain ⟨p, q, rfl⟩ : ∃ (p : Fin 2048) (q : Fin 512), y = ix2 p q := ⟨y 0, y 1, eq_ix2 y⟩
  have ht := lt_of_lt_of_eq t.isLt points
  have hq := q.isLt
  have e : ((View.whole main_v0_0).slice (win0_3.rect t)).emb (ix2 p q) = ix2 p (⟨512 * t.val + q.val, by omega⟩ : Fin 2560) := by
    blk_ext [index3 t]
  refine Eq.trans ?_ (congrArg (P m c) e).symm
  refine (pay3_apply _ _ p q).trans ?_
  exact Finset.sum_congr rfl fun k _ => congrArg (H m c (ix2 p k) * ·) (block2 m c t q k _ rfl)

theorem arr4 : (dat m 0 c).arrAt 4 cfg0.N = H m c := by
  refine (dat m 0 c).arrAt_eq_of_covers 4 _ covers4 fun t _ y => ?_
  blk_simp
  rw [after_4, rowsB_eq]
  obtain ⟨p, q, rfl⟩ : ∃ (p : Fin 2048) (q : Fin 1024), y = ix2 p q := ⟨y 0, y 1, eq_ix2 y⟩
  have e : ((View.whole main_v0_1).slice (win0_4.rect t)).emb (ix2 p q) = ix2 p q := by
    blk_ext [index4 t]
  exact (congrArg (H m c) e).symm

end Cert.FwdIn

namespace Cert.FwdIn.Ref

open Cert.Reference12Ideal Cert.Reference12Ideal.Gen Cert.Reference12Ideal.Read Cert.NormGrad
open Idealize.ShloMosaic Idealize.ShloMosaic.TcCoe Idealize.SL.Sem

variable (x : S2048x1024.Idx → EReal) (g : S1x1024.Idx → EReal) (w : S2560x1024.Idx → EReal)

theorem cst_eq (j) : val_main_cst (F := Ideal) j = 0 := Ideal.ofBits_zero_f32

/-- The reference's normalised rows, -/
theorem v11_eq (i : S2048x1024.Idx) : val_main_v11 (F := Ideal) x g i = hOf x g i := by
  obtain ⟨r, q, rfl⟩ : ∃ (r : Fin 2048) (q : Fin 1024), i = ix2 r q := ⟨i 0, i 1, eq_ix2 i⟩
  unfold val_main_v11 val_main_v10 val_main_v9 val_main_v8 val_main_v7 val_main_v6 val_main_v5 val_main_v4 val_main_v3 val_main_v2
    val_main_v1 val_main_v0
  pointwise
  rw [cst_eq, zero_add]
  rfl

/-- and their product. -/
theorem v14_eq (i : S2048x2560.Idx) : val_main_v14 (F := Ideal) x g w i = projOf x g w i := by
  obtain ⟨r, q, rfl⟩ : ∃ (r : Fin 2048) (q : Fin 2560), i = ix2 r q := ⟨i 0, i 1, eq_ix2 i⟩
  unfold val_main_v14 val_main_v13 val_main_v12
  pointwise
  simp only [v11_eq]
  rfl

end Cert.FwdIn.Ref

namespace Cert.FwdIn

open Cert.Kernel12Ideal Cert.Kernel12Ideal.Gen
open Idealize.ShloMosaic Idealize.ShloMosaic.TcCoe Idealize.SL.Sem

theorem frame_ref : Cert.quiescent_Reference12Ideal (hReference12Ideal := Cert.Reference12Ideal.Gen.facts) :=
  fun m g _ => (θ_run Cert.Reference12Ideal.defs _ _).mono
    (fun r h => ⟨fun c => (h c).2.2, sem_eq_zero_of_no_sems (by decide) r.2⟩) (Cert.Reference12Ideal.Value.run (F := Ideal) m g)

theorem equal : Cert.algebraic_Kernel12Ideal_Reference12Ideal (hKernel12Ideal := facts) (hReference12Ideal := Cert.Reference12Ideal.Gen.facts) := by
  intro m g m' g' _ hm
  refine ⟨fun c => P m c, fun c => H m c, ?_, ?_⟩
  · exact (θ_run _ _ _).mono (fun r h c => ⟨(h.1 c).1.trans (arr3 m c), (h.1 c).2.trans (arr4 m c), h.2.1 c⟩)
      (θ_run_and (run_named (F := Ideal) m g) (quiet (F := Ideal) m g))
  · refine (θ_run _ _ _).mono (fun r h c => ⟨(h c).1.trans ?_, (h c).2.1.trans ?_, (h c).2.2⟩)
      (Cert.Reference12Ideal.Value.run (F := Ideal) m' g')
    · rw [Cert.Reference12Ideal.Read.val_main_v14_eq, (hm c).1, (hm c).2.1, (hm c).2.2]
      exact funext fun i => Ref.v14_eq _ _ _ i
    · rw [Cert.Reference12Ideal.Read.val_main_v15_eq, (hm c).1, (hm c).2.1]
      exact funext fun i => Ref.v11_eq _ _ i

end Cert.FwdIn

end
-- ==== Proof.SumSmall.lean ====
/- The sum over the devices of the small gradients. -/
module

public import proofs.«01_k».proof.Defs
public import Idealize.ShloMosaic.Lib.Pointwise
public import Idealize.ShloMosaic.Lib.Pipeline.ValueKit
public import proofs.«01_k».proof.Proof.Gen.Kernel13Ideal.Value
public import proofs.«01_k».proof.Proof.Gen.Kernel13.Frame
public import proofs.«01_k».proof.Proof.Gen.Reference13Ideal.Run
public import proofs.«01_k».proof.Proof.Gen.Reference13Ideal.Read

@[expose] public section

set_option maxRecDepth 16384

noncomputable section

namespace Cert.SumSmall

open Cert.Kernel13Ideal Cert.Kernel13Ideal.Gen
open Idealize.ShloMosaic Idealize.ShloMosaic.TcCoe Idealize.SL.Sem

/-- The sum of eight matrices. -/
def total2 {a b : ℕ} (p : (⟨3, ![8, a, b]⟩ : Shape).Idx → EReal) : (⟨2, ![a, b]⟩ : Shape).Idx → EReal :=
  fun y => ∑ k : Fin 8, p (ix3 k (y 0) (y 1))

/-- The sum of eight stacks of matrices. -/
def total3 {a b c : ℕ} (p : (⟨4, ![8, a, b, c]⟩ : Shape).Idx → EReal) : (⟨3, ![a, b, c]⟩ : Shape).Idx → EReal :=
  fun y => ∑ k : Fin 8, p (ix4 k (y 0) (y 1) (y 2))

/-- A sum started at zero and read at these positions is the sum of the matrices. -/
theorem read2 {a b : ℕ} (p : (⟨3, ![8, a, b]⟩ : Shape).Idx → EReal) (y : (⟨2, ![a, b]⟩ : Shape).Idx)
    (f : Fin 8 → (⟨3, ![8, a, b]⟩ : Shape).Idx) (z : EReal) (hz : z = 0) (hf : ∀ k, f k = ix3 k (y 0) (y 1)) :
    z + ∑ k : Fin 8, p (f k) = total2 p y := by
  rw [hz, zero_add]; exact Finset.sum_congr rfl fun k _ => congrArg p (hf k)

/-- The same for the stacks. -/
theorem read3 {a b c : ℕ} (p : (⟨4, ![8, a, b, c]⟩ : Shape).Idx → EReal) (y : (⟨3, ![a, b, c]⟩ : Shape).Idx)
    (f : Fin 8 → (⟨4, ![8, a, b, c]⟩ : Shape).Idx) (z : EReal) (hz : z = 0) (hf : ∀ k, f k = ix4 k (y 0) (y 1) (y 2)) :
    z + ∑ k : Fin 8, p (f k) = total3 p y := by
  rw [hz, zero_add]; exact Finset.sum_congr rfl fun k _ => congrArg p (hf k)

variable (x0 : S8x4x1024.Idx → EReal) (x1 x2 : S8x4x64.Idx → EReal) (x3 : S8x4x31x512.Idx → EReal)
  (x4 x5 x6 : S8x4x512.Idx → EReal) (x7 : S8x4x1024.Idx → EReal) (x8 : S8x4x3x2816.Idx → EReal) (x9 : S8x4x2816.Idx → EReal)

theorem sum0 : Value.G10 (F := Ideal) x0 x1 x2 x3 x4 x5 x6 x7 x8 x9 = total2 x0 := by
  funext y
  rw [total2, Fin.sum_univ_eight]
  unfold Value.G10 k0_pay2
  pointwise

theorem sum1 : Value.G11 (F := Ideal) x0 x1 x2 x3 x4 x5 x6 x7 x8 x9 = total2 x1 := by
  funext y
  rw [total2, Fin.sum_univ_eight]
  unfold Value.G11 k0_pay4 k0_pay3
  pointwise

theorem sum2 : Value.G12 (F := Ideal) x0 x1 x2 x3 x4 x5 x6 x7 x8 x9 = total2 x2 := by
  funext y
  rw [total2, Fin.sum_univ_eight]
  unfold Value.G12 k0_pay6 k0_pay5
  pointwise

theorem sum3 : Value.G13 (F := Ideal) x0 x1 x2 x3 x4 x5 x6 x7 x8 x9 = total3 x3 := by
  funext y
  rw [total3, Fin.sum_univ_eight]
  unfold Value.G13 k0_pay8 k0_pay7
  pointwise

theorem sum4 : Value.G14 (F := Ideal) x0 x1 x2 x3 x4 x5 x6 x7 x8 x9 = total2 x4 := by
  funext y
  rw [total2, Fin.sum_univ_eight]
  unfold Value.G14 k0_pay10 k0_pay9
  pointwise

theorem sum5 : Value.G15 (F := Ideal) x0 x1 x2 x3 x4 x5 x6 x7 x8 x9 = total2 x5 := by
  funext y
  rw [total2, Fin.sum_univ_eight]
  unfold Value.G15 k0_pay12 k0_pay11
  pointwise

theorem sum6 : Value.G16 (F := Ideal) x0 x1 x2 x3 x4 x5 x6 x7 x8 x9 = total2 x6 := by
  funext y
  rw [total2, Fin.sum_univ_eight]
  unfold Value.G16 k0_pay14 k0_pay13
  pointwise

theorem sum7 : Value.G17 (F := Ideal) x0 x1 x2 x3 x4 x5 x6 x7 x8 x9 = total2 x7 := by
  funext y
  rw [total2, Fin.sum_univ_eight]
  unfold Value.G17 k0_pay15
  pointwise

theorem sum8 : Value.G18 (F := Ideal) x0 x1 x2 x3 x4 x5 x6 x7 x8 x9 = total3 x8 := by
  funext y
  rw [total3, Fin.sum_univ_eight]
  unfold Value.G18 k0_pay16
  pointwise

theorem sum9 : Value.G19 (F := Ideal) x0 x1 x2 x3 x4 x5 x6 x7 x8 x9 = total2 x9 := by
  funext y
  rw [total2, Fin.sum_univ_eight]
  unfold Value.G19 k0_pay1
  pointwise

theorem ref0 : Cert.Reference13Ideal.Read.val_main_v0 (F := Ideal) x0 = total2 x0 :=
  funext fun y => (Cert.Reference13Ideal.Read.val_main_v0_apply x0 y).trans
    (read2 x0 y _ _ Ideal.ofBits_zero_f32 fun k => funext fun a => by fin_cases a <;> rfl)

theorem ref1 : Cert.Reference13Ideal.Read.val_main_v1 (F := Ideal) x1 = total2 x1 :=
  funext fun y => (Cert.Reference13Ideal.Read.val_main_v1_apply x1 y).trans
    (read2 x1 y _ _ Ideal.ofBits_zero_f32 fun k => funext fun a => by fin_cases a <;> rfl)

theorem ref2 : Cert.Reference13Ideal.Read.val_main_v2 (F := Ideal) x2 = total2 x2 :=
  funext fun y => (Cert.Reference13Ideal.Read.val_main_v2_apply x2 y).trans
    (read2 x2 y _ _ Ideal.ofBits_zero_f32 fun k => funext fun a => by fin_cases a <;> rfl)

theorem ref3 : Cert.Reference13Ideal.Read.val_main_v3 (F := Ideal) x3 = total3 x3 :=
  funext fun y => (Cert.Reference13Ideal.Read.val_main_v3_apply x3 y).trans
    (read3 x3 y _ _ Ideal.ofBits_zero_f32 fun k => funext fun a => by fin_cases a <;> rfl)

theorem ref4 : Cert.Reference13Ideal.Read.val_main_v4 (F := Ideal) x4 = total2 x4 :=
  funext fun y => (Cert.Reference13Ideal.Read.val_main_v4_apply x4 y).trans
    (read2 x4 y _ _ Ideal.ofBits_zero_f32 fun k => funext fun a => by fin_cases a <;> rfl)

theorem ref5 : Cert.Reference13Ideal.Read.val_main_v5 (F := Ideal) x5 = total2 x5 :=
  funext fun y => (Cert.Reference13Ideal.Read.val_main_v5_apply x5 y).trans
    (read2 x5 y _ _ Ideal.ofBits_zero_f32 fun k => funext fun a => by fin_cases a <;> rfl)

theorem ref6 : Cert.Reference13Ideal.Read.val_main_v6 (F := Ideal) x6 = total2 x6 :=
  funext fun y => (Cert.Reference13Ideal.Read.val_main_v6_apply x6 y).trans
    (read2 x6 y _ _ Ideal.ofBits_zero_f32 fun k => funext fun a => by fin_cases a <;> rfl)

theorem ref7 : Cert.Reference13Ideal.Read.val_main_v7 (F := Ideal) x7 = total2 x7 :=
  funext fun y => (Cert.Reference13Ideal.Read.val_main_v7_apply x7 y).trans
    (read2 x7 y _ _ Ideal.ofBits_zero_f32 fun k => funext fun a => by fin_cases a <;> rfl)

theorem ref8 : Cert.Reference13Ideal.Read.val_main_v8 (F := Ideal) x8 = total3 x8 :=
  funext fun y => (Cert.Reference13Ideal.Read.val_main_v8_apply x8 y).trans
    (read3 x8 y _ _ Ideal.ofBits_zero_f32 fun k => funext fun a => by fin_cases a <;> rfl)

theorem ref9 : Cert.Reference13Ideal.Read.val_main_v9 (F := Ideal) x9 = total2 x9 :=
  funext fun y => (Cert.Reference13Ideal.Read.val_main_v9_apply x9 y).trans
    (read2 x9 y _ _ Ideal.ofBits_zero_f32 fun k => funext fun a => by fin_cases a <;> rfl)

theorem frame : Cert.quiescent_Kernel13 (hKernel13 := Cert.Kernel13.Gen.facts) := fun m g _ => Cert.Kernel13.Gen.frame m g
theorem frame_ideal : Cert.quiescent_Kernel13Ideal (hKernel13Ideal := facts) := fun m g _ => Gen.frame m g
theorem frame_ref : Cert.quiescent_Reference13Ideal (hReference13Ideal := Cert.Reference13Ideal.Gen.facts) :=
  fun m g _ => (θ_run Cert.Reference13Ideal.defs _ _).mono
    (fun r h => ⟨fun c => (h c).2.2.2.2.2.2.2.2.2.2, sem_eq_zero_of_no_sems (by decide) r.2⟩)
    (Cert.Reference13Ideal.Value.run (F := Ideal) m g)

theorem equal : Cert.algebraic_Kernel13Ideal_Reference13Ideal (hKernel13Ideal := facts)
    (hReference13Ideal := Cert.Reference13Ideal.Gen.facts) := by
  intro m g m' g' _ hm
  refine ⟨
    fun c => total2 (m ((c : Thread nD τ).loc main_arg0)),
    fun c => total2 (m ((c : Thread nD τ).loc main_arg1)),
    fun c => total2 (m ((c : Thread nD τ).loc main_arg2)),
    fun c => total3 (m ((c : Thread nD τ).loc main_arg3)),
    fun c => total2 (m ((c : Thread nD τ).loc main_arg4)),
    fun c => total2 (m ((c : Thread nD τ).loc main_arg5)),
    fun c => total2 (m ((c : Thread nD τ).loc main_arg6)),
    fun c => total2 (m ((c : Thread nD τ).loc main_arg7)),
    fun c => total3 (m ((c : Thread nD τ).loc main_arg8)),
    fun c => total2 (m ((c : Thread nD τ).loc main_arg9)), ?_, ?_⟩
  · refine (θ_run _ _ _).mono (fun r h c => ?_) (Value.run (F := Ideal) m g)
    obtain ⟨h0, h1, h2, h3, h4, h5, h6, h7, h8, h9, kept⟩ := h c
    exact ⟨h0.trans (sum0 ..), h1.trans (sum1 ..), h2.trans (sum2 ..), h3.trans (sum3 ..), h4.trans (sum4 ..), h5.trans (sum5 ..), h6.trans (sum6 ..), h7.trans (sum7 ..), h8.trans (sum8 ..), h9.trans (sum9 ..), kept⟩
  · refine (θ_run _ _ _).mono (fun r h c => ?_) (Cert.Reference13Ideal.Value.run (F := Ideal) m' g')
    obtain ⟨e0, e1, e2, e3, e4, e5, e6, e7, e8, e9⟩ := hm c
    obtain ⟨h0, h1, h2, h3, h4, h5, h6, h7, h8, h9, kept⟩ := h c
    refine ⟨h0.trans ?_, h1.trans ?_, h2.trans ?_, h3.trans ?_, h4.trans ?_, h5.trans ?_, h6.trans ?_, h7.trans ?_, h8.trans ?_, h9.trans ?_, kept⟩
    · rw [e0]; exact ref0 _
    · rw [e1]; exact ref1 _
    · rw [e2]; exact ref2 _
    · rw [e3]; exact ref3 _
    · rw [e4]; exact ref4 _
    · rw [e5]; exact ref5 _
    · rw [e6]; exact ref6 _
    · rw [e7]; exact ref7 _
    · rw [e8]; exact ref8 _
    · rw [e9]; exact ref9 _

end Cert.SumSmall

end
-- ==== Proof.Adam.lean ====
/- One step of the optimiser on one weight, element by element. -/
module

public import Idealize.ShloMosaic.Lib.Pointwise
public import Idealize.ShloMosaic.Lib.Pipeline.ValueKit

@[expose] public section

noncomputable section

namespace Cert.Adam

open Idealize.ShloMosaic

variable {s : Shape}

/-- The literal of these bits, as a real number. -/
abbrev lit (b : BitVec 32) : EReal := Scalar.ofBits (F := Ideal) .f32 b

/-- The mean of the gradients after the step: nine tenths of the old one and a tenth of the gradient. -/
def meanOf (m g : s.Idx → EReal) : s.Idx → EReal := fun i => lit 0x3F666666#32 * m i + lit 0x3DCCCCCD#32 * g i

/-- The mean of their squares after the step. -/
def squareOf (v g : s.Idx → EReal) : s.Idx → EReal := fun i => lit 0x3F7FBE77#32 * v i + lit 0x3A83126F#32 * (g i * g i)

/-- The change of the weight: both means with their bias taken out, and the decay of the weight. -/
def changeOf (w g m v : s.Idx → EReal) : s.Idx → EReal := fun i =>
  lit 0xBA83126F#32 * (FloatOps.divf (F := Ideal) (φ := .f32) (FloatOps.divf (F := Ideal) (φ := .f32) (meanOf m g i) (lit 0x3F26BD02#32))
      (FloatOps.sqrt (F := Ideal) (φ := .f32) (FloatOps.divf (F := Ideal) (φ := .f32) (squareOf v g i) (lit 0x3C231ACC#32)) + lit 0x322BCC77#32)
    + lit 0x3C23D70A#32 * w i)

/-- The sum of the devices' parts. -/
def gradOf {a b : ℕ} (p : (⟨3, ![8, a, b]⟩ : Shape).Idx → EReal) : (⟨3, ![1, a, b]⟩ : Shape).Idx → EReal :=
  fun y => ∑ k : Fin 8, p (ix3 k (y 1) (y 2))

end Cert.Adam

end
-- ==== Proof.AdamRows.lean ====
/- The optimiser's step on a norm's weight, a head's norm weight and a convolution's bias. -/
module

public import proofs.«01_k».proof.Defs
public import proofs.«01_k».proof.Proof.Adam
public import proofs.«01_k».proof.Proof.Gen.Kernel14Ideal.Value
public import proofs.«01_k».proof.Proof.Gen.Kernel14.Frame
public import proofs.«01_k».proof.Proof.Gen.Reference14Ideal.Run

@[expose] public section

set_option maxRecDepth 16384

noncomputable section

namespace Cert.AdamRows

open Cert.Kernel14Ideal Cert.Kernel14Ideal.Gen Cert.Adam
open Idealize.ShloMosaic Idealize.ShloMosaic.TcCoe Idealize.SL.Sem

theorem frame : Cert.quiescent_Kernel14 (hKernel14 := Cert.Kernel14.Gen.facts) := fun m g _ => Cert.Kernel14.Gen.frame m g
theorem frame_ideal : Cert.quiescent_Kernel14Ideal (hKernel14Ideal := facts) := fun m g _ => Gen.frame m g
theorem frame_ref : Cert.quiescent_Reference14Ideal (hReference14Ideal := Cert.Reference14Ideal.Gen.facts) :=
  fun m g _ => (θ_run Cert.Reference14Ideal.defs _ _).mono
    (fun r h => ⟨fun c => (h c).2.2.2.2.2.2.2.2.2, sem_eq_zero_of_no_sems (by decide) r.2⟩)
    (Cert.Reference14Ideal.Value.run (F := Ideal) m g)

theorem equal : Cert.algebraic_Kernel14Ideal_Reference14Ideal (hKernel14Ideal := facts)
    (hReference14Ideal := Cert.Reference14Ideal.Gen.facts) := by
  intro m g m' g' _ hm
  refine ⟨
    fun c => changeOf (m ((c : Thread nD τ).loc main_arg0)) (m ((c : Thread nD τ).loc main_arg3)) (m ((c : Thread nD τ).loc main_arg6)) (m ((c : Thread nD τ).loc main_arg9)),
    fun c => changeOf (m ((c : Thread nD τ).loc main_arg1)) (m ((c : Thread nD τ).loc main_arg4)) (m ((c : Thread nD τ).loc main_arg7)) (m ((c : Thread nD τ).loc main_arg10)),
    fun c => changeOf (m ((c : Thread nD τ).loc main_arg2)) (m ((c : Thread nD τ).loc main_arg5)) (m ((c : Thread nD τ).loc main_arg8)) (m ((c : Thread nD τ).loc main_arg11)),
    fun c => meanOf (m ((c : Thread nD τ).loc main_arg6)) (m ((c : Thread nD τ).loc main_arg3)),
    fun c => meanOf (m ((c : Thread nD τ).loc main_arg7)) (m ((c : Thread nD τ).loc main_arg4)),
    fun c => meanOf (m ((c : Thread nD τ).loc main_arg8)) (m ((c : Thread nD τ).loc main_arg5)),
    fun c => squareOf (m ((c : Thread nD τ).loc main_arg9)) (m ((c : Thread nD τ).loc main_arg3)),
    fun c => squareOf (m ((c : Thread nD τ).loc main_arg10)) (m ((c : Thread nD τ).loc main_arg4)),
    fun c => squareOf (m ((c : Thread nD τ).loc main_arg11)) (m ((c : Thread nD τ).loc main_arg5)), ?_, ?_⟩
  · exact (θ_run _ _ _).mono (fun r h c => h c) (Value.run (F := Ideal) m g)
  · refine (θ_run _ _ _).mono (fun r h c => ?_) (Cert.Reference14Ideal.Value.run (F := Ideal) m' g')
    obtain ⟨e0, e1, e2, e3, e4, e5, e6, e7, e8, e9, e10, e11⟩ := hm c
    obtain ⟨h0, h1, h2, h3, h4, h5, h6, h7, h8, kept⟩ := h c
    refine ⟨h0.trans ?_, h1.trans ?_, h2.trans ?_, h3.trans ?_, h4.trans ?_, h5.trans ?_, h6.trans ?_, h7.trans ?_, h8.trans ?_, kept⟩
    · rw [e0, e3, e6, e9]; rfl
    · rw [e1, e4, e7, e10]; rfl
    · rw [e2, e5, e8, e11]; rfl
    · rw [e3, e6]; rfl
    · rw [e4, e7]; rfl
    · rw [e5, e8]; rfl
    · rw [e3, e9]; rfl
    · rw [e4, e10]; rfl
    · rw [e5, e11]; rfl

end Cert.AdamRows

end
-- ==== Proof.AdamTaps.lean ====
/- The optimiser's step on the taps of both convolutions and a channel's bias. -/
module

public import proofs.«01_k».proof.Defs
public import proofs.«01_k».proof.Proof.Adam
public import proofs.«01_k».proof.Proof.Gen.Kernel15Ideal.Value
public import proofs.«01_k».proof.Proof.Gen.Kernel15.Frame
public import proofs.«01_k».proof.Proof.Gen.Reference15Ideal.Run

@[expose] public section

set_option maxRecDepth 16384

noncomputable section

namespace Cert.AdamTaps

open Cert.Kernel15Ideal Cert.Kernel15Ideal.Gen Cert.Adam
open Idealize.ShloMosaic Idealize.ShloMosaic.TcCoe Idealize.SL.Sem

theorem frame : Cert.quiescent_Kernel15 (hKernel15 := Cert.Kernel15.Gen.facts) := fun m g _ => Cert.Kernel15.Gen.frame m g
theorem frame_ideal : Cert.quiescent_Kernel15Ideal (hKernel15Ideal := facts) := fun m g _ => Gen.frame m g
theorem frame_ref : Cert.quiescent_Reference15Ideal (hReference15Ideal := Cert.Reference15Ideal.Gen.facts) :=
  fun m g _ => (θ_run Cert.Reference15Ideal.defs _ _).mono
    (fun r h => ⟨fun c => (h c).2.2.2.2.2.2.2.2.2, sem_eq_zero_of_no_sems (by decide) r.2⟩)
    (Cert.Reference15Ideal.Value.run (F := Ideal) m g)

theorem equal : Cert.algebraic_Kernel15Ideal_Reference15Ideal (hKernel15Ideal := facts)
    (hReference15Ideal := Cert.Reference15Ideal.Gen.facts) := by
  intro m g m' g' _ hm
  refine ⟨
    fun c => changeOf (m ((c : Thread nD τ).loc main_arg0)) (m ((c : Thread nD τ).loc main_arg3)) (m ((c : Thread nD τ).loc main_arg6)) (m ((c : Thread nD τ).loc main_arg9)),
    fun c => changeOf (m ((c : Thread nD τ).loc main_arg1)) (m ((c : Thread nD τ).loc main_arg4)) (m ((c : Thread nD τ).loc main_arg7)) (m ((c : Thread nD τ).loc main_arg10)),
    fun c => changeOf (m ((c : Thread nD τ).loc main_arg2)) (m ((c : Thread nD τ).loc main_arg5)) (m ((c : Thread nD τ).loc main_arg8)) (m ((c : Thread nD τ).loc main_arg11)),
    fun c => meanOf (m ((c : Thread nD τ).loc main_arg6)) (m ((c : Thread nD τ).loc main_arg3)),
    fun c => meanOf (m ((c : Thread nD τ).loc main_arg7)) (m ((c : Thread nD τ).loc main_arg4)),
    fun c => meanOf (m ((c : Thread nD τ).loc main_arg8)) (m ((c : Thread nD τ).loc main_arg5)),
    fun c => squareOf (m ((c : Thread nD τ).loc main_arg9)) (m ((c : Thread nD τ).loc main_arg3)),
    fun c => squareOf (m ((c : Thread nD τ).loc main_arg10)) (m ((c : Thread nD τ).loc main_arg4)),
    fun c => squareOf (m ((c : Thread nD τ).loc main_arg11)) (m ((c : Thread nD τ).loc main_arg5)), ?_, ?_⟩
  · exact (θ_run _ _ _).mono (fun r h c => h c) (Value.run (F := Ideal) m g)
  · refine (θ_run _ _ _).mono (fun r h c => ?_) (Cert.Reference15Ideal.Value.run (F := Ideal) m' g')
    obtain ⟨e0, e1, e2, e3, e4, e5, e6, e7, e8, e9, e10, e11⟩ := hm c
    obtain ⟨h0, h1, h2, h3, h4, h5, h6, h7, h8, kept⟩ := h c
    refine ⟨h0.trans ?_, h1.trans ?_, h2.trans ?_, h3.trans ?_, h4.trans ?_, h5.trans ?_, h6.trans ?_, h7.trans ?_, h8.trans ?_, kept⟩
    · rw [e0, e3, e6, e9]; rfl
    · rw [e1, e4, e7, e10]; rfl
    · rw [e2, e5, e8, e11]; rfl
    · rw [e3, e6]; rfl
    · rw [e4, e7]; rfl
    · rw [e5, e8]; rfl
    · rw [e3, e9]; rfl
    · rw [e4, e10]; rfl
    · rw [e5, e11]; rfl

end Cert.AdamTaps

end
-- ==== Proof.FwdFfn.lean ====
/- The forward pass of the gated causal convolution: eight passes over the rows of a block of channels. -/
module

public import proofs.«01_k».proof.Defs
public import proofs.«01_k».proof.Proof.Gen.Kernel16Ideal.Value
public import proofs.«01_k».proof.Proof.Gen.Kernel16.Frame
public import proofs.«01_k».proof.Proof.Gen.Reference16Ideal.Read
public import proofs.«01_k».proof.Proof.Gen.Reference16Ideal.Run
public import proofs.«01_k».proof.Proof.Array
public import proofs.«01_k».proof.Proof.RefValue
public import proofs.«01_k».proof.Proof.NormSweep

@[expose] public section

set_option maxRecDepth 16384

noncomputable section

namespace Cert.FwdFfn

open Cert.Kernel16Ideal Cert.Kernel16Ideal.Gen Cert.Scalars
open Cert.Ffn (Col Blocks Reads argCol colOf colOf_lt colOf_congr unit_emb_val)
open Cert.NormGrad (load_unread)
open Idealize.ShloMosaic Idealize.ShloMosaic.TcCoe Idealize.ShloMosaic.Tactic

/-- The gated value of a channel at row `r`. -/
def act (x : Col) (r : ℕ) : EReal := (x.gc r * sg (x.gc r)) * x.V r

/-- The whole result, channel by channel. -/
def actOf (x : Fin 2816 → Col) : S2048x2816.Idx → EReal := fun j => act (x (j 1)) (j 0).val

theorem off2_eq : ∀ k : Fin k0_t1_loop.trips, k0_off2 k = ![256 * k.val - 16, 0] := by decide +kernel
theorem trips1 : k0_t1_loop.trips = 8 := by decide +kernel
theorem trips1' : Scf.trips 0#32 (Scalar.addi 0#32 8#32) 1#32 = 8 := by decide +kernel
theorem lt8 (k : Fin k0_t1_loop.trips) : k.val < 8 := Nat.lt_of_lt_of_le k.isLt trips1.le
theorem index0 : ∀ t : Fin grid0.N, win0_0.index t = ![0, t.val] := by decide +kernel
theorem index1 : ∀ t : Fin grid0.N, win0_1.index t = ![0, 11 + t.val] := by decide +kernel
theorem index2 : ∀ t : Fin grid0.N, win0_2.index t = ![0, t.val] := by decide +kernel
theorem index3 : ∀ t : Fin grid0.N, win0_3.index t = ![0, t.val] := by decide +kernel
theorem index4 : ∀ t : Fin grid0.N, win0_4.index t = ![0, t.val] := by decide +kernel
theorem covers4 : win0_4.Covers := by decide +kernel
theorem points : grid0.N = 11 := by decide +kernel

variable (m : (ℓ : Loc nD τ sig) → Buf (Elt Ideal) ℓ) (c : Dev nD)

/-- The channels of the arguments. -/
def chan : Fin 2816 → Col :=
  argCol (m ((c : Thread nD τ).loc main_arg0)) (fun _ => 0) (m ((c : Thread nD τ).loc main_arg1)) (m ((c : Thread nD τ).loc main_arg2))

/-- The channel of lane `q` of point `t`. -/
def lane (t : Fin cfg0.N) (q : Fin 256) : Fin 2816 := ⟨256 * t.val + q.val, by
  have h1 : t.val < 11 := lt_of_lt_of_eq t.isLt points
  have h2 := q.isLt
  omega⟩

/-- What point `t` reads. -/
def blocks (t : Fin cfg0.N) : Blocks Ideal := ⟨iblk m c 0 t, iblk m c 1 t, fun _ => 0, iblk m c 2 t, iblk m c 3 t⟩

theorem iblk0_apply (t : Fin cfg0.N) (r : Fin 2048) (q : Fin 256) (n : Fin 5632) (hn : n.val = (lane t q).val) :
    iblk m c 0 t (ix2 r q) = m ((c : Thread nD τ).loc main_arg0) (ix2 r n) := by
  have : n.val = 256 * t.val + q.val := hn
  blk_ext [iblk, V, index0 t]

theorem iblk1_apply (t : Fin cfg0.N) (r : Fin 2048) (q : Fin 256) (n : Fin 5632) (hn : n.val = 2816 + (lane t q).val) :
    iblk m c 1 t (ix2 r q) = m ((c : Thread nD τ).loc main_arg0) (ix2 r n) := by
  have : n.val = 2816 + (256 * t.val + q.val) := hn
  blk_ext [iblk, V, index1 t]

theorem iblk2_apply (t : Fin cfg0.N) (r : Fin 3) (q : Fin 256) (n : Fin 2816) (hn : n.val = 256 * t.val + q.val) :
    iblk m c 2 t (ix2 r q) = m ((c : Thread nD τ).loc main_arg1) (ix2 r n) := by
  blk_ext [iblk, V, index2 t]

theorem iblk3_apply (t : Fin cfg0.N) (q : Fin 256) (n : Fin 2816) (hn : n.val = 256 * t.val + q.val) :
    iblk m c 3 t (ix2 0 q) = m ((c : Thread nD τ).loc main_arg2) (ix2 0 n) := by
  blk_ext [iblk, V, index3 t]

theorem blocks_col (t : Fin cfg0.N) (q : Fin 256) : (blocks m c t).col q = chan m c (lane t q) := by
  show Col.mk _ _ _ _ _ _ _ = Col.mk _ _ _ _ _ _ _
  refine Col.mk.injEq .. |>.mpr ⟨?_, ?_, ?_, ?_, ?_, ?_, ?_⟩
  · exact colOf_congr _ _ _ _ fun r => iblk0_apply m c t r q _ rfl
  · exact colOf_congr _ _ _ _ fun r => iblk1_apply m c t r q _ rfl
  · exact colOf_congr _ _ _ _ fun r => rfl
  · exact iblk2_apply m c t 0 q _ rfl
  · exact iblk2_apply m c t 1 q _ rfl
  · exact iblk2_apply m c t 2 q _ rfl
  · exact iblk3_apply m c t q _ rfl

/-- The rows a pass reads and writes, and the sixteen before them. -/
abbrev rk (k : Fin k0_t1_loop.trips) : Rect S2048x256 := Rect.unit (s := S2048x256) (k0_off1 k) S256x256.size (k0_off1_inb k)
abbrev hk (k : Fin k0_t1_loop.trips) : Rect S2048x256 := Rect.unit (s := S2048x256) (k0_off2 k) S16x256.size (k0_off2_inb k)
abbrev tap (i : Fin 3) : Rect S3x256 := Rect.unit (s := S3x256) ![i.val, 0] S1x256.size (fun a => by revert i a; decide)

/-- Row `p` of pass `k` in the block. -/
def row (k : Fin k0_t1_loop.trips) (p : Fin 256) : Fin 2048 := ⟨256 * k.val + p.val, by have := lt8 k; have := p.isLt; omega⟩

theorem rk_emb (k : Fin k0_t1_loop.trips) (p q : Fin 256) : (rk k).emb (ix2 p q) = ix2 (row k p) q := by
  funext a; apply Fin.ext
  refine (unit_emb_val _ _ _ _ a).trans ((congrArg (· + _) (congrFun (k0_off1_eq k) a)).trans ?_)
  fin_cases a
  · rfl
  · show 0 + q.val = q.val; omega

/-- What pass `k` reads at point `t`, as it loads it. -/
abbrev gateR (t : Fin cfg0.N) (k : Fin k0_t1_loop.trips) : S256x256.Idx → EReal := fun y => iblk m c 0 t ((rk k).emb y)
abbrev valR (t : Fin cfg0.N) (k : Fin k0_t1_loop.trips) : S256x256.Idx → EReal := fun y => iblk m c 1 t ((rk k).emb y)
abbrev haloR (t : Fin cfg0.N) (k : Fin k0_t1_loop.trips) : S16x256.Idx → EReal := fun y => iblk m c 0 t ((hk k).emb y)
abbrev tapR (t : Fin cfg0.N) (i : Fin 3) : S1x256.Idx → EReal := fun y => iblk m c 2 t ((tap i).emb y)
abbrev biasR (t : Fin cfg0.N) : S1x256.Idx → EReal :=
  fun y => iblk m c 3 t ((Rect.unit (s := S1x256) ![0, 0] S1x256.size inb_S1x256_S1x256_0_0).emb y)

theorem tapR_apply (t : Fin cfg0.N) (i : Fin 3) (q : Fin 256) : tapR m c t i (ix2 0 q) = iblk m c 2 t (ix2 i q) := by
  refine congrArg (iblk m c 2 t) (funext fun a => Fin.ext ((unit_emb_val _ _ _ _ a).trans ?_))
  fin_cases a
  · rfl
  · show 0 + q.val = q.val; omega

set_option maxHeartbeats 1000000 in
theorem reads (t : Fin cfg0.N) (k : Fin k0_t1_loop.trips) (q : Fin 256) :
    Reads ((blocks m c t).col q) q k.val (gateR m c t k) (haloR m c t k) (tapR m c t 2) (biasR m c t)
      (tapR m c t 0) (tapR m c t 1) where
  gate r := by
    refine (congrArg (iblk m c 0 t) (rk_emb k r q)).trans ?_
    exact (colOf_lt (iblk m c 0 t) q (row k r).val (row k r).isLt).symm
  halo h e := by
    have h8 := lt8 k
    have he := e.isLt
    refine Eq.trans ?_ (colOf_lt (iblk m c 0 t) q (256 * k.val - 16 + e.val) (by omega)).symm
    refine congrArg (iblk m c 0 t) (funext fun a => Fin.ext ?_)
    refine (unit_emb_val _ _ _ _ a).trans ((congrArg (· + _) (congrFun (off2_eq k) a)).trans ?_)
    fin_cases a
    · rfl
    · show 0 + q.val = q.val; omega
  w2 := tapR_apply m c t 2 q
  b := by
    refine congrArg (iblk m c 3 t) (funext fun a => Fin.ext ((unit_emb_val _ _ _ _ a).trans ?_))
    fin_cases a
    · rfl
    · show 0 + q.val = q.val; omega
  w0 := tapR_apply m c t 0 q
  w1 := tapR_apply m c t 1 q

/-- The rows that pass `k` stores. -/
def stored (t : Fin cfg0.N) (k : Fin k0_t1_loop.trips) : S256x256.Idx → EReal :=
  k0_pay1 (F := Ideal)
    (k0_pay2 0#32 1#32 k (gateR m c t k) (haloR m c t k) (tapR m c t 2) (biasR m c t)
      (tapR m c t 0) (tapR m c t 1))
    (k0_pay3 0#32 1#32 k (gateR m c t k) (haloR m c t k) (tapR m c t 2) (biasR m c t)
      (tapR m c t 0) (tapR m c t 1))
    k0_pay4 (valR m c t k)

theorem stored_apply (t : Fin cfg0.N) (k : Fin k0_t1_loop.trips) (p q : Fin 256) :
    stored m c t k (ix2 p q) = act ((blocks m c t).col q) (256 * k.val + p.val) := by
  have conv := Cert.Ffn.pay7_apply (k := k) (reads m c t k q) p
  have logistic := Cert.Ffn.pay10_apply (k := k) (reads m c t k q) p
  have value : valR m c t k (ix2 p q) = ((blocks m c t).col q).V (256 * k.val + p.val) :=
    (congrArg (iblk m c 1 t) (rk_emb k p q)).trans (colOf_lt (iblk m c 1 t) q (row k p).val (row k p).isLt).symm
  exact congrArg₂ (· * ·) (congrArg₂ (· * ·) conv logistic) value

/-- The pieces after `n` passes. -/
def pieces (t : Fin cfg0.N) : ℕ → List (View.Piece (Elt Ideal) S2048x256 .bf16) :=
  pb_k0_t1 (F := Ideal) Variants.none c none (grid0.coords t) (ms0_0 t) (hs0_0 t) (ms0_1 t) (hs0_1 t) (ms0_2 t) (hs0_2 t) (ms0_3 t) (hs0_3 t)
    (ms0_4 t) (hs0_4 t) ((hs0_0 t).unread (iblk m c 0 t)) ((hs0_1 t).unread (iblk m c 1 t)) ((hs0_2 t).unread (iblk m c 2 t))
    ((hs0_3 t).unread (iblk m c 3 t))

theorem pieces_succ (t : Fin cfg0.N) (k : Fin k0_t1_loop.trips) :
    pieces m c t (k.val + 1) = ⟨rk k, stored m c t k⟩ :: pieces m c t k.val := by
  unfold pieces stored
  rw [pb_k0_t1_succ]
  unfold tripL_k0_t1 trip_k0_t1
  dsimp only
  unfold trip_k0_t1.sl.r trip_k0_t1.sl.r_1
  dsimp only
  simp only [load_unread]
  rfl

/-- What the block is to hold. -/
def actB (x : Blocks Ideal) : S2048x256.Idx → EReal := fun j => act (x.col (j 1)) (j 0).val

theorem pieces_are (t : Fin cfg0.N) : ∀ n, n ≤ 8 →
    (∀ p ∈ pieces m c t n, ∀ y : p.1.shape.Idx, p.2 y = actB (blocks m c t) (p.1.emb y))
    ∧ (∀ y : S2048x256.Idx, (y 0).val < 256 * n → ∃ p ∈ pieces m c t n, y ∈ p.1.set)
  | 0, _ => ⟨fun p hp => absurd hp List.not_mem_nil, fun y hy => absurd hy (by omega)⟩
  | n + 1, hn => by
    obtain ⟨h1, h2⟩ := pieces_are t n (by omega)
    have hk : n < k0_t1_loop.trips := by rw [trips1]; omega
    rw [show n + 1 = (⟨n, hk⟩ : Fin k0_t1_loop.trips).val + 1 from rfl, pieces_succ]
    refine ⟨fun p hp => ?_, fun y hy => ?_⟩
    · rcases List.mem_cons.1 hp with rfl | hp
      · intro y
        obtain ⟨y0, y1, rfl⟩ : ∃ (y0 y1 : Fin 256), y = ix2 y0 y1 := ⟨y 0, y 1, eq_ix2 y⟩
        dsimp only
        rw [rk_emb]
        exact stored_apply m c t ⟨n, hk⟩ y0 y1
      · exact h1 p hp
    · by_cases hlt : (y 0).val < 256 * n
      · obtain ⟨p, hp, hm⟩ := h2 y hlt
        exact ⟨p, List.mem_cons_of_mem _ hp, hm⟩
      · refine ⟨_, List.mem_cons_self, ?_⟩
        obtain ⟨y0, y1, rfl⟩ : ∃ (y0 : Fin 2048) (y1 : Fin 256), y = ix2 y0 y1 := ⟨y 0, y 1, eq_ix2 y⟩
        replace hlt : ¬ y0.val < 256 * n := hlt
        replace hy : y0.val < 256 * (n + 1) := hy
        have e : ix2 y0 y1 = (rk ⟨n, hk⟩).emb (ix2 (⟨y0.val - 256 * n, by omega⟩ : Fin 256) y1) := by
          rw [rk_emb]
          refine congrArg (fun a => ix2 a y1) (Fin.ext ?_)
          show y0.val = 256 * n + (y0.val - 256 * n); omega
        rw [e, ← Rect.map_emb_univ]; exact Finset.mem_map_of_mem _ (Finset.mem_univ _)

theorem block_eq (t : Fin cfg0.N) : outsAt0 m c t = actB (blocks m c t) := by
  have h := pieces_are m c t 8 le_rfl
  refine Eq.trans ?_ (funext fun y => View.canon_apply_of_pieces _ _ h.1 y (h.2 y (y 0).isLt))
  unfold outsAt0
  frame_out
  exact congrArg (fun n => View.canon (pieces m c t n)) trips1'

theorem arr4 : (dats m 0 c).arrAt 4 cfg0.N = actOf (chan m c) := by
  refine (dats m 0 c).arrAt_eq_of_covers 4 _ covers4 fun t _ y => ?_
  blk_simp
  rw [after0_4, block_eq]
  obtain ⟨p, q, rfl⟩ : ∃ (p : Fin 2048) (q : Fin 256), y = ix2 p q := ⟨y 0, y 1, eq_ix2 y⟩
  have e : ((View.whole main_v0).slice (win0_4.rect t)).emb (ix2 p q) = ix2 p (lane t q) := by
    unfold lane
    blk_ext [index4 t]
  refine Eq.trans ?_ (congrArg (actOf (chan m c)) e).symm
  exact congrArg (fun x => act x p.val) (blocks_col m c t q)

section
variable (x0 : S2048x5632.Idx → EReal) (x1 : S3x2816.Idx → EReal) (x2 : S1x2816.Idx → EReal)
open Cert.Reference16Ideal.Read

/-- The plain convolution is the one that the backward pass computes again. -/
theorem ref_conv (r : Fin 2048) (q : Fin 2816) :
    val_main_v20 (F := Ideal) x0 x1 x2 (ix2 r q) = (argCol x0 (fun _ => 0) x1 x2 q).gc r.val :=
  (rfl : _ = Cert.ReferenceIdeal.Read.val_main_v21 (F := Ideal) x0 x1 x2 (ix2 r q)).trans (Cert.FfnRef.conv_at x0 (fun _ => 0) x1 x2 r q)

theorem ref_value (r : Fin 2048) (q : Fin 2816) :
    val_main_v2 (F := Ideal) x0 (ix2 r q) = (argCol x0 (fun _ => 0) x1 x2 q).V r.val :=
  (rfl : _ = Cert.ReferenceIdeal.Read.val_main_v2 (F := Ideal) x0 (ix2 r q)).trans (Cert.FfnRef.val_at x0 (fun _ => 0) x1 x2 r q)

theorem ref_logistic (r : Fin 2048) (q : Fin 2816) :
    val_main_call0_v5 (F := Ideal) x0 x1 x2 (ix2 r q) = sg ((argCol x0 (fun _ => 0) x1 x2 q).gc r.val) := by
  rw [val_main_call0_v5_apply, val_main_call0_v3_apply, val_main_call0_v1_apply, val_main_call0_v0_apply, ref_conv,
    val_main_call0_v4_apply, val_main_call0_v2_apply, val_main_call0_cst_apply, val_main_call0_cst_0_apply]
  show Ideal.div (Ideal.ofBits .f32 0x3F800000#32) (Ideal.ofBits .f32 0x3F800000#32 + Ideal.exp (-_)) = _
  rw [one_f32]
  rfl

/-- The plain program's result, channel by channel. -/
theorem ref_act : val_main_v23 (F := Ideal) x0 x1 x2 = actOf (argCol x0 (fun _ => 0) x1 x2) := by
  funext i
  obtain ⟨r, q, rfl⟩ : ∃ (r : Fin 2048) (q : Fin 2816), i = ix2 r q := ⟨i 0, i 1, eq_ix2 i⟩
  rw [val_main_v23_apply, val_main_v22_apply, val_main_v21_apply, ref_conv, ref_logistic, ref_value x0 x1 x2]
  rfl

end

theorem frame : Cert.quiescent_Kernel16 (hKernel16 := Cert.Kernel16.Gen.facts) := fun m g _ => Cert.Kernel16.Gen.frame m g
theorem frame_ideal : Cert.quiescent_Kernel16Ideal (hKernel16Ideal := facts) := fun m g _ => Gen.frame m g
theorem frame_ref : Cert.quiescent_Reference16Ideal (hReference16Ideal := Cert.Reference16Ideal.Gen.facts) :=
  fun m g _ => (θ_run Cert.Reference16Ideal.defs _ _).mono
    (fun r h => ⟨fun c => (h c).2, sem_eq_zero_of_no_sems (by decide) r.2⟩) (Cert.Reference16Ideal.Value.run (F := Ideal) m g)

/-- The two programs end with equal results. -/
theorem equal : Cert.algebraic_Kernel16Ideal_Reference16Ideal (hKernel16Ideal := facts) (hReference16Ideal := Cert.Reference16Ideal.Gen.facts) := by
  intro m g m' g' _ hm
  refine ⟨fun c => actOf (chan m c), ?_, ?_⟩
  · exact (θ_run _ _ _).mono (fun r h c => ⟨(h c).1.trans (arr4 m c), (h c).2⟩) (Value.run_blocks (F := Ideal) m g)
  · refine (θ_run _ _ _).mono (fun r h c => ⟨(h c).1.trans ?_, (h c).2⟩) (Cert.Reference16Ideal.Value.run (F := Ideal) m' g')
    rw [Cert.Reference16Ideal.Read.val_main_v23_eq, (hm c).1, (hm c).2.1, (hm c).2.2]
    exact ref_act _ _ _

end Cert.FwdFfn

end
-- ==== Proof.LossHead.lean ====
/- The loss of the last layer's rows and its gradient: eight blocks of rows, whose losses are added up. -/
module

public import proofs.«01_k».proof.Defs
public import proofs.«01_k».proof.Proof.Gen.Kernel17Ideal.Value
public import proofs.«01_k».proof.Proof.Gen.Kernel17.Frame
public import proofs.«01_k».proof.Proof.Gen.Reference17Ideal.Read
public import proofs.«01_k».proof.Proof.Gen.Reference17Ideal.Run
public import proofs.«01_k».proof.Proof.NormSweep
public import Idealize.ShloMosaic.Lib.Pipeline.ReadBack

@[expose] public section

set_option maxRecDepth 16384

noncomputable section

namespace Cert.LossHead

open Cert.Kernel17Ideal Cert.Kernel17Ideal.Gen
open Cert.NormGrad (len len_eq div_coe sum_mul_real)
open Idealize.ShloMosaic Idealize.ShloMosaic.TcCoe Idealize.ShloMosaic.Tactic

/-- One half and two, as the programs write them. -/
def half : EReal := Ideal.ofBits .f32 0x3F000000#32
def two : EReal := Ideal.ofBits .f32 0x40000000#32

theorem half_eq : half = ((1 / 2 : ℝ) : EReal) := by
  unfold half; simp [Ideal.ofBits, Ideal.ieee]; rw [← EReal.coe_mul]; norm_num
theorem two_eq : two = ((2 : ℝ) : EReal) := by
  unfold two; simp [Ideal.ofBits, Ideal.ieee]; rw [← EReal.coe_mul]; norm_num

/-- The mean square of a row of the error. -/
def rowLoss (y z : Fin 1024 → EReal) : EReal := Ideal.div (∑ k, (y k - z k) * (y k - z k)) len

/-- A row of an array. -/
abbrev rowOf {n : ℕ} (a : (⟨2, ![n, 1024]⟩ : Shape).Idx → EReal) (r : Fin n) : Fin 1024 → EReal := fun k => a (ix2 r k)

/-- A block of the gradient. -/
def gradB (v w : S256x1024.Idx → EReal) (p : Fin 256) (q : Fin 1024) : EReal := Ideal.div (v (ix2 p q) - w (ix2 p q)) len

/-- The loss, in every place of the tile, and its gradient. -/
def lossG (a b : S2048x1024.Idx → EReal) : S8x128.Idx → EReal := fun _ => half * ∑ r : Fin 2048, rowLoss (rowOf a r) (rowOf b r)
def gradG (a b : S2048x1024.Idx → EReal) : S2048x1024.Idx → EReal := fun i => Ideal.div (a i - b i) len

theorem pay4_apply (v w : Vec Ideal S256x1024 .f32) (i : S256x1024.Idx) :
    k0_pay4 (F := Ideal) v w i = Ideal.div (v i - w i) len := by
  unfold k0_pay4 k0_pay1
  pointwise
  rfl

theorem pay5_apply (v w : Vec Ideal S256x1024 .f32) (i : S256x1024.Idx) :
    k0_pay5 (F := Ideal) v w i = Ideal.div (v i - w i) len := by
  unfold k0_pay5
  pointwise
  exact pay4_apply v w i

theorem pay3_apply (v w : Vec Ideal S256x1024 .f32) (u : Vec Ideal S8x128 .f32) (a : Fin 8) (b : Fin 128) :
    k0_pay3 (F := Ideal) v w u (ix2 a b) = u (ix2 a b) + half * ∑ p : Fin 256, rowLoss (rowOf v p) (rowOf w p) := by
  unfold k0_pay3 k0_pay1
  pointwise
  rfl

theorem pay2_apply (i : S8x128.Idx) : k0_pay2 (F := Ideal) i = 0 := by
  unfold k0_pay2
  pointwise

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0] := by decide +kernel
theorem index3 : ∀ t : Fin grid0.N, win0_3.index t = ![t.val, 0] := by decide +kernel
theorem index4 : ∀ t : Fin grid0.N, win0_4.index t = ![t.val, 0] := by decide +kernel
theorem covers2 : win0_2.Covers := by decide +kernel
theorem covers3 : win0_3.Covers := by decide +kernel
theorem covers4 : win0_4.Covers := by decide +kernel
theorem points : grid0.N = 8 := by decide +kernel

variable (m : (ℓ : Loc nD τ sig) → Buf (Elt Ideal) ℓ) (c : Dev nD)

abbrev Y : S2048x1024.Idx → EReal := m ((c : Thread nD τ).loc main_arg0)
abbrev T : S2048x1024.Idx → EReal := m ((c : Thread nD τ).loc main_arg1)

/-- Row `p` of block `s`. -/
def rowAt (s : Fin 8) (p : Fin 256) : Fin 2048 := ⟨256 * s.val + p.val, by have := s.isLt; have := p.isLt; omega⟩

/-- The block of point `t`. -/
abbrev nth (t : Fin cfg0.N) : Fin 8 := ⟨t.val, lt_of_lt_of_eq t.isLt points⟩

theorem block0 (t : Fin cfg0.N) (p : Fin 256) (q : Fin 1024) : iblk m c 0 t (ix2 p q) = Y m c (ix2 (rowAt (nth t) p) q) := by
  unfold rowAt
  blk_ext [iblk, V, index0 t]

theorem block1 (t : Fin cfg0.N) (p : Fin 256) (q : Fin 1024) : iblk m c 1 t (ix2 p q) = T m c (ix2 (rowAt (nth t) p) q) := by
  unfold rowAt
  blk_ext [iblk, V, index1 t]

/-- The loss of block `s`, nothing past the last. -/
def blockLoss (s : ℕ) : EReal :=
  if h : s < 8 then half * ∑ p : Fin 256, rowLoss (rowOf (Y m c) (rowAt ⟨s, h⟩ p)) (rowOf (T m c) (rowAt ⟨s, h⟩ p)) else 0

theorem pay3_block (t : Fin cfg0.N) (u : Vec Ideal S8x128 .f32) (a : Fin 8) (b : Fin 128) :
    k0_pay3 (F := Ideal) (iblk m c 0 t) (iblk m c 1 t) u (ix2 a b) = u (ix2 a b) + blockLoss m c t.val := by
  refine (pay3_apply _ _ u a b).trans (congrArg (u (ix2 a b) + ·) ?_)
  unfold blockLoss
  rw [dif_pos (lt_of_lt_of_eq t.isLt points)]
  refine congrArg (half * ·) (Finset.sum_congr rfl fun p _ => ?_)
  exact congrArg₂ rowLoss (funext fun k => block0 m c t p k) (funext fun k => block1 m c t p k)

/-- The tile after point `n`: the losses of the blocks so far. -/
theorem tile : ∀ (n : ℕ) (h : n < cfg0.N) (a : Fin 8) (b : Fin 128),
    (outsAt0 m c n h).1 (ix2 a b) = ∑ s ∈ Finset.range (n + 1), blockLoss m c s
  | 0, h, a, b => by
    have e : (outsAt0 m c 0 h).1 = k0_pay3 (iblk m c 0 ⟨0, h⟩) (iblk m c 1 ⟨0, h⟩) (k0_pay2 (F := Ideal)) := by
      rw [outsAt0_A m c ⟨0, h⟩ rfl]
      frame_out
    rw [e, pay3_block, pay2_apply, Finset.sum_range_succ, Finset.sum_range_zero]
  | n + 1, h, a, b => by
    have h8 : n + 1 < 8 := lt_of_lt_of_eq h points
    have e : (outsAt0 m c (n + 1) h).1
        = k0_pay3 (iblk m c 0 ⟨n + 1, h⟩) (iblk m c 1 ⟨n + 1, h⟩) (outsAt0 m c n (Nat.lt_of_succ_lt h)).1 := by
      rw [outsAt0_B m c ⟨n + 1, h⟩ (by dsimp only; omega)]
      frame_out
      rfl
    rw [e, pay3_block, tile n (Nat.lt_of_succ_lt h) a b, Finset.sum_range_succ _ (n + 1)]

/-- A sum over the rows, block by block. -/
theorem blocks_sum (f : Fin 2048 → EReal) : ∑ s : Fin 8, ∑ p : Fin 256, f (rowAt s p) = ∑ r, f r := by
  rw [← Fintype.sum_prod_type' (f := fun s p => f (rowAt s p))]
  refine Fintype.sum_equiv (finProdFinEquiv (m := 8) (n := 256)) _ _ fun x => congrArg f (Fin.ext ?_)
  show 256 * x.1.val + x.2.val = x.2.val + 256 * x.1.val
  omega

theorem total : ∑ s ∈ Finset.range 8, blockLoss m c s = half * ∑ r : Fin 2048, rowLoss (rowOf (Y m c) r) (rowOf (T m c) r) := by
  rw [Finset.sum_range, ← blocks_sum, mul_comm half, half_eq, ← sum_mul_real _ _ _ (by norm_num)]
  refine Finset.sum_congr rfl fun s _ => ?_
  unfold blockLoss
  rw [dif_pos s.isLt, mul_comm, half_eq]

theorem arr2 : (dats m 0 c).arrAt 2 cfg0.N = lossG (Y m c) (T m c) := by
  refine (dats m 0 c).arrAt_eq_of_covers 2 _ covers2 fun t ht y => ?_
  blk_simp
  rw [after0_2]
  obtain ⟨a, b, rfl⟩ : ∃ (a : Fin 8) (b : Fin 128), y = ix2 a b := ⟨y 0, y 1, eq_ix2 y⟩
  have h7 : t.val = 7 := by have h := lt_of_lt_of_eq t.isLt points; have := (flush0_2 t).1 ht; omega
  refine (tile m c t.val t.isLt a b).trans ?_
  rw [h7]
  exact total m c

theorem grad3 (t : Fin cfg0.N) : (outsAt0 m c t.val t.isLt).2.1 = k0_pay4 (iblk m c 0 t) (iblk m c 1 t) := by
  by_cases h : t.val % 8 = 0
  · rw [outsAt0_A m c t h]; frame_out
  · rw [outsAt0_B m c t h]; frame_out

theorem grad4 (t : Fin cfg0.N) : (outsAt0 m c t.val t.isLt).2.2 = k0_pay5 (iblk m c 0 t) (iblk m c 1 t) := by
  by_cases h : t.val % 8 = 0
  · rw [outsAt0_A m c t h]; frame_out
  · rw [outsAt0_B m c t h]; frame_out

theorem grad_block (t : Fin cfg0.N) (p : Fin 256) (q : Fin 1024) :
    gradB (iblk m c 0 t) (iblk m c 1 t) p q = gradG (Y m c) (T m c) (ix2 (rowAt (nth t) p) q) := by
  unfold gradB gradG
  rw [block0, block1]

theorem arr3 : (dats m 0 c).arrAt 3 cfg0.N = gradG (Y m c) (T m c) := by
  refine (dats m 0 c).arrAt_eq_of_covers 3 _ covers3 fun t _ y => ?_
  blk_simp
  rw [after0_3, grad3]
  obtain ⟨p, q, rfl⟩ : ∃ (p : Fin 256) (q : Fin 1024), y = ix2 p q := ⟨y 0, y 1, eq_ix2 y⟩
  have e : ((View.whole main_v0_1).slice (win0_3.rect t)).emb (ix2 p q) = ix2 (rowAt (nth t) p) q := by
    unfold rowAt
    blk_ext [index3 t]
  exact ((pay4_apply _ _ _).trans (grad_block m c t p q)).trans (congrArg (gradG (Y m c) (T m c)) e).symm

theorem arr4 : (dats m 0 c).arrAt 4 cfg0.N = gradG (Y m c) (T m c) := by
  refine (dats m 0 c).arrAt_eq_of_covers 4 _ covers4 fun t _ y => ?_
  blk_simp
  rw [after0_4, grad4]
  obtain ⟨p, q, rfl⟩ : ∃ (p : Fin 256) (q : Fin 1024), y = ix2 p q := ⟨y 0, y 1, eq_ix2 y⟩
  have e : ((View.whole main_v0_2).slice (win0_4.rect t)).emb (ix2 p q) = ix2 (rowAt (nth t) p) q := by
    unfold rowAt
    blk_ext [index4 t]
  exact ((pay5_apply _ _ _).trans (grad_block m c t p q)).trans (congrArg (gradG (Y m c) (T m c)) e).symm

section
variable (x0 x1 : S2048x1024.Idx → EReal)
open Cert.Reference17Ideal.Read

theorem ref_row (j : Cert.Reference17Ideal.S2048.Idx) :
    val_main_v6 (F := Ideal) x0 x1 j = rowLoss (rowOf x0 (j 0)) (rowOf x1 (j 0)) := by
  rw [val_main_v6_apply, val_main_v4_apply, val_main_v5_apply, val_main_cst_1_apply, val_main_cst_0_apply]
  refine congrArg (Ideal.div · len) ((congrArg (· + _) Ideal.ofBits_zero_f32).trans ((zero_add _).trans (Finset.sum_congr rfl fun k _ => ?_)))
  have e : idx_main_v4 j k = ix2 (j 0) k := funext fun a => by fin_cases a <;> rfl
  rw [e]
  rfl

/-- A sum over the places of a column is one over its rows. -/
theorem places_sum (f : Fin 2048 → EReal) : ∑ j : Cert.Reference17Ideal.S2048.Idx, f (j 0) = ∑ r, f r :=
  Fintype.sum_bijective (fun j : Cert.Reference17Ideal.S2048.Idx => (j 0 : Fin 2048))
    ⟨fun j k h => funext fun a => by fin_cases a; exact h, fun r => ⟨Idealize.ShloMosaic.ix1 r, rfl⟩⟩ _ _ fun _ => rfl

theorem ref_loss : val_main_v15 (F := Ideal) x0 x1 = lossG x0 x1 := by
  funext i
  rw [val_main_v15_apply, val_main_v8_apply, val_main_v7_apply, val_main_cst_3_apply, val_main_cst_2_apply]
  refine congrArg (half * ·) ((congrArg (· + _) Ideal.ofBits_zero_f32).trans ((zero_add _).trans ?_))
  exact (Fintype.sum_congr _ _ fun j => ref_row x0 x1 j).trans (places_sum fun r => rowLoss (rowOf x0 r) (rowOf x1 r))

theorem ref_grad : val_main_v14 (F := Ideal) x0 x1 = gradG x0 x1 := by
  funext i
  rw [val_main_v14_apply, val_main_v13_apply, val_main_v12_apply, val_main_v10_apply, val_main_v11_apply, val_main_v9_apply,
    val_main_cst_4_apply, val_main_cst_5_apply, val_main_cst_6_apply, val_main_v3_apply, val_main_v2_apply, val_main_cst_apply, val_main_v0_apply]
  show Ideal.div (half * Ideal.ofBits .f32 0x3F800000#32) len * (two * (x0 i - x1 i)) = Ideal.div (x0 i - x1 i) len
  rw [Ideal.ofBits_one_f32, mul_one, len_eq, div_coe _ _ (by norm_num), div_coe _ _ (by norm_num), half_eq, two_eq, ← mul_assoc,
    ← EReal.coe_mul, ← EReal.coe_mul, mul_comm]
  exact congrArg (fun r : ℝ => (x0 i - x1 i) * (r : EReal)) (by norm_num)

theorem ref_gradb : val_main_v16 (F := Ideal) x0 x1 = gradG x0 x1 := ref_grad x0 x1

end

theorem frame : Cert.quiescent_Kernel17 (hKernel17 := Cert.Kernel17.Gen.facts) := fun m g _ => Cert.Kernel17.Gen.frame m g
theorem frame_ideal : Cert.quiescent_Kernel17Ideal (hKernel17Ideal := facts) := fun m g _ => Gen.frame m g
theorem frame_ref : Cert.quiescent_Reference17Ideal (hReference17Ideal := Cert.Reference17Ideal.Gen.facts) :=
  fun m g _ => (θ_run Cert.Reference17Ideal.defs _ _).mono
    (fun r h => ⟨fun c => (h c).2.2.2, sem_eq_zero_of_no_sems (by decide) r.2⟩) (Cert.Reference17Ideal.Value.run (F := Ideal) m g)

/-- The two programs end with equal results. -/
theorem equal : Cert.algebraic_Kernel17Ideal_Reference17Ideal (hKernel17Ideal := facts) (hReference17Ideal := Cert.Reference17Ideal.Gen.facts) := by
  intro m g m' g' _ hm
  refine ⟨fun c => lossG (Y m c) (T m c), fun c => gradG (Y m c) (T m c), fun c => gradG (Y m c) (T m c), ?_, ?_⟩
  · exact (θ_run _ _ _).mono (fun r h c => ⟨(h c).1.trans (arr2 m c), (h c).2.1.trans (arr3 m c), (h c).2.2.1.trans (arr4 m c), (h c).2.2.2⟩)
      (Value.run_blocks (F := Ideal) m g)
  · refine (θ_run _ _ _).mono (fun r h c => ⟨(h c).1.trans ?_, (h c).2.1.trans ?_, (h c).2.2.1.trans ?_, (h c).2.2.2⟩)
      (Cert.Reference17Ideal.Value.run (F := Ideal) m' g')
    · rw [Cert.Reference17Ideal.Read.val_main_v15_eq, (hm c).1, (hm c).2]
      exact ref_loss _ _
    · rw [Cert.Reference17Ideal.Read.val_main_v14_eq, (hm c).1, (hm c).2]
      exact ref_grad _ _
    · rw [Cert.Reference17Ideal.Read.val_main_v16_eq, (hm c).1, (hm c).2]
      exact ref_gradb _ _

end Cert.LossHead

end
-- ==== Proof.SumAdamDown.lean ====
/- The down projection's weight in one layer: the sum of the devices' parts, and the optimiser's step. -/
module

public import proofs.«01_k».proof.Defs
public import proofs.«01_k».proof.Proof.Adam
public import proofs.«01_k».proof.Proof.Gen.Kernel18Ideal.Value
public import proofs.«01_k».proof.Proof.Gen.Kernel18.Frame
public import proofs.«01_k».proof.Proof.Gen.Reference18Ideal.Read
public import proofs.«01_k».proof.Proof.Gen.Reference18Ideal.Run
public import Idealize.ShloMosaic.Lib.Pipeline.ValueKit

@[expose] public section

set_option maxRecDepth 16384

noncomputable section

namespace Cert.SumAdamDown

open Cert.Kernel18Ideal Cert.Kernel18Ideal.Gen Cert.Adam
open Idealize.ShloMosaic Idealize.ShloMosaic.TcCoe Idealize.SL.Sem
open Idealize.ShloMosaic.Pipeline (Dat Cfg Window)

theorem index0 : ∀ t : Fin grid0.N, win0_0.index t = ![0, t.val, 0] := by decide +kernel
theorem index1 : ∀ t : Fin grid0.N, win0_1.index t = ![0, t.val, 0] := by decide +kernel
theorem index2 : ∀ t : Fin grid0.N, win0_2.index t = ![0, t.val, 0] := by decide +kernel
theorem index3 : ∀ t : Fin grid0.N, win0_3.index t = ![0, t.val, 0] := by decide +kernel
theorem index4 : ∀ t : Fin grid0.N, win0_4.index t = ![0, t.val, 0] := by decide +kernel
theorem index5 : ∀ t : Fin grid0.N, win0_5.index t = ![0, t.val, 0] := by decide +kernel
theorem index6 : ∀ t : Fin grid0.N, win0_6.index t = ![0, t.val, 0] := by decide +kernel
theorem index7 : ∀ t : Fin grid0.N, win0_7.index t = ![0, t.val, 0] := by decide +kernel
theorem covers4 : win0_4.Covers := by decide +kernel
theorem covers5 : win0_5.Covers := by decide +kernel
theorem covers6 : win0_6.Covers := by decide +kernel
theorem covers7 : win0_7.Covers := by decide +kernel

variable (m : (ℓ : Loc nD τ sig) → Buf (Elt Ideal) ℓ) (c : Dev nD)

/-- The sum the body forms of its block of the parts. -/
def gradB (t : Fin cfg0.N) : S176x1024.Idx → EReal :=
  k0_pay3 (F := Ideal) (View.ld (iblk m c 0 t) (Rect.unit ![0, 0, 0] ![1, 176, 1024] inb_S8x176x1024_S1x176x1024_0_0_0))
    (View.ld (iblk m c 0 t) (Rect.unit ![1, 0, 0] ![1, 176, 1024] inb_S8x176x1024_S1x176x1024_1_0_0))
    (View.ld (iblk m c 0 t) (Rect.unit ![2, 0, 0] ![1, 176, 1024] inb_S8x176x1024_S1x176x1024_2_0_0))
    (View.ld (iblk m c 0 t) (Rect.unit ![3, 0, 0] ![1, 176, 1024] inb_S8x176x1024_S1x176x1024_3_0_0))
    (View.ld (iblk m c 0 t) (Rect.unit ![4, 0, 0] ![1, 176, 1024] inb_S8x176x1024_S1x176x1024_4_0_0))
    (View.ld (iblk m c 0 t) (Rect.unit ![5, 0, 0] ![1, 176, 1024] inb_S8x176x1024_S1x176x1024_5_0_0))
    (View.ld (iblk m c 0 t) (Rect.unit ![6, 0, 0] ![1, 176, 1024] inb_S8x176x1024_S1x176x1024_6_0_0))
    (View.ld (iblk m c 0 t) (Rect.unit ![7, 0, 0] ![1, 176, 1024] inb_S8x176x1024_S1x176x1024_7_0_0))

/-- A row of a block in its array. -/
def rowOf (t : Fin cfg0.N) (r : Fin 176) : Fin 352 := ⟨t.val * 176 + r.val, by have : t.val < 2 := t.isLt; omega⟩

theorem part_at (t : Fin cfg0.N) (k : Fin 8) (r : Fin 176) (q : Fin 1024) : iblk m c 0 t (ix3 k r q) = m ((c : Thread nD τ).loc main_arg0) (ix3 k (rowOf t r) q) := by
  blk_ext [iblk, V, index0 t, rowOf]

theorem gradB_at (t : Fin cfg0.N) (r : Fin 176) (q : Fin 1024) :
    gradB m c t (ix2 r q) = gradOf (m ((c : Thread nD τ).loc main_arg0)) (ix3 0 (rowOf t r) q) := by
  unfold gradB gradOf k0_pay3
  rw [Fin.sum_univ_eight]
  pointwise
  simp only [part_at]

theorem w_at (t : Fin cfg0.N) (r : Fin 176) (q : Fin 1024) : iblk m c 1 t (ix3 0 r q) = m ((c : Thread nD τ).loc main_arg1) (ix3 0 (rowOf t r) q) := by
  blk_ext [iblk, V, index1 t, rowOf]
theorem m_at (t : Fin cfg0.N) (r : Fin 176) (q : Fin 1024) : iblk m c 2 t (ix3 0 r q) = m ((c : Thread nD τ).loc main_arg2) (ix3 0 (rowOf t r) q) := by
  blk_ext [iblk, V, index2 t, rowOf]
theorem v_at (t : Fin cfg0.N) (r : Fin 176) (q : Fin 1024) : iblk m c 3 t (ix3 0 r q) = m ((c : Thread nD τ).loc main_arg3) (ix3 0 (rowOf t r) q) := by
  blk_ext [iblk, V, index3 t, rowOf]

theorem grad_is (g : S176x1024.Idx → EReal) (r : Fin 176) (q : Fin 1024) : k0_pay7 (F := Ideal) g (ix3 0 r q) = g (ix2 r q) := by
  unfold k0_pay7; pointwise
theorem mean_is (g : S176x1024.Idx → EReal) (x2 : S1x176x1024.Idx → EReal) (r : Fin 176) (q : Fin 1024) :
    k0_pay1 (F := Ideal) (k0_pay5 g x2) (ix3 0 r q) = lit 0x3F666666#32 * x2 (ix3 0 r q) + lit 0x3DCCCCCD#32 * g (ix2 r q) := by
  unfold k0_pay1 k0_pay5; pointwise
theorem square_is (g : S176x1024.Idx → EReal) (x3 : S1x176x1024.Idx → EReal) (r : Fin 176) (q : Fin 1024) :
    k0_pay2 (F := Ideal) (k0_pay6 g x3) (ix3 0 r q) = lit 0x3F7FBE77#32 * x3 (ix3 0 r q) + lit 0x3A83126F#32 * (g (ix2 r q) * g (ix2 r q)) := by
  unfold k0_pay2 k0_pay6; pointwise
theorem change_is (g : S176x1024.Idx → EReal) (x1 x2 x3 : S1x176x1024.Idx → EReal) (r : Fin 176) (q : Fin 1024) :
    k0_pay8 (F := Ideal) g (k0_pay4 x1) x2 x3 (ix3 0 r q)
      = lit 0xBA83126F#32 * (FloatOps.divf (F := Ideal) (φ := .f32)
          (FloatOps.divf (F := Ideal) (φ := .f32) (lit 0x3F666666#32 * x2 (ix3 0 r q) + lit 0x3DCCCCCD#32 * g (ix2 r q)) (lit 0x3F26BD02#32))
          (FloatOps.sqrt (F := Ideal) (φ := .f32) (FloatOps.divf (F := Ideal) (φ := .f32)
            (lit 0x3F7FBE77#32 * x3 (ix3 0 r q) + lit 0x3A83126F#32 * (g (ix2 r q) * g (ix2 r q))) (lit 0x3C231ACC#32)) + lit 0x322BCC77#32)
        + lit 0x3C23D70A#32 * x1 (ix3 0 r q)) := by
  unfold k0_pay8 k0_pay6 k0_pay5 k0_pay4; pointwise

theorem exists_ix (y : S1x176x1024.Idx) : ∃ (r : Fin 176) (q : Fin 1024), y = ix3 0 r q :=
  ⟨y 1, y 2, funext fun a => by fin_cases a; exacts [Subsingleton.elim (α := Fin 1) _ _, rfl, rfl]⟩

theorem arr4 : (dats m 0 c).arrAt 4 cfg0.N = gradOf (m ((c : Thread nD τ).loc main_arg0)) := by
  refine (dats m 0 c).arrAt_eq_of_covers 4 _ covers4 fun t _ y => ?_
  obtain ⟨r, q, rfl⟩ := exists_ix y
  have e : (((View.whole main_v0_0).slice (win0_4.rect t)).emb (ix3 0 r q : S1x176x1024.Idx)) = ix3 0 (rowOf t r) q := by
    blk_ext [index4 t, rowOf]
  blk_simp
  rw [after0_4, e]
  unfold outsAt0
  dsimp only
  frame_out
  exact (grad_is ..).trans (gradB_at ..)

theorem arr5 : (dats m 0 c).arrAt 5 cfg0.N = changeOf (m ((c : Thread nD τ).loc main_arg1)) (gradOf (m ((c : Thread nD τ).loc main_arg0)))
    (m ((c : Thread nD τ).loc main_arg2)) (m ((c : Thread nD τ).loc main_arg3)) := by
  refine (dats m 0 c).arrAt_eq_of_covers 5 _ covers5 fun t _ y => ?_
  obtain ⟨r, q, rfl⟩ := exists_ix y
  have e : (((View.whole main_v0_1).slice (win0_5.rect t)).emb (ix3 0 r q : S1x176x1024.Idx)) = ix3 0 (rowOf t r) q := by
    blk_ext [index5 t, rowOf]
  blk_simp
  rw [after0_5, e]
  frame_out
  refine (change_is (gradB m c t) (iblk m c 1 t) (iblk m c 2 t) (iblk m c 3 t) r q).trans ?_
  rw [gradB_at, w_at, m_at, v_at]; rfl

theorem arr6 : (dats m 0 c).arrAt 6 cfg0.N = meanOf (m ((c : Thread nD τ).loc main_arg2)) (gradOf (m ((c : Thread nD τ).loc main_arg0))) := by
  refine (dats m 0 c).arrAt_eq_of_covers 6 _ covers6 fun t _ y => ?_
  obtain ⟨r, q, rfl⟩ := exists_ix y
  have e : (((View.whole main_v0_2).slice (win0_6.rect t)).emb (ix3 0 r q : S1x176x1024.Idx)) = ix3 0 (rowOf t r) q := by
    blk_ext [index6 t, rowOf]
  blk_simp
  rw [after0_6, e]
  frame_out
  refine (mean_is (gradB m c t) (iblk m c 2 t) r q).trans ?_
  rw [gradB_at, m_at]; rfl

theorem arr7 : (dats m 0 c).arrAt 7 cfg0.N = squareOf (m ((c : Thread nD τ).loc main_arg3)) (gradOf (m ((c : Thread nD τ).loc main_arg0))) := by
  refine (dats m 0 c).arrAt_eq_of_covers 7 _ covers7 fun t _ y => ?_
  obtain ⟨r, q, rfl⟩ := exists_ix y
  have e : (((View.whole main_v0_3).slice (win0_7.rect t)).emb (ix3 0 r q : S1x176x1024.Idx)) = ix3 0 (rowOf t r) q := by
    blk_ext [index7 t, rowOf]
  blk_simp
  rw [after0_7, e]
  frame_out
  refine (square_is (gradB m c t) (iblk m c 3 t) r q).trans ?_
  rw [gradB_at, v_at]; rfl

theorem ref0 (a : S8x352x1024.Idx → EReal) : Cert.Reference18Ideal.Read.val_main_v2 (F := Ideal) a = gradOf a := by
  funext y
  rw [Cert.Reference18Ideal.Read.val_main_v2_apply, Cert.Reference18Ideal.Read.val_main_v1_apply]
  refine (congrArg (· + _) Ideal.ofBits_zero_f32).trans ((zero_add _).trans (Finset.sum_congr rfl fun k _ => ?_))
  exact congrArg a (funext fun i => by fin_cases i <;> rfl)

theorem ref1 (a : S8x352x1024.Idx → EReal) (x1 x2 x3 : S1x352x1024.Idx → EReal) :
    Cert.Reference18Ideal.Read.val_main_v26 (F := Ideal) a x1 x2 x3 = changeOf x1 (gradOf a) x2 x3 := by rw [← ref0]; rfl
theorem ref2 (a : S8x352x1024.Idx → EReal) (x2 : S1x352x1024.Idx → EReal) :
    Cert.Reference18Ideal.Read.val_main_v7 (F := Ideal) a x2 = meanOf x2 (gradOf a) := by rw [← ref0]; rfl
theorem ref3 (a : S8x352x1024.Idx → EReal) (x3 : S1x352x1024.Idx → EReal) :
    Cert.Reference18Ideal.Read.val_main_v13 (F := Ideal) a x3 = squareOf x3 (gradOf a) := by rw [← ref0]; rfl

theorem frame : Cert.quiescent_Kernel18 (hKernel18 := Cert.Kernel18.Gen.facts) := fun m g _ => Cert.Kernel18.Gen.frame m g
theorem frame_ideal : Cert.quiescent_Kernel18Ideal (hKernel18Ideal := facts) := fun m g _ => Gen.frame m g
theorem frame_ref : Cert.quiescent_Reference18Ideal (hReference18Ideal := Cert.Reference18Ideal.Gen.facts) :=
  fun m g _ => (θ_run Cert.Reference18Ideal.defs _ _).mono
    (fun r h => ⟨fun c => (h c).2.2.2.2, sem_eq_zero_of_no_sems (by decide) r.2⟩)
    (Cert.Reference18Ideal.Value.run (F := Ideal) m g)

theorem equal : Cert.algebraic_Kernel18Ideal_Reference18Ideal (hKernel18Ideal := facts)
    (hReference18Ideal := Cert.Reference18Ideal.Gen.facts) := by
  intro m g m' g' _ hm
  refine ⟨
    fun c => gradOf (m ((c : Thread nD τ).loc main_arg0)),
    fun c => changeOf (m ((c : Thread nD τ).loc main_arg1)) (gradOf (m ((c : Thread nD τ).loc main_arg0)))
      (m ((c : Thread nD τ).loc main_arg2)) (m ((c : Thread nD τ).loc main_arg3)),
    fun c => meanOf (m ((c : Thread nD τ).loc main_arg2)) (gradOf (m ((c : Thread nD τ).loc main_arg0))),
    fun c => squareOf (m ((c : Thread nD τ).loc main_arg3)) (gradOf (m ((c : Thread nD τ).loc main_arg0))), ?_, ?_⟩
  · refine (θ_run _ _ _).mono (fun r h c => ?_) (Value.run_blocks (F := Ideal) m g)
    obtain ⟨h0, h1, h2, h3, kept⟩ := h c
    exact ⟨h0.trans (arr4 m c), h1.trans (arr5 m c), h2.trans (arr6 m c), h3.trans (arr7 m c), kept⟩
  · refine (θ_run _ _ _).mono (fun r h c => ?_) (Cert.Reference18Ideal.Value.run (F := Ideal) m' g')
    obtain ⟨e0, e1, e2, e3⟩ := hm c
    obtain ⟨h0, h1, h2, h3, kept⟩ := h c
    refine ⟨h0.trans ?_, h1.trans ?_, h2.trans ?_, h3.trans ?_, kept⟩
    · rw [Cert.Reference18Ideal.Read.val_main_v2_eq, e0]; exact ref0 _
    · rw [Cert.Reference18Ideal.Read.val_main_v26_eq, e0, e1, e2, e3]; exact ref1 ..
    · rw [Cert.Reference18Ideal.Read.val_main_v7_eq, e0, e2]; exact ref2 ..
    · rw [Cert.Reference18Ideal.Read.val_main_v13_eq, e0, e3]; exact ref3 ..

end Cert.SumAdamDown

end
-- ==== Proof.SumAdamUp.lean ====
/- The up projection's weight in one layer: the sum of the devices' parts, and the optimiser's step. -/
module

public import proofs.«01_k».proof.Defs
public import proofs.«01_k».proof.Proof.Adam
public import proofs.«01_k».proof.Proof.Gen.Kernel19Ideal.Value
public import proofs.«01_k».proof.Proof.Gen.Kernel19.Frame
public import proofs.«01_k».proof.Proof.Gen.Reference19Ideal.Read
public import proofs.«01_k».proof.Proof.Gen.Reference19Ideal.Run
public import Idealize.ShloMosaic.Lib.Pipeline.ValueKit

@[expose] public section

set_option maxRecDepth 16384

noncomputable section

namespace Cert.SumAdamUp

open Cert.Kernel19Ideal Cert.Kernel19Ideal.Gen Cert.Adam
open Idealize.ShloMosaic Idealize.ShloMosaic.TcCoe Idealize.SL.Sem
open Idealize.ShloMosaic.Pipeline (Dat Cfg Window)

theorem index0 : ∀ t : Fin grid0.N, win0_0.index t = ![0, t.val, 0] := by decide +kernel
theorem index1 : ∀ t : Fin grid0.N, win0_1.index t = ![0, t.val, 0] := by decide +kernel
theorem index2 : ∀ t : Fin grid0.N, win0_2.index t = ![0, t.val, 0] := by decide +kernel
theorem index3 : ∀ t : Fin grid0.N, win0_3.index t = ![0, t.val, 0] := by decide +kernel
theorem index4 : ∀ t : Fin grid0.N, win0_4.index t = ![0, t.val, 0] := by decide +kernel
theorem index5 : ∀ t : Fin grid0.N, win0_5.index t = ![0, t.val, 0] := by decide +kernel
theorem index6 : ∀ t : Fin grid0.N, win0_6.index t = ![0, t.val, 0] := by decide +kernel
theorem index7 : ∀ t : Fin grid0.N, win0_7.index t = ![0, t.val, 0] := by decide +kernel
theorem covers4 : win0_4.Covers := by decide +kernel
theorem covers5 : win0_5.Covers := by decide +kernel
theorem covers6 : win0_6.Covers := by decide +kernel
theorem covers7 : win0_7.Covers := by decide +kernel

variable (m : (ℓ : Loc nD τ sig) → Buf (Elt Ideal) ℓ) (c : Dev nD)

/-- The sum the body forms of its block of the parts. -/
def gradB (t : Fin cfg0.N) : S176x1024.Idx → EReal :=
  k0_pay3 (F := Ideal) (View.ld (iblk m c 0 t) (Rect.unit ![0, 0, 0] ![1, 176, 1024] inb_S8x176x1024_S1x176x1024_0_0_0))
    (View.ld (iblk m c 0 t) (Rect.unit ![1, 0, 0] ![1, 176, 1024] inb_S8x176x1024_S1x176x1024_1_0_0))
    (View.ld (iblk m c 0 t) (Rect.unit ![2, 0, 0] ![1, 176, 1024] inb_S8x176x1024_S1x176x1024_2_0_0))
    (View.ld (iblk m c 0 t) (Rect.unit ![3, 0, 0] ![1, 176, 1024] inb_S8x176x1024_S1x176x1024_3_0_0))
    (View.ld (iblk m c 0 t) (Rect.unit ![4, 0, 0] ![1, 176, 1024] inb_S8x176x1024_S1x176x1024_4_0_0))
    (View.ld (iblk m c 0 t) (Rect.unit ![5, 0, 0] ![1, 176, 1024] inb_S8x176x1024_S1x176x1024_5_0_0))
    (View.ld (iblk m c 0 t) (Rect.unit ![6, 0, 0] ![1, 176, 1024] inb_S8x176x1024_S1x176x1024_6_0_0))
    (View.ld (iblk m c 0 t) (Rect.unit ![7, 0, 0] ![1, 176, 1024] inb_S8x176x1024_S1x176x1024_7_0_0))

/-- A row of a block in its array. -/
def rowOf (t : Fin cfg0.N) (r : Fin 176) : Fin 704 := ⟨t.val * 176 + r.val, by have : t.val < 4 := t.isLt; omega⟩

theorem part_at (t : Fin cfg0.N) (k : Fin 8) (r : Fin 176) (q : Fin 1024) : iblk m c 0 t (ix3 k r q) = m ((c : Thread nD τ).loc main_arg0) (ix3 k (rowOf t r) q) := by
  blk_ext [iblk, V, index0 t, rowOf]

theorem gradB_at (t : Fin cfg0.N) (r : Fin 176) (q : Fin 1024) :
    gradB m c t (ix2 r q) = gradOf (m ((c : Thread nD τ).loc main_arg0)) (ix3 0 (rowOf t r) q) := by
  unfold gradB gradOf k0_pay3
  rw [Fin.sum_univ_eight]
  pointwise
  simp only [part_at]

theorem w_at (t : Fin cfg0.N) (r : Fin 176) (q : Fin 1024) : iblk m c 1 t (ix3 0 r q) = m ((c : Thread nD τ).loc main_arg1) (ix3 0 (rowOf t r) q) := by
  blk_ext [iblk, V, index1 t, rowOf]
theorem m_at (t : Fin cfg0.N) (r : Fin 176) (q : Fin 1024) : iblk m c 2 t (ix3 0 r q) = m ((c : Thread nD τ).loc main_arg2) (ix3 0 (rowOf t r) q) := by
  blk_ext [iblk, V, index2 t, rowOf]
theorem v_at (t : Fin cfg0.N) (r : Fin 176) (q : Fin 1024) : iblk m c 3 t (ix3 0 r q) = m ((c : Thread nD τ).loc main_arg3) (ix3 0 (rowOf t r) q) := by
  blk_ext [iblk, V, index3 t, rowOf]

theorem grad_is (g : S176x1024.Idx → EReal) (r : Fin 176) (q : Fin 1024) : k0_pay7 (F := Ideal) g (ix3 0 r q) = g (ix2 r q) := by
  unfold k0_pay7; pointwise
theorem mean_is (g : S176x1024.Idx → EReal) (x2 : S1x176x1024.Idx → EReal) (r : Fin 176) (q : Fin 1024) :
    k0_pay1 (F := Ideal) (k0_pay5 g x2) (ix3 0 r q) = lit 0x3F666666#32 * x2 (ix3 0 r q) + lit 0x3DCCCCCD#32 * g (ix2 r q) := by
  unfold k0_pay1 k0_pay5; pointwise
theorem square_is (g : S176x1024.Idx → EReal) (x3 : S1x176x1024.Idx → EReal) (r : Fin 176) (q : Fin 1024) :
    k0_pay2 (F := Ideal) (k0_pay6 g x3) (ix3 0 r q) = lit 0x3F7FBE77#32 * x3 (ix3 0 r q) + lit 0x3A83126F#32 * (g (ix2 r q) * g (ix2 r q)) := by
  unfold k0_pay2 k0_pay6; pointwise
theorem change_is (g : S176x1024.Idx → EReal) (x1 x2 x3 : S1x176x1024.Idx → EReal) (r : Fin 176) (q : Fin 1024) :
    k0_pay8 (F := Ideal) g (k0_pay4 x1) x2 x3 (ix3 0 r q)
      = lit 0xBA83126F#32 * (FloatOps.divf (F := Ideal) (φ := .f32)
          (FloatOps.divf (F := Ideal) (φ := .f32) (lit 0x3F666666#32 * x2 (ix3 0 r q) + lit 0x3DCCCCCD#32 * g (ix2 r q)) (lit 0x3F26BD02#32))
          (FloatOps.sqrt (F := Ideal) (φ := .f32) (FloatOps.divf (F := Ideal) (φ := .f32)
            (lit 0x3F7FBE77#32 * x3 (ix3 0 r q) + lit 0x3A83126F#32 * (g (ix2 r q) * g (ix2 r q))) (lit 0x3C231ACC#32)) + lit 0x322BCC77#32)
        + lit 0x3C23D70A#32 * x1 (ix3 0 r q)) := by
  unfold k0_pay8 k0_pay6 k0_pay5 k0_pay4; pointwise

theorem exists_ix (y : S1x176x1024.Idx) : ∃ (r : Fin 176) (q : Fin 1024), y = ix3 0 r q :=
  ⟨y 1, y 2, funext fun a => by fin_cases a; exacts [Subsingleton.elim (α := Fin 1) _ _, rfl, rfl]⟩

theorem arr4 : (dats m 0 c).arrAt 4 cfg0.N = gradOf (m ((c : Thread nD τ).loc main_arg0)) := by
  refine (dats m 0 c).arrAt_eq_of_covers 4 _ covers4 fun t _ y => ?_
  obtain ⟨r, q, rfl⟩ := exists_ix y
  have e : (((View.whole main_v0_0).slice (win0_4.rect t)).emb (ix3 0 r q : S1x176x1024.Idx)) = ix3 0 (rowOf t r) q := by
    blk_ext [index4 t, rowOf]
  blk_simp
  rw [after0_4, e]
  unfold outsAt0
  dsimp only
  frame_out
  exact (grad_is ..).trans (gradB_at ..)

theorem arr5 : (dats m 0 c).arrAt 5 cfg0.N = changeOf (m ((c : Thread nD τ).loc main_arg1)) (gradOf (m ((c : Thread nD τ).loc main_arg0)))
    (m ((c : Thread nD τ).loc main_arg2)) (m ((c : Thread nD τ).loc main_arg3)) := by
  refine (dats m 0 c).arrAt_eq_of_covers 5 _ covers5 fun t _ y => ?_
  obtain ⟨r, q, rfl⟩ := exists_ix y
  have e : (((View.whole main_v0_1).slice (win0_5.rect t)).emb (ix3 0 r q : S1x176x1024.Idx)) = ix3 0 (rowOf t r) q := by
    blk_ext [index5 t, rowOf]
  blk_simp
  rw [after0_5, e]
  frame_out
  refine (change_is (gradB m c t) (iblk m c 1 t) (iblk m c 2 t) (iblk m c 3 t) r q).trans ?_
  rw [gradB_at, w_at, m_at, v_at]; rfl

theorem arr6 : (dats m 0 c).arrAt 6 cfg0.N = meanOf (m ((c : Thread nD τ).loc main_arg2)) (gradOf (m ((c : Thread nD τ).loc main_arg0))) := by
  refine (dats m 0 c).arrAt_eq_of_covers 6 _ covers6 fun t _ y => ?_
  obtain ⟨r, q, rfl⟩ := exists_ix y
  have e : (((View.whole main_v0_2).slice (win0_6.rect t)).emb (ix3 0 r q : S1x176x1024.Idx)) = ix3 0 (rowOf t r) q := by
    blk_ext [index6 t, rowOf]
  blk_simp
  rw [after0_6, e]
  frame_out
  refine (mean_is (gradB m c t) (iblk m c 2 t) r q).trans ?_
  rw [gradB_at, m_at]; rfl

theorem arr7 : (dats m 0 c).arrAt 7 cfg0.N = squareOf (m ((c : Thread nD τ).loc main_arg3)) (gradOf (m ((c : Thread nD τ).loc main_arg0))) := by
  refine (dats m 0 c).arrAt_eq_of_covers 7 _ covers7 fun t _ y => ?_
  obtain ⟨r, q, rfl⟩ := exists_ix y
  have e : (((View.whole main_v0_3).slice (win0_7.rect t)).emb (ix3 0 r q : S1x176x1024.Idx)) = ix3 0 (rowOf t r) q := by
    blk_ext [index7 t, rowOf]
  blk_simp
  rw [after0_7, e]
  frame_out
  refine (square_is (gradB m c t) (iblk m c 3 t) r q).trans ?_
  rw [gradB_at, v_at]; rfl

theorem ref0 (a : S8x704x1024.Idx → EReal) : Cert.Reference19Ideal.Read.val_main_v2 (F := Ideal) a = gradOf a := by
  funext y
  rw [Cert.Reference19Ideal.Read.val_main_v2_apply, Cert.Reference19Ideal.Read.val_main_v1_apply]
  refine (congrArg (· + _) Ideal.ofBits_zero_f32).trans ((zero_add _).trans (Finset.sum_congr rfl fun k _ => ?_))
  exact congrArg a (funext fun i => by fin_cases i <;> rfl)

theorem ref1 (a : S8x704x1024.Idx → EReal) (x1 x2 x3 : S1x704x1024.Idx → EReal) :
    Cert.Reference19Ideal.Read.val_main_v26 (F := Ideal) a x1 x2 x3 = changeOf x1 (gradOf a) x2 x3 := by rw [← ref0]; rfl
theorem ref2 (a : S8x704x1024.Idx → EReal) (x2 : S1x704x1024.Idx → EReal) :
    Cert.Reference19Ideal.Read.val_main_v7 (F := Ideal) a x2 = meanOf x2 (gradOf a) := by rw [← ref0]; rfl
theorem ref3 (a : S8x704x1024.Idx → EReal) (x3 : S1x704x1024.Idx → EReal) :
    Cert.Reference19Ideal.Read.val_main_v13 (F := Ideal) a x3 = squareOf x3 (gradOf a) := by rw [← ref0]; rfl

theorem frame : Cert.quiescent_Kernel19 (hKernel19 := Cert.Kernel19.Gen.facts) := fun m g _ => Cert.Kernel19.Gen.frame m g
theorem frame_ideal : Cert.quiescent_Kernel19Ideal (hKernel19Ideal := facts) := fun m g _ => Gen.frame m g
theorem frame_ref : Cert.quiescent_Reference19Ideal (hReference19Ideal := Cert.Reference19Ideal.Gen.facts) :=
  fun m g _ => (θ_run Cert.Reference19Ideal.defs _ _).mono
    (fun r h => ⟨fun c => (h c).2.2.2.2, sem_eq_zero_of_no_sems (by decide) r.2⟩)
    (Cert.Reference19Ideal.Value.run (F := Ideal) m g)

theorem equal : Cert.algebraic_Kernel19Ideal_Reference19Ideal (hKernel19Ideal := facts)
    (hReference19Ideal := Cert.Reference19Ideal.Gen.facts) := by
  intro m g m' g' _ hm
  refine ⟨
    fun c => gradOf (m ((c : Thread nD τ).loc main_arg0)),
    fun c => changeOf (m ((c : Thread nD τ).loc main_arg1)) (gradOf (m ((c : Thread nD τ).loc main_arg0)))
      (m ((c : Thread nD τ).loc main_arg2)) (m ((c : Thread nD τ).loc main_arg3)),
    fun c => meanOf (m ((c : Thread nD τ).loc main_arg2)) (gradOf (m ((c : Thread nD τ).loc main_arg0))),
    fun c => squareOf (m ((c : Thread nD τ).loc main_arg3)) (gradOf (m ((c : Thread nD τ).loc main_arg0))), ?_, ?_⟩
  · refine (θ_run _ _ _).mono (fun r h c => ?_) (Value.run_blocks (F := Ideal) m g)
    obtain ⟨h0, h1, h2, h3, kept⟩ := h c
    exact ⟨h0.trans (arr4 m c), h1.trans (arr5 m c), h2.trans (arr6 m c), h3.trans (arr7 m c), kept⟩
  · refine (θ_run _ _ _).mono (fun r h c => ?_) (Cert.Reference19Ideal.Value.run (F := Ideal) m' g')
    obtain ⟨e0, e1, e2, e3⟩ := hm c
    obtain ⟨h0, h1, h2, h3, kept⟩ := h c
    refine ⟨h0.trans ?_, h1.trans ?_, h2.trans ?_, h3.trans ?_, kept⟩
    · rw [Cert.Reference19Ideal.Read.val_main_v2_eq, e0]; exact ref0 _
    · rw [Cert.Reference19Ideal.Read.val_main_v26_eq, e0, e1, e2, e3]; exact ref1 ..
    · rw [Cert.Reference19Ideal.Read.val_main_v7_eq, e0, e2]; exact ref2 ..
    · rw [Cert.Reference19Ideal.Read.val_main_v13_eq, e0, e3]; exact ref3 ..

end Cert.SumAdamUp

end
-- ==== Proof.SumAdamIn.lean ====
/- The input projection's weight in one layer: the sum of the devices' parts, and the optimiser's step. -/
module

public import proofs.«01_k».proof.Defs
public import proofs.«01_k».proof.Proof.Adam
public import proofs.«01_k».proof.Proof.Gen.Kernel20Ideal.Value
public import proofs.«01_k».proof.Proof.Gen.Kernel20.Frame
public import proofs.«01_k».proof.Proof.Gen.Reference20Ideal.Read
public import proofs.«01_k».proof.Proof.Gen.Reference20Ideal.Run
public import Idealize.ShloMosaic.Lib.Pipeline.ValueKit

@[expose] public section

set_option maxRecDepth 16384

noncomputable section

namespace Cert.SumAdamIn

open Cert.Kernel20Ideal Cert.Kernel20Ideal.Gen Cert.Adam
open Idealize.ShloMosaic Idealize.ShloMosaic.TcCoe Idealize.SL.Sem
open Idealize.ShloMosaic.Pipeline (Dat Cfg Window)

theorem index0 : ∀ t : Fin grid0.N, win0_0.index t = ![0, t.val, 0] := by decide +kernel
theorem index1 : ∀ t : Fin grid0.N, win0_1.index t = ![0, t.val, 0] := by decide +kernel
theorem index2 : ∀ t : Fin grid0.N, win0_2.index t = ![0, t.val, 0] := by decide +kernel
theorem index3 : ∀ t : Fin grid0.N, win0_3.index t = ![0, t.val, 0] := by decide +kernel
theorem index4 : ∀ t : Fin grid0.N, win0_4.index t = ![0, t.val, 0] := by decide +kernel
theorem index5 : ∀ t : Fin grid0.N, win0_5.index t = ![0, t.val, 0] := by decide +kernel
theorem index6 : ∀ t : Fin grid0.N, win0_6.index t = ![0, t.val, 0] := by decide +kernel
theorem index7 : ∀ t : Fin grid0.N, win0_7.index t = ![0, t.val, 0] := by decide +kernel
theorem covers4 : win0_4.Covers := by decide +kernel
theorem covers5 : win0_5.Covers := by decide +kernel
theorem covers6 : win0_6.Covers := by decide +kernel
theorem covers7 : win0_7.Covers := by decide +kernel

variable (m : (ℓ : Loc nD τ sig) → Buf (Elt Ideal) ℓ) (c : Dev nD)

/-- The sum the body forms of its block of the parts. -/
def gradB (t : Fin cfg0.N) : S160x1024.Idx → EReal :=
  k0_pay3 (F := Ideal) (View.ld (iblk m c 0 t) (Rect.unit ![0, 0, 0] ![1, 160, 1024] inb_S8x160x1024_S1x160x1024_0_0_0))
    (View.ld (iblk m c 0 t) (Rect.unit ![1, 0, 0] ![1, 160, 1024] inb_S8x160x1024_S1x160x1024_1_0_0))
    (View.ld (iblk m c 0 t) (Rect.unit ![2, 0, 0] ![1, 160, 1024] inb_S8x160x1024_S1x160x1024_2_0_0))
    (View.ld (iblk m c 0 t) (Rect.unit ![3, 0, 0] ![1, 160, 1024] inb_S8x160x1024_S1x160x1024_3_0_0))
    (View.ld (iblk m c 0 t) (Rect.unit ![4, 0, 0] ![1, 160, 1024] inb_S8x160x1024_S1x160x1024_4_0_0))
    (View.ld (iblk m c 0 t) (Rect.unit ![5, 0, 0] ![1, 160, 1024] inb_S8x160x1024_S1x160x1024_5_0_0))
    (View.ld (iblk m c 0 t) (Rect.unit ![6, 0, 0] ![1, 160, 1024] inb_S8x160x1024_S1x160x1024_6_0_0))
    (View.ld (iblk m c 0 t) (Rect.unit ![7, 0, 0] ![1, 160, 1024] inb_S8x160x1024_S1x160x1024_7_0_0))

/-- A row of a block in its array. -/
def rowOf (t : Fin cfg0.N) (r : Fin 160) : Fin 320 := ⟨t.val * 160 + r.val, by have : t.val < 2 := t.isLt; omega⟩

theorem part_at (t : Fin cfg0.N) (k : Fin 8) (r : Fin 160) (q : Fin 1024) : iblk m c 0 t (ix3 k r q) = m ((c : Thread nD τ).loc main_arg0) (ix3 k (rowOf t r) q) := by
  blk_ext [iblk, V, index0 t, rowOf]

theorem gradB_at (t : Fin cfg0.N) (r : Fin 160) (q : Fin 1024) :
    gradB m c t (ix2 r q) = gradOf (m ((c : Thread nD τ).loc main_arg0)) (ix3 0 (rowOf t r) q) := by
  unfold gradB gradOf k0_pay3
  rw [Fin.sum_univ_eight]
  pointwise
  simp only [part_at]

theorem w_at (t : Fin cfg0.N) (r : Fin 160) (q : Fin 1024) : iblk m c 1 t (ix3 0 r q) = m ((c : Thread nD τ).loc main_arg1) (ix3 0 (rowOf t r) q) := by
  blk_ext [iblk, V, index1 t, rowOf]
theorem m_at (t : Fin cfg0.N) (r : Fin 160) (q : Fin 1024) : iblk m c 2 t (ix3 0 r q) = m ((c : Thread nD τ).loc main_arg2) (ix3 0 (rowOf t r) q) := by
  blk_ext [iblk, V, index2 t, rowOf]
theorem v_at (t : Fin cfg0.N) (r : Fin 160) (q : Fin 1024) : iblk m c 3 t (ix3 0 r q) = m ((c : Thread nD τ).loc main_arg3) (ix3 0 (rowOf t r) q) := by
  blk_ext [iblk, V, index3 t, rowOf]

theorem grad_is (g : S160x1024.Idx → EReal) (r : Fin 160) (q : Fin 1024) : k0_pay7 (F := Ideal) g (ix3 0 r q) = g (ix2 r q) := by
  unfold k0_pay7; pointwise
theorem mean_is (g : S160x1024.Idx → EReal) (x2 : S1x160x1024.Idx → EReal) (r : Fin 160) (q : Fin 1024) :
    k0_pay1 (F := Ideal) (k0_pay5 g x2) (ix3 0 r q) = lit 0x3F666666#32 * x2 (ix3 0 r q) + lit 0x3DCCCCCD#32 * g (ix2 r q) := by
  unfold k0_pay1 k0_pay5; pointwise
theorem square_is (g : S160x1024.Idx → EReal) (x3 : S1x160x1024.Idx → EReal) (r : Fin 160) (q : Fin 1024) :
    k0_pay2 (F := Ideal) (k0_pay6 g x3) (ix3 0 r q) = lit 0x3F7FBE77#32 * x3 (ix3 0 r q) + lit 0x3A83126F#32 * (g (ix2 r q) * g (ix2 r q)) := by
  unfold k0_pay2 k0_pay6; pointwise
theorem change_is (g : S160x1024.Idx → EReal) (x1 x2 x3 : S1x160x1024.Idx → EReal) (r : Fin 160) (q : Fin 1024) :
    k0_pay8 (F := Ideal) g (k0_pay4 x1) x2 x3 (ix3 0 r q)
      = lit 0xBA83126F#32 * (FloatOps.divf (F := Ideal) (φ := .f32)
          (FloatOps.divf (F := Ideal) (φ := .f32) (lit 0x3F666666#32 * x2 (ix3 0 r q) + lit 0x3DCCCCCD#32 * g (ix2 r q)) (lit 0x3F26BD02#32))
          (FloatOps.sqrt (F := Ideal) (φ := .f32) (FloatOps.divf (F := Ideal) (φ := .f32)
            (lit 0x3F7FBE77#32 * x3 (ix3 0 r q) + lit 0x3A83126F#32 * (g (ix2 r q) * g (ix2 r q))) (lit 0x3C231ACC#32)) + lit 0x322BCC77#32)
        + lit 0x3C23D70A#32 * x1 (ix3 0 r q)) := by
  unfold k0_pay8 k0_pay6 k0_pay5 k0_pay4; pointwise

theorem exists_ix (y : S1x160x1024.Idx) : ∃ (r : Fin 160) (q : Fin 1024), y = ix3 0 r q :=
  ⟨y 1, y 2, funext fun a => by fin_cases a; exacts [Subsingleton.elim (α := Fin 1) _ _, rfl, rfl]⟩

theorem arr4 : (dats m 0 c).arrAt 4 cfg0.N = gradOf (m ((c : Thread nD τ).loc main_arg0)) := by
  refine (dats m 0 c).arrAt_eq_of_covers 4 _ covers4 fun t _ y => ?_
  obtain ⟨r, q, rfl⟩ := exists_ix y
  have e : (((View.whole main_v0_0).slice (win0_4.rect t)).emb (ix3 0 r q : S1x160x1024.Idx)) = ix3 0 (rowOf t r) q := by
    blk_ext [index4 t, rowOf]
  blk_simp
  rw [after0_4, e]
  unfold outsAt0
  dsimp only
  frame_out
  exact (grad_is ..).trans (gradB_at ..)

theorem arr5 : (dats m 0 c).arrAt 5 cfg0.N = changeOf (m ((c : Thread nD τ).loc main_arg1)) (gradOf (m ((c : Thread nD τ).loc main_arg0)))
    (m ((c : Thread nD τ).loc main_arg2)) (m ((c : Thread nD τ).loc main_arg3)) := by
  refine (dats m 0 c).arrAt_eq_of_covers 5 _ covers5 fun t _ y => ?_
  obtain ⟨r, q, rfl⟩ := exists_ix y
  have e : (((View.whole main_v0_1).slice (win0_5.rect t)).emb (ix3 0 r q : S1x160x1024.Idx)) = ix3 0 (rowOf t r) q := by
    blk_ext [index5 t, rowOf]
  blk_simp
  rw [after0_5, e]
  frame_out
  refine (change_is (gradB m c t) (iblk m c 1 t) (iblk m c 2 t) (iblk m c 3 t) r q).trans ?_
  rw [gradB_at, w_at, m_at, v_at]; rfl

theorem arr6 : (dats m 0 c).arrAt 6 cfg0.N = meanOf (m ((c : Thread nD τ).loc main_arg2)) (gradOf (m ((c : Thread nD τ).loc main_arg0))) := by
  refine (dats m 0 c).arrAt_eq_of_covers 6 _ covers6 fun t _ y => ?_
  obtain ⟨r, q, rfl⟩ := exists_ix y
  have e : (((View.whole main_v0_2).slice (win0_6.rect t)).emb (ix3 0 r q : S1x160x1024.Idx)) = ix3 0 (rowOf t r) q := by
    blk_ext [index6 t, rowOf]
  blk_simp
  rw [after0_6, e]
  frame_out
  refine (mean_is (gradB m c t) (iblk m c 2 t) r q).trans ?_
  rw [gradB_at, m_at]; rfl

theorem arr7 : (dats m 0 c).arrAt 7 cfg0.N = squareOf (m ((c : Thread nD τ).loc main_arg3)) (gradOf (m ((c : Thread nD τ).loc main_arg0))) := by
  refine (dats m 0 c).arrAt_eq_of_covers 7 _ covers7 fun t _ y => ?_
  obtain ⟨r, q, rfl⟩ := exists_ix y
  have e : (((View.whole main_v0_3).slice (win0_7.rect t)).emb (ix3 0 r q : S1x160x1024.Idx)) = ix3 0 (rowOf t r) q := by
    blk_ext [index7 t, rowOf]
  blk_simp
  rw [after0_7, e]
  frame_out
  refine (square_is (gradB m c t) (iblk m c 3 t) r q).trans ?_
  rw [gradB_at, v_at]; rfl

theorem ref0 (a : S8x320x1024.Idx → EReal) : Cert.Reference20Ideal.Read.val_main_v2 (F := Ideal) a = gradOf a := by
  funext y
  rw [Cert.Reference20Ideal.Read.val_main_v2_apply, Cert.Reference20Ideal.Read.val_main_v1_apply]
  refine (congrArg (· + _) Ideal.ofBits_zero_f32).trans ((zero_add _).trans (Finset.sum_congr rfl fun k _ => ?_))
  exact congrArg a (funext fun i => by fin_cases i <;> rfl)

theorem ref1 (a : S8x320x1024.Idx → EReal) (x1 x2 x3 : S1x320x1024.Idx → EReal) :
    Cert.Reference20Ideal.Read.val_main_v26 (F := Ideal) a x1 x2 x3 = changeOf x1 (gradOf a) x2 x3 := by rw [← ref0]; rfl
theorem ref2 (a : S8x320x1024.Idx → EReal) (x2 : S1x320x1024.Idx → EReal) :
    Cert.Reference20Ideal.Read.val_main_v7 (F := Ideal) a x2 = meanOf x2 (gradOf a) := by rw [← ref0]; rfl
theorem ref3 (a : S8x320x1024.Idx → EReal) (x3 : S1x320x1024.Idx → EReal) :
    Cert.Reference20Ideal.Read.val_main_v13 (F := Ideal) a x3 = squareOf x3 (gradOf a) := by rw [← ref0]; rfl

theorem frame : Cert.quiescent_Kernel20 (hKernel20 := Cert.Kernel20.Gen.facts) := fun m g _ => Cert.Kernel20.Gen.frame m g
theorem frame_ideal : Cert.quiescent_Kernel20Ideal (hKernel20Ideal := facts) := fun m g _ => Gen.frame m g
theorem frame_ref : Cert.quiescent_Reference20Ideal (hReference20Ideal := Cert.Reference20Ideal.Gen.facts) :=
  fun m g _ => (θ_run Cert.Reference20Ideal.defs _ _).mono
    (fun r h => ⟨fun c => (h c).2.2.2.2, sem_eq_zero_of_no_sems (by decide) r.2⟩)
    (Cert.Reference20Ideal.Value.run (F := Ideal) m g)

theorem equal : Cert.algebraic_Kernel20Ideal_Reference20Ideal (hKernel20Ideal := facts)
    (hReference20Ideal := Cert.Reference20Ideal.Gen.facts) := by
  intro m g m' g' _ hm
  refine ⟨
    fun c => gradOf (m ((c : Thread nD τ).loc main_arg0)),
    fun c => changeOf (m ((c : Thread nD τ).loc main_arg1)) (gradOf (m ((c : Thread nD τ).loc main_arg0)))
      (m ((c : Thread nD τ).loc main_arg2)) (m ((c : Thread nD τ).loc main_arg3)),
    fun c => meanOf (m ((c : Thread nD τ).loc main_arg2)) (gradOf (m ((c : Thread nD τ).loc main_arg0))),
    fun c => squareOf (m ((c : Thread nD τ).loc main_arg3)) (gradOf (m ((c : Thread nD τ).loc main_arg0))), ?_, ?_⟩
  · refine (θ_run _ _ _).mono (fun r h c => ?_) (Value.run_blocks (F := Ideal) m g)
    obtain ⟨h0, h1, h2, h3, kept⟩ := h c
    exact ⟨h0.trans (arr4 m c), h1.trans (arr5 m c), h2.trans (arr6 m c), h3.trans (arr7 m c), kept⟩
  · refine (θ_run _ _ _).mono (fun r h c => ?_) (Cert.Reference20Ideal.Value.run (F := Ideal) m' g')
    obtain ⟨e0, e1, e2, e3⟩ := hm c
    obtain ⟨h0, h1, h2, h3, kept⟩ := h c
    refine ⟨h0.trans ?_, h1.trans ?_, h2.trans ?_, h3.trans ?_, kept⟩
    · rw [Cert.Reference20Ideal.Read.val_main_v2_eq, e0]; exact ref0 _
    · rw [Cert.Reference20Ideal.Read.val_main_v26_eq, e0, e1, e2, e3]; exact ref1 ..
    · rw [Cert.Reference20Ideal.Read.val_main_v7_eq, e0, e2]; exact ref2 ..
    · rw [Cert.Reference20Ideal.Read.val_main_v13_eq, e0, e3]; exact ref3 ..

end Cert.SumAdamIn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Loops
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Loops
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Loops
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Loops
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Loops
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Loops
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Loops
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Loops
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Adequacy
public import Idealize.ShloMosaic.Init
public import proofs.«01_k».proof.Proof.Gen.ReferenceIdeal.Run
public import proofs.«01_k».proof.Proof.Gen.ReferenceIdeal.Read

public import proofs.«01_k».proof.Proof.Frames
public import proofs.«01_k».proof.Proof.Equal
public import proofs.«01_k».proof.Proof.GwUp
public import proofs.«01_k».proof.Proof.GwDown
public import proofs.«01_k».proof.Proof.GwIn
public import proofs.«01_k».proof.Proof.GwOut
public import proofs.«01_k».proof.Proof.DAct
public import proofs.«01_k».proof.Proof.DCat
public import proofs.«01_k».proof.Proof.FwdOut
public import proofs.«01_k».proof.Proof.FwdDown
public import proofs.«01_k».proof.Proof.BwdUp
public import proofs.«01_k».proof.Proof.BwdIn
public import proofs.«01_k».proof.Proof.FwdIn
public import proofs.«01_k».proof.Proof.SumSmall
public import proofs.«01_k».proof.Proof.AdamRows
public import proofs.«01_k».proof.Proof.AdamTaps
public import proofs.«01_k».proof.Proof.FwdFfn
public import proofs.«01_k».proof.Proof.LossHead
public import proofs.«01_k».proof.Proof.SumAdamDown
public import proofs.«01_k».proof.Proof.SumAdamUp
public import proofs.«01_k».proof.Proof.SumAdamIn

/-! The certificate: for each call the frames of its three programs and the equal results. -/

@[expose] public section

noncomputable section

namespace Cert.Proof

open Idealize.ShloMosaic Idealize.SL.Sem Cert.Kernel

/-- The reference ends with its arguments unchanged; it has no semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Ffn.pre_facts,
  Cert.Ffn.frame_kernel, Cert.Ffn.frame_ideal, fun m g _ => Cert.Ffn.frame_ideal m g trivial, frame_reference,
  fun m g _ => frame_reference m g trivial,
  Cert.GwUp.frame, Cert.GwUp.frame_ideal, Cert.GwUp.frame_ref,
  Cert.GwDown.frame, Cert.GwDown.frame_ideal, Cert.GwDown.frame_ref,
  Cert.GwIn.frame, Cert.GwIn.frame_ideal, Cert.GwIn.frame_ref,
  Cert.GwOut.frame, Cert.GwOut.frame_ideal, Cert.GwOut.frame_ref,
  Cert.DAct.frame, Cert.DAct.frame_ideal, Cert.DAct.frame_ref,
  Cert.DCat.frame, Cert.DCat.frame_ideal, Cert.DCat.frame_ref,
  Cert.FwdOut.frame, Cert.FwdOut.frame_ideal, Cert.FwdOut.frame_ref,
  Cert.FwdDown.frame, Cert.FwdDown.frame_ideal, Cert.FwdDown.frame_ref,
  Cert.BwdUp.frame, Cert.BwdUp.frame_ideal, Cert.BwdUp.frame_ref,
  Cert.BwdIn.frame, Cert.BwdIn.frame_ideal, Cert.BwdIn.frame_ref,
  Cert.FwdIn.frame_kernel, Cert.FwdIn.frame_ideal, Cert.FwdIn.frame_ref,
  Cert.SumSmall.frame, Cert.SumSmall.frame_ideal, Cert.SumSmall.frame_ref,
  Cert.AdamRows.frame, Cert.AdamRows.frame_ideal, Cert.AdamRows.frame_ref,
  Cert.AdamTaps.frame, Cert.AdamTaps.frame_ideal, Cert.AdamTaps.frame_ref,
  Cert.FwdFfn.frame, Cert.FwdFfn.frame_ideal, Cert.FwdFfn.frame_ref,
  Cert.LossHead.frame, Cert.LossHead.frame_ideal, Cert.LossHead.frame_ref,
  Cert.SumAdamDown.frame, Cert.SumAdamDown.frame_ideal, Cert.SumAdamDown.frame_ref,
  Cert.SumAdamUp.frame, Cert.SumAdamUp.frame_ideal, Cert.SumAdamUp.frame_ref,
  Cert.SumAdamIn.frame, Cert.SumAdamIn.frame_ideal, Cert.SumAdamIn.frame_ref,
  trivial, Cert.Ffn.equal,
  trivial, Cert.GwUp.equal,
  trivial, Cert.GwDown.equal,
  trivial, Cert.GwIn.equal,
  trivial, Cert.GwOut.equal,
  trivial, Cert.DAct.equal,
  trivial, Cert.DCat.equal,
  trivial, Cert.FwdOut.equal,
  trivial, Cert.FwdDown.equal,
  trivial, Cert.BwdUp.equal,
  trivial, Cert.BwdIn.equal,
  trivial, Cert.FwdIn.equal,
  trivial, Cert.SumSmall.equal,
  trivial, Cert.AdamRows.equal,
  trivial, Cert.AdamTaps.equal,
  trivial, Cert.FwdFfn.equal,
  trivial, Cert.LossHead.equal,
  trivial, Cert.SumAdamDown.equal,
  trivial, Cert.SumAdamUp.equal,
  trivial, Cert.SumAdamIn.equal⟩

end Cert.Proof

end
